-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_queries_and_keys_finite [hPre_queries_and_keys_finite : Cert.Pre_queries_and_keys_finite.Facts] (m : (ℓ : Loc Cert.KernelIdeal.nD Cert.KernelIdeal.τ Cert.KernelIdeal.sig) → Buf (Elt Ideal) ℓ) : Prop :=
  ∀ c : Dev Cert.KernelIdeal.nD,
    (Cert.Pre_queries_and_keys_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_queries_and_keys_finite [hPre_queries_and_keys_finite : Cert.Pre_queries_and_keys_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_queries_and_keys_finite.fn (F := Ideal) (m ((c.tc : Thread Cert.ReferenceIdeal.nD Cert.ReferenceIdeal.τ).loc Cert.ReferenceIdeal.main_arg0))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rotated_products_finite [hPre_rotated_products_finite : Cert.Pre_rotated_products_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rotated_products_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_rotated_products_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rotated_products_finite [hPre_rotated_products_finite : Cert.Pre_rotated_products_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rotated_products_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_rotated_products_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_recurrences_finite [hPre_recurrences_finite : Cert.Pre_recurrences_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_recurrences_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).1 = (fun _ => 1#1)
    ∧ (Cert.Pre_recurrences_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_recurrences_finite [hPre_recurrences_finite : Cert.Pre_recurrences_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_recurrences_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).1 = (fun _ => 1#1)
    ∧ (Cert.Pre_recurrences_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_queries_and_keys_finite [hKernelIdeal : Cert.KernelIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_queries_and_keys_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_queries_and_keys_finite [hReferenceIdeal : Cert.ReferenceIdeal.Facts] [hPre_queries_and_keys_finite : Cert.Pre_queries_and_keys_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_queries_and_keys_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_rotated_products_finite [hKernel2Ideal : Cert.Kernel2Ideal.Facts] [hPre_rotated_products_finite : Cert.Pre_rotated_products_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rotated_products_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_rotated_products_finite [hReference2Ideal : Cert.Reference2Ideal.Facts] [hPre_rotated_products_finite : Cert.Pre_rotated_products_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rotated_products_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Kernel3Ideal_pre_recurrences_finite [hKernel3Ideal : Cert.Kernel3Ideal.Facts] [hPre_recurrences_finite : Cert.Pre_recurrences_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_recurrences_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Reference3Ideal_pre_recurrences_finite [hReference3Ideal : Cert.Reference3Ideal.Facts] [hPre_recurrences_finite : Cert.Pre_recurrences_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_recurrences_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "score_scale" .f32 0x3E38AA3B#32 (((1 / 8) * (Real.log 2)⁻¹ : ℝ) : EReal)

def algebraic_KernelIdeal_ReferenceIdeal_pre_queries_and_keys_finite [hKernelIdeal : Cert.KernelIdeal.Facts] [hReferenceIdeal : Cert.ReferenceIdeal.Facts] [hPre_queries_and_keys_finite : Cert.Pre_queries_and_keys_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_queries_and_keys_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def preserves_Kernel2_Kernel2Ideal : Prop :=
  True

def algebraic_Kernel2Ideal_Reference2Ideal_pre_rotated_products_finite [hKernel2Ideal : Cert.Kernel2Ideal.Facts] [hReference2Ideal : Cert.Reference2Ideal.Facts] [hPre_rotated_products_finite : Cert.Pre_rotated_products_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rotated_products_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v73_0)) (v1 : (c : Dev Cert.Kernel2Ideal.nD) → Buf (Elt Ideal) ((c.tc : Thread Cert.Kernel2Ideal.nD Cert.Kernel2Ideal.τ).loc Cert.Kernel2Ideal.main_v73_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v73_0) = v0 c
          ∧ r.2.mem ((c.tc : Thread Cert.Kernel2Ideal.nD Cert.Kernel2Ideal.τ).loc Cert.Kernel2Ideal.main_v73_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_v96) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_recurrences_finite [hKernel3Ideal : Cert.Kernel3Ideal.Facts] [hReference3Ideal : Cert.Reference3Ideal.Facts] [hPre_recurrences_finite : Cert.Pre_recurrences_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_recurrences_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v78) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_queries_and_keys_finite : Cert.Pre_queries_and_keys_finite.Facts) (hPre_rotated_products_finite : Cert.Pre_rotated_products_finite.Facts) (hPre_recurrences_finite : Cert.Pre_recurrences_finite.Facts),
    quiescent_Kernel (hKernel := hKernel)
    ∧ quiescent_KernelIdeal (hKernelIdeal := hKernelIdeal)
    ∧ quiescent_KernelIdeal_pre_queries_and_keys_finite (hKernelIdeal := hKernelIdeal) (hPre_queries_and_keys_finite := hPre_queries_and_keys_finite)
    ∧ quiescent_ReferenceIdeal (hReferenceIdeal := hReferenceIdeal)
    ∧ quiescent_ReferenceIdeal_pre_queries_and_keys_finite (hReferenceIdeal := hReferenceIdeal) (hPre_queries_and_keys_finite := hPre_queries_and_keys_finite)
    ∧ quiescent_Kernel2 (hKernel2 := hKernel2)
    ∧ quiescent_Kernel2Ideal (hKernel2Ideal := hKernel2Ideal)
    ∧ quiescent_Kernel2Ideal_pre_rotated_products_finite (hKernel2Ideal := hKernel2Ideal) (hPre_rotated_products_finite := hPre_rotated_products_finite)
    ∧ quiescent_Reference2Ideal (hReference2Ideal := hReference2Ideal)
    ∧ quiescent_Reference2Ideal_pre_rotated_products_finite (hReference2Ideal := hReference2Ideal) (hPre_rotated_products_finite := hPre_rotated_products_finite)
    ∧ quiescent_Kernel3 (hKernel3 := hKernel3)
    ∧ quiescent_Kernel3Ideal (hKernel3Ideal := hKernel3Ideal)
    ∧ quiescent_Kernel3Ideal_pre_recurrences_finite (hKernel3Ideal := hKernel3Ideal) (hPre_recurrences_finite := hPre_recurrences_finite)
    ∧ quiescent_Reference3Ideal (hReference3Ideal := hReference3Ideal)
    ∧ quiescent_Reference3Ideal_pre_recurrences_finite (hReference3Ideal := hReference3Ideal) (hPre_recurrences_finite := hPre_recurrences_finite)
    ∧ preserves_Kernel_KernelIdeal
    ∧ algebraic_KernelIdeal_ReferenceIdeal_pre_queries_and_keys_finite (hKernelIdeal := hKernelIdeal) (hReferenceIdeal := hReferenceIdeal) (hPre_queries_and_keys_finite := hPre_queries_and_keys_finite)
    ∧ preserves_Kernel2_Kernel2Ideal
    ∧ algebraic_Kernel2Ideal_Reference2Ideal_pre_rotated_products_finite (hKernel2Ideal := hKernel2Ideal) (hReference2Ideal := hReference2Ideal) (hPre_rotated_products_finite := hPre_rotated_products_finite)
    ∧ preserves_Kernel3_Kernel3Ideal
    ∧ algebraic_Kernel3Ideal_Reference3Ideal_pre_recurrences_finite (hKernel3Ideal := hKernel3Ideal) (hReference3Ideal := hReference3Ideal) (hPre_recurrences_finite := hPre_recurrences_finite)
-- ==== Pre_queries_and_keys_finite.lean ====
abbrev S16x2048x11264 : Shape := ⟨3, ![16, 2048, 11264]⟩
abbrev S1x1x11264 : Shape := ⟨3, ![1, 1, 11264]⟩
abbrev S_ : Shape := ⟨0, ![]⟩

class Facts : Prop where
  bcast_S_S1x1x11264 : S_.BroadcastsInDim S1x1x11264 (![] : Fin 0 → Fin S1x1x11264.rank)
  bitsLt_bf16_f32 : FTy.bits .bf16 < FTy.bits .f32
  bcast_S_S16x2048x11264 : S_.BroadcastsInDim S16x2048x11264 (![] : Fin 0 → Fin S16x2048x11264.rank)
  bcast_S1x1x11264_S16x2048x11264_0_1_2 : S1x1x11264.BroadcastsInDim S16x2048x11264 (![0, 1, 2] : Fin 3 → Fin S16x2048x11264.rank)

variable [Facts]

def fn {F : FTy → Type} [FloatOps F] (main_arg0 : FVec F S16x2048x11264 .bf16) : IVec S16x2048x11264 1 :=
  let main_v0 : IVec S1x1x11264 32 := iotaInDim S1x1x11264 32 2
  let main_c : IVec S_ 32 := constantI S_ 32 4096#32
  let main_v1 : IVec S1x1x11264 32 := broadcastInDim S1x1x11264 ![] bcast_S_S1x1x11264 main_c
  let main_v2 : IVec S1x1x11264 1 := cmpi .sge main_v0 main_v1
  let main_c_0 : IVec S_ 32 := constantI S_ 32 5120#32
  let main_v3 : IVec S1x1x11264 32 := broadcastInDim S1x1x11264 ![] bcast_S_S1x1x11264 main_c_0
  let main_v4 : IVec S1x1x11264 1 := cmpi .slt main_v0 main_v3
  let main_v5 : IVec S1x1x11264 1 := andi main_v2 main_v4
  let main_c_1 : IVec S_ 32 := constantI S_ 32 10240#32
  let main_v6 : IVec S1x1x11264 32 := broadcastInDim S1x1x11264 ![] bcast_S_S1x1x11264 main_c_1
  let main_v7 : IVec S1x1x11264 1 := cmpi .sge main_v0 main_v6
  let main_c_2 : IVec S_ 32 := constantI S_ 32 10496#32
  let main_v8 : IVec S1x1x11264 32 := broadcastInDim S1x1x11264 ![] bcast_S_S1x1x11264 main_c_2
  let main_v9 : IVec S1x1x11264 1 := cmpi .slt main_v0 main_v8
  let main_v10 : IVec S1x1x11264 1 := andi main_v7 main_v9
  let main_v11 : FVec F S16x2048x11264 .f32 := (extf .f32 · bitsLt_bf16_f32) main_arg0
  let main_v12 : FVec F S16x2048x11264 .f32 := Host.absf main_v11
  let main_cst : FVec F S_ .f32 := constant S_ .f32 0x7F800000#32
  let main_v13 : FVec F S16x2048x11264 .f32 := broadcastInDim S16x2048x11264 ![] bcast_S_S16x2048x11264 main_cst
  let main_v14 : IVec S16x2048x11264 1 := cmpf .olt main_v12 main_v13
  let main_v15 : IVec S1x1x11264 1 := ori main_v5 main_v10
  let main_v16 : IVec S1x1x11264 1 := noti main_v15
  let main_v17 : IVec S16x2048x11264 1 := broadcastInDim S16x2048x11264 ![0, 1, 2] bcast_S1x1x11264_S16x2048x11264_0_1_2 main_v16
  let main_v18 : IVec S16x2048x11264 1 := ori main_v14 main_v17
  main_v18
-- ==== Pre_recurrences_finite.lean ====
abbrev S16x2048x2048 : Shape := ⟨3, ![16, 2048, 2048]⟩
abbrev S16x2048x1024 : Shape := ⟨3, ![16, 2048, 1024]⟩
abbrev S16x2048x11264 : Shape := ⟨3, ![16, 2048, 11264]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S_ : Shape := ⟨0, ![]⟩

class Facts : Prop where
  bitsLt_bf16_f32 : FTy.bits .bf16 < FTy.bits .f32
  bcast_S_S16x2048x1024 : S_.BroadcastsInDim S16x2048x1024 (![] : Fin 0 → Fin S16x2048x1024.rank)

variable [Facts]

def fn {F : FTy → Type} [FloatOps F] (main_arg0 : FVec F S16x2048x2048 .f32) (main_arg1 : FVec F S16x2048x1024 .bf16) (main_arg2 : FVec F S16x2048x1024 .bf16) (main_arg3 : FVec F S16x2048x1024 .bf16) (main_arg4 : FVec F S16x2048x11264 .bf16) (main_arg5 : FVec F S16x2048x1024 .bf16) (main_arg6 : FVec F S1024 .f32) (main_arg7 : FVec F S1024 .f32) (main_arg8 : FVec F S1024x2048 .f32) (main_arg9 : FVec F S1024x2048 .f32) (main_arg10 : FVec F S2048x2048 .f32) (main_arg11 : FVec F S2048 .f32) : IVec S16x2048x1024 1 × IVec S16x2048x1024 1 :=
  let main_v0 : FVec F S16x2048x1024 .f32 := (extf .f32 · bitsLt_bf16_f32) main_arg1
  let main_v1 : FVec F S16x2048x1024 .f32 := Host.absf main_v0
  let main_cst : FVec F S_ .f32 := constant S_ .f32 0x7F800000#32
  let main_v2 : FVec F S16x2048x1024 .f32 := broadcastInDim S16x2048x1024 ![] bcast_S_S16x2048x1024 main_cst
  let main_v3 : IVec S16x2048x1024 1 := cmpf .olt main_v1 main_v2
  let main_v4 : FVec F S16x2048x1024 .f32 := (extf .f32 · bitsLt_bf16_f32) main_arg2
  let main_v5 : FVec F S16x2048x1024 .f32 := Host.absf main_v4
  let main_cst_0 : FVec F S_ .f32 := constant S_ .f32 0x7F800000#32
  let main_v6 : FVec F S16x2048x1024 .f32 := broadcastInDim S16x2048x1024 ![] bcast_S_S16x2048x1024 main_cst_0
  let main_v7 : IVec S16x2048x1024 1 := cmpf .olt main_v5 main_v6
  (main_v3, main_v7)
-- ==== Pre_rotated_products_finite.lean ====
abbrev S16x2048x2048 : Shape := ⟨3, ![16, 2048, 2048]⟩
abbrev S2048x11008 : Shape := ⟨2, ![2048, 11008]⟩
abbrev S2x3328 : Shape := ⟨2, ![2, 3328]⟩
abbrev S64 : Shape := ⟨1, ![64]⟩
abbrev S1x11008 : Shape := ⟨2, ![1, 11008]⟩
abbrev S_ : Shape := ⟨0, ![]⟩

class Facts : Prop where
  bcast_S_S1x11008 : S_.BroadcastsInDim S1x11008 (![] : Fin 0 → Fin S1x11008.rank)
  bitsLt_bf16_f32 : FTy.bits .bf16 < FTy.bits .f32
  bcast_S_S16x2048x2048 : S_.BroadcastsInDim S16x2048x2048 (![] : Fin 0 → Fin S16x2048x2048.rank)
  bcast_S_S2048x11008 : S_.BroadcastsInDim S2048x11008 (![] : Fin 0 → Fin S2048x11008.rank)
  bcast_S1x11008_S2048x11008_0_1 : S1x11008.BroadcastsInDim S2048x11008 (![0, 1] : Fin 2 → Fin S2048x11008.rank)

variable [Facts]

def fn {F : FTy → Type} [FloatOps F] (main_arg0 : FVec F S16x2048x2048 .bf16) (main_arg1 : FVec F S2048x11008 .f32) (main_arg2 : FVec F S2x3328 .f32) (main_arg3 : FVec F S64 .f32) (main_arg4 : FVec F S64 .f32) : IVec S16x2048x2048 1 × IVec S2048x11008 1 :=
  let main_v0 : IVec S1x11008 32 := iotaInDim S1x11008 32 1
  let main_c : IVec S_ 32 := constantI S_ 32 4352#32
  let main_v1 : IVec S1x11008 32 := broadcastInDim S1x11008 ![] bcast_S_S1x11008 main_c
  let main_v2 : IVec S1x11008 1 := cmpi .sge main_v0 main_v1
  let main_c_0 : IVec S_ 32 := constantI S_ 32 5632#32
  let main_v3 : IVec S1x11008 32 := broadcastInDim S1x11008 ![] bcast_S_S1x11008 main_c_0
  let main_v4 : IVec S1x11008 1 := cmpi .slt main_v0 main_v3
  let main_v5 : IVec S1x11008 1 := andi main_v2 main_v4
  let main_v6 : FVec F S16x2048x2048 .f32 := (extf .f32 · bitsLt_bf16_f32) main_arg0
  let main_v7 : FVec F S16x2048x2048 .f32 := Host.absf main_v6
  let main_cst : FVec F S_ .f32 := constant S_ .f32 0x7F800000#32
  let main_v8 : FVec F S16x2048x2048 .f32 := broadcastInDim S16x2048x2048 ![] bcast_S_S16x2048x2048 main_cst
  let main_v9 : IVec S16x2048x2048 1 := cmpf .olt main_v7 main_v8
  let main_v10 : FVec F S2048x11008 .f32 := Host.absf main_arg1
  let main_cst_1 : FVec F S_ .f32 := constant S_ .f32 0x7F800000#32
  let main_v11 : FVec F S2048x11008 .f32 := broadcastInDim S2048x11008 ![] bcast_S_S2048x11008 main_cst_1
  let main_v12 : IVec S2048x11008 1 := cmpf .olt main_v10 main_v11
  let main_v13 : IVec S1x11008 1 := noti main_v5
  let main_v14 : IVec S2048x11008 1 := broadcastInDim S2048x11008 ![0, 1] bcast_S1x11008_S2048x11008_0_1 main_v13
  let main_v15 : IVec S2048x11008 1 := ori main_v12 main_v14
  (main_v9, main_v15)
-- ==== Kernel.lean ====
abbrev S16x2048x11264 : Shape := ⟨3, ![16, 2048, 11264]⟩
abbrev S16x2048x1024 : Shape := ⟨3, ![16, 2048, 1024]⟩
abbrev S1x512x1024 : Shape := ⟨3, ![1, 512, 1024]⟩
abbrev S1x2048x256 : Shape := ⟨3, ![1, 2048, 256]⟩
abbrev S4x2048x64 : Shape := ⟨3, ![4, 2048, 64]⟩
abbrev S4x80x2048 : Shape := ⟨3, ![4, 80, 2048]⟩
abbrev S256x64 : Shape := ⟨2, ![256, 64]⟩
abbrev S2048x256 : Shape := ⟨2, ![2048, 256]⟩
abbrev S256x2048 : Shape := ⟨2, ![256, 2048]⟩
abbrev S16x2048 : Shape := ⟨2, ![16, 2048]⟩
abbrev S2048x64 : Shape := ⟨2, ![2048, 64]⟩
abbrev S1x2048x64 : Shape := ⟨3, ![1, 2048, 64]⟩
abbrev S64x2048 : Shape := ⟨2, ![64, 2048]⟩
abbrev S80x2048 : Shape := ⟨2, ![80, 2048]⟩
abbrev S1x80x2048 : Shape := ⟨3, ![1, 80, 2048]⟩
abbrev S512x1024 : Shape := ⟨2, ![512, 1024]⟩
abbrev S1024x512 : Shape := ⟨2, ![1024, 512]⟩
abbrev S1x128x64 : Shape := ⟨3, ![1, 128, 64]⟩
abbrev S128x64 : Shape := ⟨2, ![128, 64]⟩
abbrev S64x256 : Shape := ⟨2, ![64, 256]⟩
abbrev S128x256 : Shape := ⟨2, ![128, 256]⟩
abbrev S1x256 : Shape := ⟨2, ![1, 256]⟩
abbrev S80x256 : Shape := ⟨2, ![80, 256]⟩
abbrev S256 : Shape := ⟨1, ![256]⟩
abbrev S1x80x128 : Shape := ⟨3, ![1, 80, 128]⟩
abbrev S80x128 : Shape := ⟨2, ![80, 128]⟩
abbrev S64x512 : Shape := ⟨2, ![64, 512]⟩

abbrev nBuf : Space → Nat
  | .hbm => 2
  | .vmem => 10
  | .smem => 0
  | _ => 0

abbrev bufTy : (tb : Table) → Fin (tcTables nBuf tb) → BufTy
  | .hbm, ⟨0, _⟩ => ⟨S16x2048x11264, .bf16⟩
  | .hbm, ⟨1, _⟩ => ⟨S16x2048x1024, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x2048x256, .bf16⟩
  | .local _ .vmem, ⟨3, _⟩ => ⟨S1x2048x256, .bf16⟩
  | .local _ .vmem, ⟨4, _⟩ => ⟨S1x2048x256, .bf16⟩
  | .local _ .vmem, ⟨5, _⟩ => ⟨S1x2048x256, .bf16⟩
  | .local _ .vmem, ⟨6, _⟩ => ⟨S1x512x1024, .bf16⟩
  | .local _ .vmem, ⟨7, _⟩ => ⟨S1x512x1024, .bf16⟩
  | .local _ .vmem, ⟨8, _⟩ => ⟨S4x2048x64, .bf16⟩
  | .local _ .vmem, ⟨9, _⟩ => ⟨S4x80x2048, .bf16⟩
  | _, _ => ⟨S16x2048x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c40_i32 : BitVec 32 := 40#32
  let c0_i32_0 : BitVec 32 := 0#32
  ![arg0.toNat, c0_i32.toNat, c40_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c41_i32 : BitVec 32 := 41#32
  let c0_i32_0 : BitVec 32 := 0#32
  ![arg0.toNat, c0_i32.toNat, c41_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== KernelIdeal.lean ====
variable {F : FTy → Type} [FloatOps F] [Named F]
def κ : String → Option EReal := fun
  | "score_scale" => some (((1 / 8) * (Real.log 2)⁻¹ : ℝ) : EReal)
  | _ => none
-- ==== ReferenceIdeal.lean ====
abbrev S16x2048x11264 : Shape := ⟨3, ![16, 2048, 11264]⟩
abbrev S16x2048x1024 : Shape := ⟨3, ![16, 2048, 1024]⟩
abbrev S16x2048x4x4x64 : Shape := ⟨5, ![16, 2048, 4, 4, 64]⟩
abbrev S16x2048x256 : Shape := ⟨3, ![16, 2048, 256]⟩
abbrev S16x2048x4x64 : Shape := ⟨4, ![16, 2048, 4, 64]⟩
abbrev S16x4x2048x2048x4 : Shape := ⟨5, ![16, 4, 2048, 2048, 4]⟩
abbrev S16x4x4x2048x2048 : Shape := ⟨5, ![16, 4, 4, 2048, 2048]⟩
abbrev S_ : Shape := ⟨0, ![]⟩
abbrev S16x4x4x2048 : Shape := ⟨4, ![16, 4, 4, 2048]⟩
abbrev S16x4x4x2048x1 : Shape := ⟨5, ![16, 4, 4, 2048, 1]⟩
abbrev S16x4x64x4x2048 : Shape := ⟨5, ![16, 4, 64, 4, 2048]⟩

abbrev nBuf : Space → Nat
  | .hbm => 31
  | .vmem => 0
  | .smem => 0
  | _ => 0

abbrev bufTy : (tb : Table) → Fin (tcTables nBuf tb) → BufTy
  | .hbm, ⟨0, _⟩ => ⟨S16x2048x11264, .bf16⟩
  | .hbm, ⟨1, _⟩ => ⟨S16x2048x11264, .f32⟩
  | .hbm, ⟨2, _⟩ => ⟨S16x2048x1024, .f32⟩
  | .hbm, ⟨3, _⟩ => ⟨S16x2048x4x4x64, .f32⟩
  | .hbm, ⟨4, _⟩ => ⟨S16x2048x256, .f32⟩
  | .hbm, ⟨5, _⟩ => ⟨S16x2048x4x64, .f32⟩
  | .hbm, ⟨6, _⟩ => ⟨S16x2048x256, .f32⟩
  | .hbm, ⟨7, _⟩ => ⟨S16x2048x4x64, .f32⟩
  | .hbm, ⟨8, _⟩ => ⟨S16x4x2048x2048x4, .f32⟩
  | .hbm, ⟨9, _⟩ => ⟨S16x4x4x2048x2048, .f32⟩
  | .hbm, ⟨10, _⟩ => ⟨S_, .f32⟩
  | .hbm, ⟨11, _⟩ => ⟨S16x4x4x2048x2048, .f32⟩
  | .hbm, ⟨12, _⟩ => ⟨S16x4x4x2048x2048, .f32⟩
  | .hbm, ⟨13, _⟩ => ⟨S_, .f32⟩
  | .hbm, ⟨14, _⟩ => ⟨S16x4x4x2048, .f32⟩
  | .hbm, ⟨15, _⟩ => ⟨S_, .f32⟩
  | .hbm, ⟨16, _⟩ => ⟨S16x4x4x2048, .f32⟩
  | .hbm, ⟨17, _⟩ => ⟨S16x4x4x2048, .f32⟩
  | .hbm, ⟨18, _⟩ => ⟨S16x4x4x2048x1, .f32⟩
  | .hbm, ⟨19, _⟩ => ⟨S16x4x4x2048x2048, .f32⟩
  | .hbm, ⟨20, _⟩ => ⟨S16x4x4x2048x2048, .f32⟩
  | .hbm, ⟨21, _⟩ => ⟨S16x4x4x2048x2048, .f32⟩
  | .hbm, ⟨22, _⟩ => ⟨S_, .f32⟩
  | .hbm, ⟨23, _⟩ => ⟨S16x4x4x2048, .f32⟩
  | .hbm, ⟨24, _⟩ => ⟨S16x4x4x2048x1, .f32⟩
  | .hbm, ⟨25, _⟩ => ⟨S16x4x4x2048x2048, .f32⟩
  | .hbm, ⟨26, _⟩ => ⟨S16x4x4x2048x2048, .f32⟩
  | .hbm, ⟨27, _⟩ => ⟨S16x4x64x4x2048, .f32⟩
  | .hbm, ⟨28, _⟩ => ⟨S16x2048x4x4x64, .f32⟩
  | .hbm, ⟨29, _⟩ => ⟨S16x2048x1024, .f32⟩
  | .hbm, ⟨30, _⟩ => ⟨S16x2048x1024, .bf16⟩
  | _, _ => ⟨S16x2048x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_cst_1 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩

abbrev nD : Nat := 1
abbrev τ : Topo := Topo.v7x

variable {F : FTy → Type} [FloatOps F]
-- ==== Kernel2.lean ====
abbrev S16x2048x2048 : Shape := ⟨3, ![16, 2048, 2048]⟩
abbrev S2048x11008 : Shape := ⟨2, ![2048, 11008]⟩
abbrev S2x3328 : Shape := ⟨2, ![2, 3328]⟩
abbrev S64 : Shape := ⟨1, ![64]⟩
abbrev S2048 : Shape := ⟨1, ![2048]⟩
abbrev S2048x3072 : Shape := ⟨2, ![2048, 3072]⟩
abbrev S2048x1024 : Shape := ⟨2, ![2048, 1024]⟩
abbrev S2048x4096 : Shape := ⟨2, ![2048, 4096]⟩
abbrev S2048x256 : Shape := ⟨2, ![2048, 256]⟩
abbrev S2048x128 : Shape := ⟨2, ![2048, 128]⟩
abbrev S_ : Shape := ⟨0, ![]⟩
abbrev S2048x11264 : Shape := ⟨2, ![2048, 11264]⟩
abbrev S2x7680 : Shape := ⟨2, ![2, 7680]⟩
abbrev S2x11008 : Shape := ⟨2, ![2, 11008]⟩
abbrev S2x3072 : Shape := ⟨2, ![2, 3072]⟩
abbrev S2x1024 : Shape := ⟨2, ![2, 1024]⟩
abbrev S2x4096 : Shape := ⟨2, ![2, 4096]⟩
abbrev S2x256 : Shape := ⟨2, ![2, 256]⟩
abbrev S2x128 : Shape := ⟨2, ![2, 128]⟩
abbrev S2x11264 : Shape := ⟨2, ![2, 11264]⟩
abbrev S1x11264 : Shape := ⟨2, ![1, 11264]⟩
abbrev S1x64 : Shape := ⟨2, ![1, 64]⟩
abbrev S16x64 : Shape := ⟨2, ![16, 64]⟩
abbrev S1024 : Shape := ⟨1, ![1024]⟩
abbrev S1 : Shape := ⟨1, ![1]⟩
abbrev S2 : Shape := ⟨1, ![2]⟩
abbrev S4x64 : Shape := ⟨2, ![4, 64]⟩
abbrev S256 : Shape := ⟨1, ![256]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S2048x32x2 : Shape := ⟨3, ![2048, 32, 2]⟩
abbrev S2048x64 : Shape := ⟨2, ![2048, 64]⟩
abbrev S1x2048x1x64 : Shape := ⟨4, ![1, 2048, 1, 64]⟩
abbrev S1x2048x4x64 : Shape := ⟨4, ![1, 2048, 4, 64]⟩
abbrev S16x2048x11264 : Shape := ⟨3, ![16, 2048, 11264]⟩
abbrev S16x2048x256 : Shape := ⟨3, ![16, 2048, 256]⟩
abbrev S1x2048x2048 : Shape := ⟨3, ![1, 2048, 2048]⟩
abbrev S2048x512 : Shape := ⟨2, ![2048, 512]⟩
abbrev S2x512 : Shape := ⟨2, ![2, 512]⟩
abbrev S1x512 : Shape := ⟨2, ![1, 512]⟩
abbrev S1x2048x512 : Shape := ⟨3, ![1, 2048, 512]⟩
abbrev S1x2048x256 : Shape := ⟨3, ![1, 2048, 256]⟩
abbrev S2064x512 : Shape := ⟨2, ![2064, 512]⟩
abbrev S2048x2048 : Shape := ⟨2, ![2048, 2048]⟩
abbrev S1x512x2048 : Shape := ⟨3, ![1, 512, 2048]⟩
abbrev S512x2048 : Shape := ⟨2, ![512, 2048]⟩
abbrev S512x512 : Shape := ⟨2, ![512, 512]⟩
abbrev S512x256 : Shape := ⟨2, ![512, 256]⟩
abbrev S256x256 : Shape := ⟨2, ![256, 256]⟩
abbrev S1x256 : Shape := ⟨2, ![1, 256]⟩
abbrev S1x512x256 : Shape := ⟨3, ![1, 512, 256]⟩
abbrev S8x512 : Shape := ⟨2, ![8, 512]⟩
abbrev S1x1024x2048 : Shape := ⟨3, ![1, 1024, 2048]⟩
abbrev S1024x2048 : Shape := ⟨2, ![1024, 2048]⟩
abbrev S1024x512 : Shape := ⟨2, ![1024, 512]⟩
abbrev S1024x256 : Shape := ⟨2, ![1024, 256]⟩
abbrev S1x1024x256 : Shape := ⟨3, ![1, 1024, 256]⟩

abbrev nBuf : Space → Nat
  | .hbm => 96
  | .vmem => 15
  | .smem => 0
  | _ => 0

abbrev bufTy : (tb : Table) → Fin (tcTables nBuf tb) → BufTy
  | .hbm, ⟨0, _⟩ => ⟨S16x2048x2048, .bf16⟩
  | .hbm, ⟨1, _⟩ => ⟨S2048x11008, .f32⟩
  | .hbm, ⟨2, _⟩ => ⟨S2x3328, .f32⟩
  | .hbm, ⟨3, _⟩ => ⟨S64, .f32⟩
  | .hbm, ⟨4, _⟩ => ⟨S64, .f32⟩
  | .hbm, ⟨5, _⟩ => ⟨S2048, .f32⟩
  | .hbm, ⟨6, _⟩ => ⟨S2048, .f32⟩
  | .hbm, ⟨7, _⟩ => ⟨S2048x11008, .bf16⟩
  | .hbm, ⟨8, _⟩ => ⟨S2048x3072, .bf16⟩
  | .hbm, ⟨9, _⟩ => ⟨S2048x1024, .bf16⟩
  | .hbm, ⟨10, _⟩ => ⟨S2048x1024, .bf16⟩
  | .hbm, ⟨11, _⟩ => ⟨S2048x1024, .bf16⟩
  | .hbm, ⟨12, _⟩ => ⟨S2048x4096, .bf16⟩
  | .hbm, ⟨13, _⟩ => ⟨S2048x256, .bf16⟩
  | .hbm, ⟨14, _⟩ => ⟨S2048x256, .bf16⟩
  | .hbm, ⟨15, _⟩ => ⟨S2048x128, .bf16⟩
  | .hbm, ⟨16, _⟩ => ⟨S2048x128, .bf16⟩
  | .hbm, ⟨17, _⟩ => ⟨S2048x11008, .bf16⟩
  | .hbm, ⟨18, _⟩ => ⟨S_, .i32⟩
  | .hbm, ⟨19, _⟩ => ⟨S_, .bf16⟩
  | .hbm, ⟨20, _⟩ => ⟨S2048x11264, .bf16⟩
  | .hbm, ⟨21, _⟩ => ⟨S_, .f32⟩
  | .hbm, ⟨22, _⟩ => ⟨S2x7680, .f32⟩
  | .hbm, ⟨23, _⟩ => ⟨S2x11008, .f32⟩
  | .hbm, ⟨24, _⟩ => ⟨S2x3072, .f32⟩
  | .hbm, ⟨25, _⟩ => ⟨S2x1024, .f32⟩
  | .hbm, ⟨26, _⟩ => ⟨S2x1024, .f32⟩
  | .hbm, ⟨27, _⟩ => ⟨S2x1024, .f32⟩
  | .hbm, ⟨28, _⟩ => ⟨S2x4096, .f32⟩
  | .hbm, ⟨29, _⟩ => ⟨S2x256, .f32⟩
  | .hbm, ⟨30, _⟩ => ⟨S2x256, .f32⟩
  | .hbm, ⟨31, _⟩ => ⟨S2x128, .f32⟩
  | .hbm, ⟨32, _⟩ => ⟨S2x128, .f32⟩
  | .hbm, ⟨33, _⟩ => ⟨S2x11008, .f32⟩
  | .hbm, ⟨34, _⟩ => ⟨S_, .i32⟩
  | .hbm, ⟨35, _⟩ => ⟨S_, .f32⟩
  | .hbm, ⟨36, _⟩ => ⟨S2x11264, .f32⟩
  | .hbm, ⟨37, _⟩ => ⟨S_, .f32⟩
  | .hbm, ⟨38, _⟩ => ⟨S1x11264, .f32⟩
  | .hbm, ⟨39, _⟩ => ⟨S1x64, .f32⟩
  | .hbm, ⟨40, _⟩ => ⟨S16x64, .f32⟩
  | .hbm, ⟨41, _⟩ => ⟨S1024, .f32⟩
  | .hbm, ⟨42, _⟩ => ⟨S_, .i32⟩
  | .hbm, ⟨43, _⟩ => ⟨S1, .i32⟩
  | .hbm, ⟨44, _⟩ => ⟨S_, .i32⟩
  | .hbm, ⟨45, _⟩ => ⟨S1, .i32⟩
  | .hbm, ⟨46, _⟩ => ⟨S2, .i32⟩
  | .hbm, ⟨47, _⟩ => ⟨S1x11264, .f32⟩
  | .hbm, ⟨48, _⟩ => ⟨S1x64, .f32⟩
  | .hbm, ⟨49, _⟩ => ⟨S4x64, .f32⟩
  | .hbm, ⟨50, _⟩ => ⟨S256, .f32⟩
  | .hbm, ⟨51, _⟩ => ⟨S_, .i32⟩
  | .hbm, ⟨52, _⟩ => ⟨S1, .i32⟩
  | .hbm, ⟨53, _⟩ => ⟨S_, .i32⟩
  | .hbm, ⟨54, _⟩ => ⟨S1, .i32⟩
  | .hbm, ⟨55, _⟩ => ⟨S2, .i32⟩
  | .hbm, ⟨56, _⟩ => ⟨S1x11264, .f32⟩
  | .hbm, ⟨57, _⟩ => ⟨S16, .f32⟩
  | .hbm, ⟨58, _⟩ => ⟨S_, .f32⟩
  | .hbm, ⟨59, _⟩ => ⟨S16, .f32⟩
  | .hbm, ⟨60, _⟩ => ⟨S16, .f32⟩
  | .hbm, ⟨61, _⟩ => ⟨S_, .f32⟩
  | .hbm, ⟨62, _⟩ => ⟨S16, .f32⟩
  | .hbm, ⟨63, _⟩ => ⟨S16, .f32⟩
  | .hbm, ⟨64, _⟩ => ⟨S16, .f32⟩
  | .hbm, ⟨65, _⟩ => ⟨S_, .f32⟩
  | .hbm, ⟨66, _⟩ => ⟨S16, .f32⟩
  | .hbm, ⟨67, _⟩ => ⟨S16, .f32⟩
  | .hbm, ⟨68, _⟩ => ⟨S_, .f32⟩
  | .hbm, ⟨69, _⟩ => ⟨S16, .f32⟩
  | .hbm, ⟨70, _⟩ => ⟨S16, .f32⟩
  | .hbm, ⟨71, _⟩ => ⟨S2048x1, .f32⟩
  | .hbm, ⟨72, _⟩ => ⟨S1x16, .f32⟩
  | .hbm, ⟨73, _⟩ => ⟨S2048x16, .f32⟩
  | .hbm, ⟨74, _⟩ => ⟨S2048x16, .f32⟩
  | .hbm, ⟨75, _⟩ => ⟨S2048x16, .f32⟩
  | .hbm, ⟨76, _⟩ => ⟨S2048x1, .f32⟩
  | .hbm, ⟨77, _⟩ => ⟨S1x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x32, .f32⟩
  | .hbm, ⟨82, _⟩ => ⟨S2048x32, .f32⟩
  | .hbm, ⟨83, _⟩ => ⟨S2048x32x2, .f32⟩
  | .hbm, ⟨84, _⟩ => ⟨S2048x64, .f32⟩
  | .hbm, ⟨85, _⟩ => ⟨S1x2048x1x64, .f32⟩
  | .hbm, ⟨86, _⟩ => ⟨S1x2048x4x64, .f32⟩
  | .hbm, ⟨87, _⟩ => ⟨S2048x256, .f32⟩
  | .hbm, ⟨88, _⟩ => ⟨S2048x32, .f32⟩
  | .hbm, ⟨89, _⟩ => ⟨S2048x32x2, .f32⟩
  | .hbm, ⟨90, _⟩ => ⟨S2048x64, .f32⟩
  | .hbm, ⟨91, _⟩ => ⟨S1x2048x1x64, .f32⟩
  | .hbm, ⟨92, _⟩ => ⟨S1x2048x4x64, .f32⟩
  | .hbm, ⟨93, _⟩ => ⟨S2048x256, .f32⟩
  | .hbm, ⟨94, _⟩ => ⟨S16x2048x11264, .bf16⟩
  | .hbm, ⟨95, _⟩ => ⟨S16x2048x256, .f32⟩
  | .local _ .vmem, ⟨0, _⟩ => ⟨S1x2048x2048, .bf16⟩
  | .local _ .vmem, ⟨1, _⟩ => ⟨S1x2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2x512, .f32⟩
  | .local _ .vmem, ⟨5, _⟩ => ⟨S2x512, .f32⟩
  | .local _ .vmem, ⟨6, _⟩ => ⟨S1x512, .f32⟩
  | .local _ .vmem, ⟨7, _⟩ => ⟨S1x512, .f32⟩
  | .local _ .vmem, ⟨8, _⟩ => ⟨S2048x256, .f32⟩
  | .local _ .vmem, ⟨9, _⟩ => ⟨S2048x256, .f32⟩
  | .local _ .vmem, ⟨10, _⟩ => ⟨S1x2048x512, .bf16⟩
  | .local _ .vmem, ⟨11, _⟩ => ⟨S1x2048x512, .bf16⟩
  | .local _ .vmem, ⟨12, _⟩ => ⟨S1x2048x256, .f32⟩
  | .local _ .vmem, ⟨13, _⟩ => ⟨S1x2048x256, .f32⟩
  | .local _ .vmem, ⟨14, _⟩ => ⟨S2064x512, .f32⟩
  | _, _ => ⟨S16x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_c_2 : Ref sig .tc := ⟨.hbm, 34, rfl⟩
abbrev main_call1_v0 : Ref sig .tc := ⟨.hbm, 35, rfl⟩
abbrev main_v24 : Ref sig .tc := ⟨.hbm, 36, rfl⟩
abbrev main_cst_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_4 : Ref sig .tc := ⟨.hbm, 42, rfl⟩
abbrev main_v29 : Ref sig .tc := ⟨.hbm, 43, rfl⟩
abbrev main_c_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_6 : Ref sig .tc := ⟨.hbm, 51, rfl⟩
abbrev main_v36 : Ref sig .tc := ⟨.hbm, 52, rfl⟩
abbrev main_c_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73_0 : Ref sig .tc := ⟨.hbm, 94, rfl⟩
abbrev main_v73_1 : Ref sig .tc := ⟨.hbm, 95, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![16, 22], ![false, false]⟩

def k0_cond1 (i : grid0.Coords) : BitVec 1 :=
  let arg1 : BitVec 32 := BitVec.ofNat 32 (i 1).val
  let c6_i32 : BitVec 32 := 6#32
  let v0 : BitVec 1 := Scalar.cmpi .eq arg1 c6_i32
  let c7_i32 : BitVec 32 := 7#32
  let v1 : BitVec 1 := Scalar.cmpi .eq arg1 c7_i32
  let v12 : BitVec 1 := Scalar.ori v0 v1
  let c10_i32 : BitVec 32 := 10#32
  let v2 : BitVec 1 := Scalar.cmpi .eq arg1 c10_i32
  let v13 : BitVec 1 := Scalar.ori v12 v2
  let c11_i32 : BitVec 32 := 11#32
  let v3 : BitVec 1 := Scalar.cmpi .eq arg1 c11_i32
  let v14 : BitVec 1 := Scalar.ori v13 v3
  let c12_i32 : BitVec 32 := 12#32
  let v4 : BitVec 1 := Scalar.cmpi .eq arg1 c12_i32
  let v15 : BitVec 1 := Scalar.ori v14 v4
  let c13_i32 : BitVec 32 := 13#32
  let v5 : BitVec 1 := Scalar.cmpi .eq arg1 c13_i32
  let v16 : BitVec 1 := Scalar.ori v15 v5
  let c14_i32 : BitVec 32 := 14#32
  let v6 : BitVec 1 := Scalar.cmpi .eq arg1 c14_i32
  let v17 : BitVec 1 := Scalar.ori v16 v6
  let c15_i32 : BitVec 32 := 15#32
  let v7 : BitVec 1 := Scalar.cmpi .eq arg1 c15_i32
  let v18 : BitVec 1 := Scalar.ori v17 v7
  let c16_i32 : BitVec 32 := 16#32
  let v8 : BitVec 1 := Scalar.cmpi .eq arg1 c16_i32
  let v19 : BitVec 1 := Scalar.ori v18 v8
  let c17_i32 : BitVec 32 := 17#32
  let v9 : BitVec 1 := Scalar.cmpi .eq arg1 c17_i32
  let v20 : BitVec 1 := Scalar.ori v19 v9
  let c18_i32 : BitVec 32 := 18#32
  let v10 : BitVec 1 := Scalar.cmpi .eq arg1 c18_i32
  let v21 : BitVec 1 := Scalar.ori v20 v10
  let c19_i32 : BitVec 32 := 19#32
  let v11 : BitVec 1 := Scalar.cmpi .eq arg1 c19_i32
  let v22 : BitVec 1 := Scalar.ori v21 v11
  let v23 : BitVec 32 := Scalar.extui v22
  let c0_i32 : BitVec 32 := 0#32
  let v24 : BitVec 1 := Scalar.cmpi .ne v23 c0_i32
  v24

def k0_cond2 (i : grid0.Coords) : BitVec 1 :=
  let arg1 : BitVec 32 := BitVec.ofNat 32 (i 1).val
  let c20_i32 : BitVec 32 := 20#32
  let v25 : BitVec 1 := Scalar.cmpi .eq arg1 c20_i32
  let v26 : BitVec 32 := Scalar.extui v25
  let c0_i32_0 : BitVec 32 := 0#32
  let v27 : BitVec 1 := Scalar.cmpi .ne v26 c0_i32_0
  v27

def k0_cond3 (i : grid0.Coords) : BitVec 1 :=
  let arg1 : BitVec 32 := BitVec.ofNat 32 (i 1).val
  let c8_i32 : BitVec 32 := 8#32
  let v28 : BitVec 1 := Scalar.cmpi .eq arg1 c8_i32
  let c9_i32 : BitVec 32 := 9#32
  let v29 : BitVec 1 := Scalar.cmpi .eq arg1 c9_i32
  let v30 : BitVec 1 := Scalar.ori v28 v29
  let v31 : BitVec 32 := Scalar.extui v30
  let c0_i32_1 : BitVec 32 := 0#32
  let v32 : BitVec 1 := Scalar.cmpi .ne v31 c0_i32_1
  v32

def k0_cond4 (i : grid0.Coords) : BitVec 1 :=
  let arg1 : BitVec 32 := BitVec.ofNat 32 (i 1).val
  let c0_i32_2 : BitVec 32 := 0#32
  let v33 : BitVec 1 := Scalar.cmpi .eq arg1 c0_i32_2
  let c1_i32 : BitVec 32 := 1#32
  let v34 : BitVec 1 := Scalar.cmpi .eq arg1 c1_i32
  let v39 : BitVec 1 := Scalar.ori v33 v34
  let c2_i32 : BitVec 32 := 2#32
  let v35 : BitVec 1 := Scalar.cmpi .eq arg1 c2_i32
  let v40 : BitVec 1 := Scalar.ori v39 v35
  let c3_i32 : BitVec 32 := 3#32
  let v36 : BitVec 1 := Scalar.cmpi .eq arg1 c3_i32
  let v41 : BitVec 1 := Scalar.ori v40 v36
  let c4_i32 : BitVec 32 := 4#32
  let v37 : BitVec 1 := Scalar.cmpi .eq arg1 c4_i32
  let v42 : BitVec 1 := Scalar.ori v41 v37
  let c5_i32 : BitVec 32 := 5#32
  let v38 : BitVec 1 := Scalar.cmpi .eq arg1 c5_i32
  let v43 : BitVec 1 := Scalar.ori v42 v38
  let v44 : BitVec 32 := Scalar.extui v43
  let c0_i32_3 : BitVec 32 := 0#32
  let v45 : BitVec 1 := Scalar.cmpi .ne v44 c0_i32_3
  v45

def k0_cond5 (i : grid0.Coords) : BitVec 1 :=
  let arg1 : BitVec 32 := BitVec.ofNat 32 (i 1).val
  let c21_i32 : BitVec 32 := 21#32
  let v46 : BitVec 1 := Scalar.cmpi .eq arg1 c21_i32
  let v47 : BitVec 32 := Scalar.extui v46
  let c0_i32_4 : BitVec 32 := 0#32
  let v48 : BitVec 1 := Scalar.cmpi .ne v47 c0_i32_4
  v48

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2048x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S16x2048x2048 : Shape := ⟨3, ![16, 2048, 2048]⟩
abbrev S2048x11008 : Shape := ⟨2, ![2048, 11008]⟩
abbrev S2x3328 : Shape := ⟨2, ![2, 3328]⟩
abbrev S64 : Shape := ⟨1, ![64]⟩
abbrev S16x2048x11008 : Shape := ⟨3, ![16, 2048, 11008]⟩
abbrev S16x2048x3328 : Shape := ⟨3, ![16, 2048, 3328]⟩
abbrev S16x2048x1024 : Shape := ⟨3, ![16, 2048, 1024]⟩
abbrev S16x2048x1280 : Shape := ⟨3, ![16, 2048, 1280]⟩
abbrev S16x2048x256 : Shape := ⟨3, ![16, 2048, 256]⟩
abbrev S16x2048x4096 : Shape := ⟨3, ![16, 2048, 4096]⟩
abbrev S16x2047x3328 : Shape := ⟨3, ![16, 2047, 3328]⟩
abbrev S_ : Shape := ⟨0, ![]⟩
abbrev S1x3328 : Shape := ⟨2, ![1, 3328]⟩
abbrev S3328 : Shape := ⟨1, ![3328]⟩
abbrev S1x1x3328 : Shape := ⟨3, ![1, 1, 3328]⟩
abbrev S16x64 : Shape := ⟨2, ![16, 64]⟩
abbrev S4x64 : Shape := ⟨2, ![4, 64]⟩
abbrev S20x64 : Shape := ⟨2, ![20, 64]⟩
abbrev S16x2048x20x64 : Shape := ⟨4, ![16, 2048, 20, 64]⟩
abbrev S16x2048x20 : Shape := ⟨3, ![16, 2048, 20]⟩
abbrev S16x2048x20x1 : Shape := ⟨4, ![16, 2048, 20, 1]⟩
abbrev S1x1x20x64 : Shape := ⟨4, ![1, 1, 20, 64]⟩
abbrev S32 : Shape := ⟨1, ![32]⟩
abbrev S32x64 : Shape := ⟨2, ![32, 64]⟩
abbrev S2048 : Shape := ⟨1, ![2048]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S16x2048x20x32x2 : Shape := ⟨5, ![16, 2048, 20, 32, 2]⟩
abbrev S16x2048x20x32x1 : Shape := ⟨5, ![16, 2048, 20, 32, 1]⟩
abbrev S16x2048x20x32 : Shape := ⟨4, ![16, 2048, 20, 32]⟩
abbrev S1x2048x1x32 : Shape := ⟨4, ![1, 2048, 1, 32]⟩
abbrev S16x2048x3072 : Shape := ⟨3, ![16, 2048, 3072]⟩
abbrev S16x2048x11264 : Shape := ⟨3, ![16, 2048, 11264]⟩

abbrev nBuf : Space → Nat
  | .hbm => 120
  | .vmem => 0
  | .smem => 0
  | _ => 0

abbrev bufTy : (tb : Table) → Fin (tcTables nBuf tb) → BufTy
  | .hbm, ⟨0, _⟩ => ⟨S16x2048x2048, .bf16⟩
  | .hbm, ⟨1, _⟩ => ⟨S2048x11008, .f32⟩
  | .hbm, ⟨2, _⟩ => ⟨S2x3328, .f32⟩
  | .hbm, ⟨3, _⟩ => ⟨S64, .f32⟩
  | .hbm, ⟨4, _⟩ => ⟨S64, .f32⟩
  | .hbm, ⟨5, _⟩ => ⟨S16x2048x2048, .f32⟩
  | .hbm, ⟨6, _⟩ => ⟨S16x2048x11008, .f32⟩
  | .hbm, ⟨7, _⟩ => ⟨S16x2048x3328, .f32⟩
  | .hbm, ⟨8, _⟩ => ⟨S16x2048x1024, .f32⟩
  | .hbm, ⟨9, _⟩ => ⟨S16x2048x1280, .f32⟩
  | .hbm, ⟨10, _⟩ => ⟨S16x2048x256, .f32⟩
  | .hbm, ⟨11, _⟩ => ⟨S16x2048x1024, .f32⟩
  | .hbm, ⟨12, _⟩ => ⟨S16x2048x4096, .f32⟩
  | .hbm, ⟨13, _⟩ => ⟨S16x2047x3328, .f32⟩
  | .hbm, ⟨14, _⟩ => ⟨S_, .i32⟩
  | .hbm, ⟨15, _⟩ => ⟨S_, .f32⟩
  | .hbm, ⟨16, _⟩ => ⟨S16x2048x3328, .f32⟩
  | .hbm, ⟨17, _⟩ => ⟨S16x2047x3328, .f32⟩
  | .hbm, ⟨18, _⟩ => ⟨S_, .i32⟩
  | .hbm, ⟨19, _⟩ => ⟨S_, .f32⟩
  | .hbm, ⟨20, _⟩ => ⟨S16x2048x3328, .f32⟩
  | .hbm, ⟨21, _⟩ => ⟨S1x3328, .f32⟩
  | .hbm, ⟨22, _⟩ => ⟨S3328, .f32⟩
  | .hbm, ⟨23, _⟩ => ⟨S16x2048x3328, .f32⟩
  | .hbm, ⟨24, _⟩ => ⟨S1x1x3328, .f32⟩
  | .hbm, ⟨25, _⟩ => ⟨S16x2048x3328, .f32⟩
  | .hbm, ⟨26, _⟩ => ⟨S16x2048x3328, .f32⟩
  | .hbm, ⟨27, _⟩ => ⟨S16x2048x3328, .f32⟩
  | .hbm, ⟨28, _⟩ => ⟨S1x3328, .f32⟩
  | .hbm, ⟨29, _⟩ => ⟨S3328, .f32⟩
  | .hbm, ⟨30, _⟩ => ⟨S16x2048x3328, .f32⟩
  | .hbm, ⟨31, _⟩ => ⟨S1x1x3328, .f32⟩
  | .hbm, ⟨32, _⟩ => ⟨S16x2048x3328, .f32⟩
  | .hbm, ⟨33, _⟩ => ⟨S16x2048x3328, .f32⟩
  | .hbm, ⟨34, _⟩ => ⟨S16x2048x3328, .f32⟩
  | .hbm, ⟨35, _⟩ => ⟨S16x64, .f32⟩
  | .hbm, ⟨36, _⟩ => ⟨S4x64, .f32⟩
  | .hbm, ⟨37, _⟩ => ⟨S20x64, .f32⟩
  | .hbm, ⟨38, _⟩ => ⟨S16x2048x20x64, .f32⟩
  | .hbm, ⟨39, _⟩ => ⟨S16x2048x20x64, .f32⟩
  | .hbm, ⟨40, _⟩ => ⟨S_, .f32⟩
  | .hbm, ⟨41, _⟩ => ⟨S16x2048x20, .f32⟩
  | .hbm, ⟨42, _⟩ => ⟨S16x2048x20x1, .f32⟩
  | .hbm, ⟨43, _⟩ => ⟨S_, .f32⟩
  | .hbm, ⟨44, _⟩ => ⟨S16x2048x20x1, .f32⟩
  | .hbm, ⟨45, _⟩ => ⟨S16x2048x20x1, .f32⟩
  | .hbm, ⟨46, _⟩ => ⟨S_, .f32⟩
  | .hbm, ⟨47, _⟩ => ⟨S16x2048x20x1, .f32⟩
  | .hbm, ⟨48, _⟩ => ⟨S16x2048x20x1, .f32⟩
  | .hbm, ⟨49, _⟩ => ⟨S16x2048x20x1, .f32⟩
  | .hbm, ⟨50, _⟩ => ⟨S16x2048x20x64, .f32⟩
  | .hbm, ⟨51, _⟩ => ⟨S16x2048x20x64, .f32⟩
  | .hbm, ⟨52, _⟩ => ⟨S1x1x20x64, .f32⟩
  | .hbm, ⟨53, _⟩ => ⟨S16x2048x20x64, .f32⟩
  | .hbm, ⟨54, _⟩ => ⟨S16x2048x20x64, .f32⟩
  | .hbm, ⟨55, _⟩ => ⟨S32, .f32⟩
  | .hbm, ⟨56, _⟩ => ⟨S32x64, .f32⟩
  | .hbm, ⟨57, _⟩ => ⟨S2048, .f32⟩
  | .hbm, ⟨58, _⟩ => ⟨S64, .f32⟩
  | .hbm, ⟨59, _⟩ => ⟨S1x64, .f32⟩
  | .hbm, ⟨60, _⟩ => ⟨S32x64, .f32⟩
  | .hbm, ⟨61, _⟩ => ⟨S2048, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S_, .f32⟩
  | .hbm, ⟨67, _⟩ => ⟨S16, .f32⟩
  | .hbm, ⟨68, _⟩ => ⟨S16, .f32⟩
  | .hbm, ⟨69, _⟩ => ⟨S16, .f32⟩
  | .hbm, ⟨70, _⟩ => ⟨S_, .f32⟩
  | .hbm, ⟨71, _⟩ => ⟨S16, .f32⟩
  | .hbm, ⟨72, _⟩ => ⟨S16, .f32⟩
  | .hbm, ⟨73, _⟩ => ⟨S_, .f32⟩
  | .hbm, ⟨74, _⟩ => ⟨S16, .f32⟩
  | .hbm, ⟨75, _⟩ => ⟨S16, .f32⟩
  | .hbm, ⟨76, _⟩ => ⟨S2048x1, .f32⟩
  | .hbm, ⟨77, _⟩ => ⟨S1x16, .f32⟩
  | .hbm, ⟨78, _⟩ => ⟨S2048x16, .f32⟩
  | .hbm, ⟨79, _⟩ => ⟨S2048x16, .f32⟩
  | .hbm, ⟨80, _⟩ => ⟨S2048x16, .f32⟩
  | .hbm, ⟨81, _⟩ => ⟨S2048x1, .f32⟩
  | .hbm, ⟨82, _⟩ => ⟨S1x16, .f32⟩
  | .hbm, ⟨83, _⟩ => ⟨S2048x16, .f32⟩
  | .hbm, ⟨84, _⟩ => ⟨S2048x16, .f32⟩
  | .hbm, ⟨85, _⟩ => ⟨S2048x16, .f32⟩
  | .hbm, ⟨86, _⟩ => ⟨S2048x32, .f32⟩
  | .hbm, ⟨87, _⟩ => ⟨S2048x32, .f32⟩
  | .hbm, ⟨88, _⟩ => ⟨S2048x32, .f32⟩
  | .hbm, ⟨89, _⟩ => ⟨S16x2048x20x32x2, .f32⟩
  | .hbm, ⟨90, _⟩ => ⟨S16x2048x20x32x1, .f32⟩
  | .hbm, ⟨91, _⟩ => ⟨S16x2048x20x32, .f32⟩
  | .hbm, ⟨92, _⟩ => ⟨S16x2048x20x32x1, .f32⟩
  | .hbm, ⟨93, _⟩ => ⟨S16x2048x20x32, .f32⟩
  | .hbm, ⟨94, _⟩ => ⟨S1x2048x1x32, .f32⟩
  | .hbm, ⟨95, _⟩ => ⟨S1x2048x1x32, .f32⟩
  | .hbm, ⟨96, _⟩ => ⟨S16x2048x20x32, .f32⟩
  | .hbm, ⟨97, _⟩ => ⟨S16x2048x20x32, .f32⟩
  | .hbm, ⟨98, _⟩ => ⟨S16x2048x20x32, .f32⟩
  | .hbm, ⟨99, _⟩ => ⟨S16x2048x20x32, .f32⟩
  | .hbm, ⟨100, _⟩ => ⟨S16x2048x20x32, .f32⟩
  | .hbm, ⟨101, _⟩ => ⟨S16x2048x20x32, .f32⟩
  | .hbm, ⟨102, _⟩ => ⟨S16x2048x20x32, .f32⟩
  | .hbm, ⟨103, _⟩ => ⟨S16x2048x20x32, .f32⟩
  | .hbm, ⟨104, _⟩ => ⟨S16x2048x20x32, .f32⟩
  | .hbm, ⟨105, _⟩ => ⟨S16x2048x20x32, .f32⟩
  | .hbm, ⟨106, _⟩ => ⟨S16x2048x20x32x1, .f32⟩
  | .hbm, ⟨107, _⟩ => ⟨S16x2048x20x32x1, .f32⟩
  | .hbm, ⟨108, _⟩ => ⟨S16x2048x20x32x2, .f32⟩
  | .hbm, ⟨109, _⟩ => ⟨S16x2048x20x64, .f32⟩
  | .hbm, ⟨110, _⟩ => ⟨S16x2048x1280, .f32⟩
  | .hbm, ⟨111, _⟩ => ⟨S16x2048x3072, .f32⟩
  | .hbm, ⟨112, _⟩ => ⟨S16x2048x256, .f32⟩
  | .hbm, ⟨113, _⟩ => ⟨S16x2048x1024, .f32⟩
  | .hbm, ⟨114, _⟩ => ⟨S16x2048x256, .f32⟩
  | .hbm, ⟨115, _⟩ => ⟨S16x2048x11008, .f32⟩
  | .hbm, ⟨116, _⟩ => ⟨S_, .i32⟩
  | .hbm, ⟨117, _⟩ => ⟨S_, .f32⟩
  | .hbm, ⟨118, _⟩ => ⟨S16x2048x11264, .f32⟩
  | .hbm, ⟨119, _⟩ => ⟨S16x2048x11264, .bf16⟩
  | _, _ => ⟨S16x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_call0_v0 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_call1_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst : Ref sig .tc := ⟨.hbm, 40, rfl⟩
abbrev main_v31 : Ref sig .tc := ⟨.hbm, 41, rfl⟩
abbrev main_v32 : Ref sig .tc := ⟨.hbm, 42, rfl⟩
abbrev main_cst_1 : Ref sig .tc := ⟨.hbm, 43, rfl⟩
abbrev main_v33 : Ref sig .tc := ⟨.hbm, 44, rfl⟩
abbrev main_v34 : Ref sig .tc := ⟨.hbm, 45, rfl⟩
abbrev main_cst_2 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_3 : Ref sig .tc := ⟨.hbm, 63, rfl⟩
abbrev main_v51 : Ref sig .tc := ⟨.hbm, 64, rfl⟩
abbrev main_v52 : Ref sig .tc := ⟨.hbm, 65, rfl⟩
abbrev main_cst_4 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_5 : Ref sig .tc := ⟨.hbm, 70, rfl⟩
abbrev main_v56 : Ref sig .tc := ⟨.hbm, 71, rfl⟩
abbrev main_v57 : Ref sig .tc := ⟨.hbm, 72, rfl⟩
abbrev main_cst_6 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_c_7 : Ref sig .tc := ⟨.hbm, 116, rfl⟩
abbrev main_call2_v0 : Ref sig .tc := ⟨.hbm, 117, rfl⟩
abbrev main_v100 : Ref sig .tc := ⟨.hbm, 118, rfl⟩
abbrev main_v101 : Ref sig .tc := ⟨.hbm, 119, rfl⟩

abbrev nD : Nat := 1
abbrev τ : Topo := Topo.v7x

variable {F : FTy → Type} [FloatOps F]
-- ==== Kernel3.lean ====
abbrev S16x2048x2048 : Shape := ⟨3, ![16, 2048, 2048]⟩
abbrev S16x2048x1024 : Shape := ⟨3, ![16, 2048, 1024]⟩
abbrev S16x2048x11264 : Shape := ⟨3, ![16, 2048, 11264]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S32768x2048 : Shape := ⟨2, ![32768, 2048]⟩
abbrev S32768x1024 : Shape := ⟨2, ![32768, 1024]⟩
abbrev S32768x11264 : Shape := ⟨2, ![32768, 11264]⟩
abbrev S1x1024 : Shape := ⟨2, ![1, 1024]⟩
abbrev S1x2048 : Shape := ⟨2, ![1, 2048]⟩
abbrev S256x2048 : Shape := ⟨2, ![256, 2048]⟩
abbrev S256x1024 : Shape := ⟨2, ![256, 1024]⟩
abbrev S256x256 : Shape := ⟨2, ![256, 256]⟩
abbrev S256 : Shape := ⟨1, ![256]⟩
abbrev S256x1 : Shape := ⟨2, ![256, 1]⟩

abbrev nBuf : Space → Nat
  | .hbm => 25
  | .vmem => 26
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S16x2048x11264, .bf16⟩
  | .hbm, ⟨5, _⟩ => ⟨S16x2048x1024, .bf16⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S32768x2048, .f32⟩
  | .hbm, ⟨13, _⟩ => ⟨S32768x1024, .bf16⟩
  | .hbm, ⟨14, _⟩ => ⟨S32768x1024, .bf16⟩
  | .hbm, ⟨15, _⟩ => ⟨S32768x1024, .bf16⟩
  | .hbm, ⟨16, _⟩ => ⟨S32768x11264, .bf16⟩
  | .hbm, ⟨17, _⟩ => ⟨S32768x1024, .bf16⟩
  | .hbm, ⟨18, _⟩ => ⟨S1024x2048, .bf16⟩
  | .hbm, ⟨19, _⟩ => ⟨S1024x2048, .bf16⟩
  | .hbm, ⟨20, _⟩ => ⟨S2048x2048, .bf16⟩
  | .hbm, ⟨21, _⟩ => ⟨S1x1024, .f32⟩
  | .hbm, ⟨22, _⟩ => ⟨S1x1024, .f32⟩
  | .hbm, ⟨23, _⟩ => ⟨S1x2048, .f32⟩
  | .hbm, ⟨24, _⟩ => ⟨S32768x2048, .f32⟩
  | .local _ .vmem, ⟨0, _⟩ => ⟨S256x2048, .f32⟩
  | .local _ .vmem, ⟨1, _⟩ => ⟨S256x2048, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S1x1024, .f32⟩
  | .local _ .vmem, ⟨19, _⟩ => ⟨S1x1024, .f32⟩
  | .local _ .vmem, ⟨20, _⟩ => ⟨S1024x2048, .bf16⟩
  | .local _ .vmem, ⟨21, _⟩ => ⟨S1024x2048, .bf16⟩
  | .local _ .vmem, ⟨22, _⟩ => ⟨S2048x2048, .bf16⟩
  | .local _ .vmem, ⟨23, _⟩ => ⟨S1x2048, .f32⟩
  | .local _ .vmem, ⟨24, _⟩ => ⟨S256x2048, .f32⟩
  | .local _ .vmem, ⟨25, _⟩ => ⟨S256x2048, .f32⟩
  | _, _ => ⟨S16x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg15_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem15_1 : DmaSem sig := 25

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_8 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x2048 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x2048 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x2048 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference3Ideal.lean ====
abbrev S16x2048x2048 : Shape := ⟨3, ![16, 2048, 2048]⟩
abbrev S16x2048x1024 : Shape := ⟨3, ![16, 2048, 1024]⟩
abbrev S16x2048x11264 : Shape := ⟨3, ![16, 2048, 11264]⟩
abbrev S1024 : Shape := ⟨1, ![1024]⟩
abbrev S1024x2048 : Shape := ⟨2, ![1024, 2048]⟩
abbrev S2048x2048 : Shape := ⟨2, ![2048, 2048]⟩
abbrev S2048 : Shape := ⟨1, ![2048]⟩
abbrev S16x2048x16x64 : Shape := ⟨4, ![16, 2048, 16, 64]⟩
abbrev S_ : Shape := ⟨0, ![]⟩
abbrev S16x2048x16 : Shape := ⟨3, ![16, 2048, 16]⟩
abbrev S16x2048x16x1 : Shape := ⟨4, ![16, 2048, 16, 1]⟩
abbrev S16x64 : Shape := ⟨2, ![16, 64]⟩
abbrev S1x1x16x64 : Shape := ⟨4, ![1, 1, 16, 64]⟩
abbrev S16x2048 : Shape := ⟨2, ![16, 2048]⟩
abbrev S16x2048x1 : Shape := ⟨3, ![16, 2048, 1]⟩
abbrev S1x1x2048 : Shape := ⟨3, ![1, 1, 2048]⟩
abbrev S32768x2048 : Shape := ⟨2, ![32768, 2048]⟩

abbrev nBuf : Space → Nat
  | .hbm => 119
  | .vmem => 0
  | .smem => 0
  | _ => 0

abbrev bufTy : (tb : Table) → Fin (tcTables nBuf tb) → BufTy
  | .hbm, ⟨0, _⟩ => ⟨S16x2048x2048, .f32⟩
  | .hbm, ⟨1, _⟩ => ⟨S16x2048x1024, .bf16⟩
  | .hbm, ⟨2, _⟩ => ⟨S16x2048x1024, .bf16⟩
  | .hbm, ⟨3, _⟩ => ⟨S16x2048x1024, .bf16⟩
  | .hbm, ⟨4, _⟩ => ⟨S16x2048x11264, .bf16⟩
  | .hbm, ⟨5, _⟩ => ⟨S16x2048x1024, .bf16⟩
  | .hbm, ⟨6, _⟩ => ⟨S1024, .f32⟩
  | .hbm, ⟨7, _⟩ => ⟨S1024, .f32⟩
  | .hbm, ⟨8, _⟩ => ⟨S1024x2048, .f32⟩
  | .hbm, ⟨9, _⟩ => ⟨S1024x2048, .f32⟩
  | .hbm, ⟨10, _⟩ => ⟨S2048x2048, .f32⟩
  | .hbm, ⟨11, _⟩ => ⟨S2048, .f32⟩
  | .hbm, ⟨12, _⟩ => ⟨S16x2048x1024, .f32⟩
  | .hbm, ⟨13, _⟩ => ⟨S16x2048x1024, .f32⟩
  | .hbm, ⟨14, _⟩ => ⟨S16x2048x1024, .f32⟩
  | .hbm, ⟨15, _⟩ => ⟨S16x2048x16x64, .f32⟩
  | .hbm, ⟨16, _⟩ => ⟨S_, .f32⟩
  | .hbm, ⟨17, _⟩ => ⟨S16x2048x16, .f32⟩
  | .hbm, ⟨18, _⟩ => ⟨S16x2048x16x1, .f32⟩
  | .hbm, ⟨19, _⟩ => ⟨S_, .f32⟩
  | .hbm, ⟨20, _⟩ => ⟨S16x2048x16x1, .f32⟩
  | .hbm, ⟨21, _⟩ => ⟨S16x2048x16x1, .f32⟩
  | .hbm, ⟨22, _⟩ => ⟨S16x2048x16x64, .f32⟩
  | .hbm, ⟨23, _⟩ => ⟨S16x2048x16x64, .f32⟩
  | .hbm, ⟨24, _⟩ => ⟨S16x2048x16x64, .f32⟩
  | .hbm, ⟨25, _⟩ => ⟨S_, .f32⟩
  | .hbm, ⟨26, _⟩ => ⟨S16x2048x16, .f32⟩
  | .hbm, ⟨27, _⟩ => ⟨S16x2048x16x1, .f32⟩
  | .hbm, ⟨28, _⟩ => ⟨S_, .f32⟩
  | .hbm, ⟨29, _⟩ => ⟨S16x2048x16x1, .f32⟩
  | .hbm, ⟨30, _⟩ => ⟨S16x2048x16x1, .f32⟩
  | .hbm, ⟨31, _⟩ => ⟨S16x2048x16x64, .f32⟩
  | .hbm, ⟨32, _⟩ => ⟨S16x2048x16x64, .f32⟩
  | .hbm, ⟨33, _⟩ => ⟨S_, .f32⟩
  | .hbm, ⟨34, _⟩ => ⟨S16x2048x16x1, .f32⟩
  | .hbm, ⟨35, _⟩ => ⟨S16x2048x16x1, .f32⟩
  | .hbm, ⟨36, _⟩ => ⟨S16x2048x16x1, .f32⟩
  | .hbm, ⟨37, _⟩ => ⟨S16x2048x16x64, .f32⟩
  | .hbm, ⟨38, _⟩ => ⟨S16x2048x16x64, .f32⟩
  | .hbm, ⟨39, _⟩ => ⟨S16x64, .f32⟩
  | .hbm, ⟨40, _⟩ => ⟨S1x1x16x64, .f32⟩
  | .hbm, ⟨41, _⟩ => ⟨S16x2048x16x64, .f32⟩
  | .hbm, ⟨42, _⟩ => ⟨S16x2048x16x64, .f32⟩
  | .hbm, ⟨43, _⟩ => ⟨S16x64, .f32⟩
  | .hbm, ⟨44, _⟩ => ⟨S1x1x16x64, .f32⟩
  | .hbm, ⟨45, _⟩ => ⟨S16x2048x16x64, .f32⟩
  | .hbm, ⟨46, _⟩ => ⟨S16x2048x16x64, .f32⟩
  | .hbm, ⟨47, _⟩ => ⟨S16x2048x1024, .f32⟩
  | .hbm, ⟨48, _⟩ => ⟨S16x2048x1024, .f32⟩
  | .hbm, ⟨49, _⟩ => ⟨S16x2048x1024, .f32⟩
  | .hbm, ⟨50, _⟩ => ⟨S16x2048x1024, .bf16⟩
  | .hbm, ⟨51, _⟩ => ⟨S16x2048x1024, .f32⟩
  | .hbm, ⟨52, _⟩ => ⟨S16x2048x1024, .f32⟩
  | .hbm, ⟨53, _⟩ => ⟨S16x2048x1024, .f32⟩
  | .hbm, ⟨54, _⟩ => ⟨S_, .f32⟩
  | .hbm, ⟨55, _⟩ => ⟨S16x2048x1024, .f32⟩
  | .hbm, ⟨56, _⟩ => ⟨S16x2048x1024, .f32⟩
  | .hbm, ⟨57, _⟩ => ⟨S_, .f32⟩
  | .hbm, ⟨58, _⟩ => ⟨S16x2048x1024, .f32⟩
  | .hbm, ⟨59, _⟩ => ⟨S16x2048x1024, .f32⟩
  | .hbm, ⟨60, _⟩ => ⟨S16x2048x1024, .f32⟩
  | .hbm, ⟨61, _⟩ => ⟨S16x2048x1024, .f32⟩
  | .hbm, ⟨62, _⟩ => ⟨S16x2048x1024, .f32⟩
  | .hbm, ⟨63, _⟩ => ⟨S16x2048x1024, .bf16⟩
  | .hbm, ⟨64, _⟩ => ⟨S16x2048x1024, .f32⟩
  | .hbm, ⟨65, _⟩ => ⟨S16x2048x1024, .f32⟩
  | .hbm, ⟨66, _⟩ => ⟨S16x2048x1024, .f32⟩
  | .hbm, ⟨67, _⟩ => ⟨S_, .f32⟩
  | .hbm, ⟨68, _⟩ => ⟨S16x2048x1024, .f32⟩
  | .hbm, ⟨69, _⟩ => ⟨S16x2048x1024, .f32⟩
  | .hbm, ⟨70, _⟩ => ⟨S_, .f32⟩
  | .hbm, ⟨71, _⟩ => ⟨S16x2048x1024, .f32⟩
  | .hbm, ⟨72, _⟩ => ⟨S16x2048x1024, .f32⟩
  | .hbm, ⟨73, _⟩ => ⟨S16x2048x1024, .f32⟩
  | .hbm, ⟨74, _⟩ => ⟨S16x2048x1024, .f32⟩
  | .hbm, ⟨75, _⟩ => ⟨S16x2048x2048, .f32⟩
  | .hbm, ⟨76, _⟩ => ⟨S16x2048x2048, .f32⟩
  | .hbm, ⟨77, _⟩ => ⟨S16x2048x2048, .bf16⟩
  | .hbm, ⟨78, _⟩ => ⟨S16x2048x2048, .f32⟩
  | .hbm, ⟨79, _⟩ => ⟨S16x2048x2048, .f32⟩
  | .hbm, ⟨80, _⟩ => ⟨S16x2048x2048, .f32⟩
  | .hbm, ⟨81, _⟩ => ⟨S_, .f32⟩
  | .hbm, ⟨82, _⟩ => ⟨S16x2048x2048, .f32⟩
  | .hbm, ⟨83, _⟩ => ⟨S16x2048x2048, .f32⟩
  | .hbm, ⟨84, _⟩ => ⟨S_, .f32⟩
  | .hbm, ⟨85, _⟩ => ⟨S16x2048x2048, .f32⟩
  | .hbm, ⟨86, _⟩ => ⟨S16x2048x2048, .f32⟩
  | .hbm, ⟨87, _⟩ => ⟨S16x2048x2048, .f32⟩
  | .hbm, ⟨88, _⟩ => ⟨S16x2048x2048, .bf16⟩
  | .hbm, ⟨89, _⟩ => ⟨S16x2048x2048, .f32⟩
  | .hbm, ⟨90, _⟩ => ⟨S16x2048x2048, .f32⟩
  | .hbm, ⟨91, _⟩ => ⟨S16x2048x2048, .f32⟩
  | .hbm, ⟨92, _⟩ => ⟨S_, .f32⟩
  | .hbm, ⟨93, _⟩ => ⟨S16x2048x2048, .f32⟩
  | .hbm, ⟨94, _⟩ => ⟨S16x2048x2048, .f32⟩
  | .hbm, ⟨95, _⟩ => ⟨S_, .f32⟩
  | .hbm, ⟨96, _⟩ => ⟨S16x2048x2048, .f32⟩
  | .hbm, ⟨97, _⟩ => ⟨S16x2048x2048, .f32⟩
  | .hbm, ⟨98, _⟩ => ⟨S16x2048x2048, .f32⟩
  | .hbm, ⟨99, _⟩ => ⟨S16x2048x2048, .f32⟩
  | .hbm, ⟨100, _⟩ => ⟨S16x2048x2048, .f32⟩
  | .hbm, ⟨101, _⟩ => ⟨S16x2048x2048, .f32⟩
  | .hbm, ⟨102, _⟩ => ⟨S16x2048x2048, .f32⟩
  | .hbm, ⟨103, _⟩ => ⟨S_, .f32⟩
  | .hbm, ⟨104, _⟩ => ⟨S16x2048, .f32⟩
  | .hbm, ⟨105, _⟩ => ⟨S16x2048x1, .f32⟩
  | .hbm, ⟨106, _⟩ => ⟨S_, .f32⟩
  | .hbm, ⟨107, _⟩ => ⟨S16x2048x1, .f32⟩
  | .hbm, ⟨108, _⟩ => ⟨S16x2048x1, .f32⟩
  | .hbm, ⟨109, _⟩ => ⟨S_, .f32⟩
  | .hbm, ⟨110, _⟩ => ⟨S16x2048x1, .f32⟩
  | .hbm, ⟨111, _⟩ => ⟨S16x2048x1, .f32⟩
  | .hbm, ⟨112, _⟩ => ⟨S16x2048x1, .f32⟩
  | .hbm, ⟨113, _⟩ => ⟨S16x2048x2048, .f32⟩
  | .hbm, ⟨114, _⟩ => ⟨S16x2048x2048, .f32⟩
  | .hbm, ⟨115, _⟩ => ⟨S1x1x2048, .f32⟩
  | .hbm, ⟨116, _⟩ => ⟨S16x2048x2048, .f32⟩
  | .hbm, ⟨117, _⟩ => ⟨S16x2048x2048, .f32⟩
  | .hbm, ⟨118, _⟩ => ⟨S32768x2048, .f32⟩
  | _, _ => ⟨S16x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_cst_2 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_3 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_call1_v0 : Ref sig .tc := ⟨.hbm, 65, rfl⟩
abbrev main_call1_v1 : Ref sig .tc := ⟨.hbm, 66, rfl⟩
abbrev main_call1_cst : Ref sig .tc := ⟨.hbm, 67, rfl⟩
abbrev main_call1_v2 : Ref sig .tc := ⟨.hbm, 68, rfl⟩
abbrev main_call1_v3 : Ref sig .tc := ⟨.hbm, 69, rfl⟩
abbrev main_call1_cst_0 : Ref sig .tc := ⟨.hbm, 70, rfl⟩
abbrev main_call1_v4 : Ref sig .tc := ⟨.hbm, 71, rfl⟩
abbrev main_call1_v5 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_4 : Ref sig .tc := ⟨.hbm, 81, rfl⟩
abbrev main_v48 : Ref sig .tc := ⟨.hbm, 82, rfl⟩
abbrev main_v49 : Ref sig .tc := ⟨.hbm, 83, rfl⟩
abbrev main_cst_5 : Ref sig .tc := ⟨.hbm, 84, rfl⟩
abbrev main_v50 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_6 : Ref sig .tc := ⟨.hbm, 92, rfl⟩
abbrev main_v57 : Ref sig .tc := ⟨.hbm, 93, rfl⟩
abbrev main_v58 : Ref sig .tc := ⟨.hbm, 94, rfl⟩
abbrev main_cst_7 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_8 : Ref sig .tc := ⟨.hbm, 103, rfl⟩
abbrev main_v66 : Ref sig .tc := ⟨.hbm, 104, rfl⟩
abbrev main_v67 : Ref sig .tc := ⟨.hbm, 105, rfl⟩
abbrev main_cst_9 : Ref sig .tc := ⟨.hbm, 106, rfl⟩
abbrev main_v68 : Ref sig .tc := ⟨.hbm, 107, rfl⟩
abbrev main_v69 : Ref sig .tc := ⟨.hbm, 108, rfl⟩
abbrev main_cst_10 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩

abbrev nD : Nat := 1
abbrev τ : Topo := Topo.v7x

variable {F : FTy → Type} [FloatOps F]
-- ==== Proof.Tiles.lean ====
module

public import proofs.«01_k».proof.Proof.Gen.KernelIdeal

@[expose] public section

noncomputable section

/-! What one grid point of the attention call computes, written once: the running maximum and the running weighted sum
of a tile of 256 queries of one head over sixteen blocks of 128 keys, the quotient at the end, and the tiles of all
heads side by side. The keys and values come as blocks by number, wherever they are read from. -/

namespace Cert.Attn

open Idealize.ShloMosaic Cert.KernelIdeal Cert.KernelIdeal.Facts₀

variable {F : FTy → Type} [FloatOps F] [Named F]

/-- The block of queries with the scale multiplied in, turned so that the queries run along the lanes. -/
def turned (x : Vec F S1x512x1024 .bf16) : FVec F S1024x512 .bf16 :=
  truncf .bf16 (transpose S1024x512 [1, 0]
    (mulf (extf .f32 (shapeCast S512x1024 x shapeCasts_S1x512x1024_S512x1024) bitsLt_bf16_f32)
      (broadcast S512x1024 (Named.named κ "score_scale" 0x3E38AA3B#32)))
    transposes_S512x1024_p1_0_S1024x512) bitsLt_bf16_f32

/-- The scores of 128 keys against a tile of 256 queries. -/
def scores (k : Vec F S1x128x64 .bf16) (q : FVec F S64x256 .bf16) : FVec F S128x256 .f32 :=
  matmul dot_S128x64_S64x256_S128x256_1_0_0_1_n_n none (shapeCast S128x64 k shapeCasts_S1x128x64_S128x64) q
    (constant S128x256 .f32 0x00000000#32)

/-- The maximum so far, with a block's scores taken in. -/
def higher (m : FVec F S1x256 .f32) (s : FVec F S128x256 .f32) : FVec F S1x256 .f32 :=
  maximumf m (shapeCast S1x256
    (multiReduction .maximumf [0] S256 s 0xFF800000#32 reduces_S128x256_S256 (.inl rfl) rfl) shapeCasts_S256_S1x256)

/-- The weighted sum so far, brought below the new maximum, and the block's terms below it. -/
def gathered (m m' : FVec F S1x256 .f32) (a : FVec F S80x256 .f32) (s : FVec F S128x256 .f32)
    (v : Vec F S1x80x128 .bf16) : FVec F S80x256 .f32 :=
  addf (mulf a (broadcastTo S80x256 (exp2 (subf m m')) broadcasts_S1x256_S80x256))
    (matmul dot_S80x128_S128x256_S80x256_1_0_0_1_n_n none (shapeCast S80x128 v shapeCasts_S1x80x128_S80x128)
      (truncf .bf16 (exp2 (subf s (broadcastTo S128x256 m' broadcasts_S1x256_S128x256))) bitsLt_bf16_f32)
      (constant S80x256 .f32 0x00000000#32))

/-- The maximum and the weighted sum after `n` blocks. -/
def sweep (s : Fin 16 → FVec F S128x256 .f32) (v : Fin 16 → Vec F S1x80x128 .bf16) (n : ℕ) :
    FVec F S1x256 .f32 × FVec F S80x256 .f32 :=
  Nat.rec (broadcast S1x256 (Scalar.ofBits .f32 0xF149F2CA#32), broadcast S80x256 (Scalar.ofBits .f32 0x00000000#32))
    (fun j p => (higher p.1 (s (Fin.ofNat 16 j)),
      gathered p.1 (higher p.1 (s (Fin.ofNat 16 j))) p.2 (s (Fin.ofNat 16 j)) (v (Fin.ofNat 16 j)))) n

/-- The sums of the weighted values over the sum of the weights. -/
def quotient (a : FVec F S80x256 .f32) : FVec F S64x256 .f32 :=
  divf (extractStridedSlice S64x256 ![0, 0] a slices_S80x256_o0_0_S64x256)
    (broadcastTo S64x256 (extractStridedSlice S1x256 ![64, 0] a slices_S80x256_o64_0_S1x256)
      broadcasts_S1x256_S64x256)

theorem slices_tile (h : Fin 16) (g : Fin 2) : S1024x512.Slices ![64 * h.val, 256 * g.val] S64x256 := by
  revert h g; decide

/-- The key and value head that query head `h` reads. -/
def kvHead (h : Fin 16) : Fin 4 := ⟨h.val / 4, by omega⟩

/-- The result of one head at one tile of the queries. -/
def headTile (q : FVec F S1024x512 .bf16) (k : Fin 4 → Fin 16 → Vec F S1x128x64 .bf16)
    (v : Fin 4 → Fin 16 → Vec F S1x80x128 .bf16) (h : Fin 16) (g : Fin 2) : FVec F S64x256 .f32 :=
  quotient (sweep
    (fun j => scores (k (kvHead h) j) (extractStridedSlice S64x256 ![64 * h.val, 256 * g.val] q (slices_tile h g)))
    (v (kvHead h)) 16).2

theorem rows_side_by_side : Shape.Concatenates (List.ofFn fun _ : Fin 16 => S64x512) S1024x512 0 := by decide

/-- The point's block of the result. -/
def block (x : Vec F S1x512x1024 .bf16) (k : Fin 4 → Fin 16 → Vec F S1x128x64 .bf16)
    (v : Fin 4 → Fin 16 → Vec F S1x80x128 .bf16) : FVec F S1x512x1024 .bf16 :=
  shapeCast S1x512x1024 (truncf .bf16 (transpose S512x1024 [1, 0]
    (concatenate S1024x512 0 (List.ofFn fun h : Fin 16 => ⟨S64x512,
      concatenate S64x512 1 [⟨S64x256, headTile (turned x) k v h 0⟩, ⟨S64x256, headTile (turned x) k v h 1⟩]
        concatenates_S64x256_S64x256_S64x512_d1⟩)
      (by rw [List.map_ofFn]; exact rows_side_by_side))
    transposes_S1024x512_p1_0_S512x1024) bitsLt_bf16_f32) shapeCasts_S512x1024_S1x512x1024

end Cert.Attn

end
-- ==== Proof.Loads.lean ====
module

public import proofs.«01_k».proof.Proof.Gen.KernelIdeal.Frame.Runs

@[expose] public section

noncomputable section

/-! The blocks of keys and values as the body loads them from the two scratch buffers. -/

namespace Cert.Attn

open Idealize.ShloMosaic Cert.KernelIdeal

variable {F : FTy → Type} [FloatOps F]

theorem inb_keys (h : Fin 4) (j : Fin 16) (a : Fin S4x2048x64.rank) :
    (![h.val, 128 * j.val, 0] : Fin 3 → ℕ) a + S1x128x64.size a ≤ S4x2048x64.size a := by
  revert h j a; decide

theorem inb_values (h : Fin 4) (j : Fin 16) (a : Fin S4x80x2048.rank) :
    (![h.val, 0, 128 * j.val] : Fin 3 → ℕ) a + S1x80x128.size a ≤ S4x80x2048.size a := by
  revert h j a; decide

/-- The keys of head `h`, block `j`. -/
def keyBlocks (v : View sig .tc .vmem S4x2048x64 .bf16) (f : v.ty.Contents (Elt F)) (h : Fin 4) (j : Fin 16) :
    Vec F S1x128x64 .bf16 :=
  View.readAt (Elt F) v (Rect.unit (s := S4x2048x64) ![h.val, 128 * j.val, 0] S1x128x64.size (inb_keys h j)).toLoadRect f

/-- The values of head `h`, block `j`, with the row of ones below. -/
def valueBlocks (v : View sig .tc .vmem S4x80x2048 .bf16) (f : v.ty.Contents (Elt F)) (h : Fin 4) (j : Fin 16) :
    Vec F S1x80x128 .bf16 :=
  View.readAt (Elt F) v (Rect.unit (s := S4x80x2048) ![h.val, 0, 128 * j.val] S1x80x128.size (inb_values h j)).toLoadRect f

end Cert.Attn

end
-- ==== Proof.PointA.lean ====
module

public import proofs.«01_k».proof.Proof.Tiles
public import proofs.«01_k».proof.Proof.Loads
public import proofs.«01_k».proof.Proof.Gen.KernelIdeal.Frame.RunA

@[expose] public section

set_option maxRecDepth 16384

noncomputable section

/-! The one stored block of a point that fills the scratch first. -/

namespace Cert.Attn

open Idealize.ShloMosaic Cert.KernelIdeal Cert.KernelIdeal.Gen

variable {F : FTy → Type} [FloatOps F] [Named F]

theorem stored_first (c : Dev nD) (i : grid0.Coords) (arg2 : Memref sig .tc .vmem S1x512x1024 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x512x1024 .bf16) (harg5 : arg5.IsWhole)
    (arg6 : Memref sig .tc .vmem S4x2048x64 .bf16) (harg6 : arg6.IsWhole)
    (arg7 : Memref sig .tc .vmem S4x80x2048 .bf16) (harg7 : arg7.IsWhole) (hc0 : cond0_0 i)
    (x0 : Vec F S1x512x1024 .bf16) (x1 : Vec F S1x2048x256 .bf16) (x2 : Vec F S1x2048x256 .bf16) :
    (kernelRun0_A c i arg2 harg2 arg3 harg3 arg4 harg4 arg5 harg5 arg6 harg6 arg7 harg7 hc0 x0 x1 x2).1
      = [⟨Rect.unit ![0, 0, 0] S1x512x1024.size inb_S1x512x1024_S1x512x1024_0_0_0,
          block (View.readAt (Elt F) arg2.view
              (Rect.unit ![0, 0, 0] S1x512x1024.size inb_S1x512x1024_S1x512x1024_0_0_0).toLoadRect (harg2.unread x0))
            (keyBlocks arg6.view (arg6.view.writes (Elt F) arg6.view.junk
              (kernelRun0_A c i arg2 harg2 arg3 harg3 arg4 harg4 arg5 harg5 arg6 harg6 arg7 harg7 hc0 x0 x1 x2).2.1))
            (valueBlocks arg7.view (arg7.view.writes (Elt F) arg7.view.junk
              (kernelRun0_A c i arg2 harg2 arg3 harg3 arg4 harg4 arg5 harg5 arg6 harg6 arg7 harg7 hc0 x0 x1 x2).2.2.1))⟩] := by
  sl_kernel_rfl

end Cert.Attn

end
-- ==== Proof.PointB.lean ====
module

public import proofs.«01_k».proof.Proof.Tiles
public import proofs.«01_k».proof.Proof.Loads
public import proofs.«01_k».proof.Proof.Gen.KernelIdeal.Frame.RunB

@[expose] public section

set_option maxRecDepth 16384

noncomputable section

/-! The one stored block of a point that finds the scratch filled. -/

namespace Cert.Attn

open Idealize.ShloMosaic Cert.KernelIdeal Cert.KernelIdeal.Gen

variable {F : FTy → Type} [FloatOps F] [Named F]

theorem stored_later (c : Dev nD) (i : grid0.Coords) (arg2 : Memref sig .tc .vmem S1x512x1024 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x512x1024 .bf16) (harg5 : arg5.IsWhole)
    (arg6 : Memref sig .tc .vmem S4x2048x64 .bf16) (harg6 : arg6.IsWhole)
    (arg7 : Memref sig .tc .vmem S4x80x2048 .bf16) (harg7 : arg7.IsWhole) (hc0 : ¬cond0_0 i)
    (x0 : Vec F S1x512x1024 .bf16) (x1 : Vec F S1x2048x256 .bf16) (x2 : Vec F S1x2048x256 .bf16)
    (xs0 : Vec F S4x2048x64 .bf16) (xs1 : Vec F S4x80x2048 .bf16) :
    (kernelRun0_B c i arg2 harg2 arg3 harg3 arg4 harg4 arg5 harg5 arg6 harg6 arg7 harg7 hc0 x0 x1 x2 xs0 xs1).1
      = [⟨Rect.unit ![0, 0, 0] S1x512x1024.size inb_S1x512x1024_S1x512x1024_0_0_0,
          block (View.readAt (Elt F) arg2.view
              (Rect.unit ![0, 0, 0] S1x512x1024.size inb_S1x512x1024_S1x512x1024_0_0_0).toLoadRect (harg2.unread x0))
            (keyBlocks arg6.view (harg6.unread xs0)) (valueBlocks arg7.view (harg7.unread xs1))⟩] := by
  sl_kernel_rfl

end Cert.Attn

end
-- ==== Proof.Weights.lean ====
module

public import Idealize.ShloMosaic.PureOps.Ideal.Laws
public import Mathlib.Analysis.SpecialFunctions.Pow.Real

@[expose] public section

noncomputable section

/-! The weights of a softmax, as a running computation in powers of two finds them and as a quotient of
exponentials: the mathematics of the attention call, with no program in it. -/

namespace Cert.Attn

open Idealize.ShloMosaic

/-- The greatest of finitely many reals (at least one), folded from minus infinity, is a real. -/
theorem fold_max_real {n : ℕ} (s : Fin n → EReal) (hs : ∀ k, ∃ r : ℝ, s k = r) (h0 : 0 < n) :
    ∃ r : ℝ, (Finset.univ : Finset (Fin n)).fold max (⊥ : EReal) s = r := by
  set x := (Finset.univ : Finset (Fin n)).fold max (⊥ : EReal) s with hx
  have ht : x < ⊤ := by
    rw [hx, Finset.fold_max_lt]
    exact ⟨bot_lt_top, fun k _ => by obtain ⟨r, hr⟩ := hs k; rw [hr]; exact EReal.coe_lt_top r⟩
  have hb : ⊥ < x := by
    rw [hx, Finset.lt_fold_max]
    exact .inr ⟨⟨0, h0⟩, Finset.mem_univ _, by obtain ⟨r, hr⟩ := hs ⟨0, h0⟩; rw [hr]; exact EReal.bot_lt_coe r⟩
  exact ⟨x.toReal, (EReal.coe_toReal ht.ne hb.ne').symm⟩

/-- A nonnegative real factor goes into a sum of extended reals. -/
theorem sum_mul_real {ι : Type*} (S : Finset ι) (f : ι → EReal) (r : ℝ) (hr : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih,
      EReal.right_distrib_of_nonneg_of_ne_top (EReal.coe_nonneg.2 hr) (EReal.coe_ne_top r)]

/-- A sum of reals, taken among the extended reals. -/
theorem sum_real {ι : Type*} (S : Finset ι) (f : ι → ℝ) :
    ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A sum of products of reals, taken among the extended reals, is a real. -/
theorem sum_mul_is_real {ι : Type*} (S : Finset ι) (f g : ι → EReal) (hf : ∀ i, ∃ r : ℝ, f i = r)
    (hg : ∀ i, ∃ r : ℝ, g i = r) : ∃ r : ℝ, ∑ i ∈ S, f i * g i = r := by
  choose a ha using hf
  choose b hb using hg
  exact ⟨∑ i ∈ S, a i * b i, by rw [← sum_real]; exact Finset.sum_congr rfl fun i _ => by rw [ha, hb, EReal.coe_mul]⟩

/-- Powers of two taken below one shift, brought below another. -/
theorem rescale (x M M' : ℝ) : (2 : ℝ) ^ (x - M) * (2 : ℝ) ^ (M - M') = (2 : ℝ) ^ (x - M') := by
  rw [← Real.rpow_add two_pos]; congr 1; ring

/-- The running sum after `n` blocks of `b` scores, below the shift `M`. -/
def running {b : ℕ} (s : ℕ → Fin b → ℝ) (v : ℕ → Fin b → EReal) (n : ℕ) (M : ℝ) : EReal :=
  ∑ j ∈ Finset.range n, ∑ k, v j k * (((2 : ℝ) ^ (s j k - M) : ℝ) : EReal)

/-- One more block: the sum so far is rescaled to the new shift and the block's terms are added below it. -/
theorem running_step {b : ℕ} (s : ℕ → Fin b → ℝ) (v : ℕ → Fin b → EReal) (n : ℕ) (M M' : ℝ) :
    running s v n M * Ideal.exp2 ((M : EReal) - (M' : EReal))
        + ∑ k, v n k * Ideal.exp2 ((s n k : EReal) - (M' : EReal)) = running s v (n + 1) M' := by
  have h2 : ∀ x y : ℝ, Ideal.exp2 ((x : EReal) - (y : EReal)) = (((2 : ℝ) ^ (x - y) : ℝ) : EReal) := fun x y => by
    rw [← EReal.coe_sub]; exact Ideal.exp2_coe _
  unfold running
  rw [Finset.sum_range_succ, h2, sum_mul_real _ _ _ (Real.rpow_nonneg zero_le_two _)]
  congr 1
  · refine Finset.sum_congr rfl fun j _ => ?_
    rw [sum_mul_real _ _ _ (Real.rpow_nonneg zero_le_two _)]
    refine Finset.sum_congr rfl fun k _ => ?_
    rw [mul_assoc, ← EReal.coe_mul, rescale]

/-- The weight that the `k`-th of the scores `y` has. -/
def weight {n : ℕ} (y : Fin n → ℝ) (k : Fin n) : ℝ := Real.exp (y k) / ∑ i, Real.exp (y i)

/-- A shift of all the scores changes no weight. -/
theorem weight_shift {n : ℕ} (y : Fin n → ℝ) (c : ℝ) (k : Fin n) :
    Real.exp (y k - c) / ∑ i, Real.exp (y i - c) = weight y k := by
  unfold weight
  simp only [Real.exp_sub]
  rw [← Finset.sum_div, div_div_div_cancel_right₀ (Real.exp_pos c).ne']

/-- Scores counted in units of `log 2` have the same weights in powers of two. -/
theorem weight_two {n : ℕ} (s y : Fin n → ℝ) (h : ∀ k, s k = y k * (Real.log 2)⁻¹) (M : ℝ) (k : Fin n) :
    (2 : ℝ) ^ (s k - M) / ∑ i, (2 : ℝ) ^ (s i - M) = weight y k := by
  have hl : Real.log 2 ≠ 0 := (Real.log_pos one_lt_two).ne'
  have e : ∀ i, (2 : ℝ) ^ (s i - M) = Real.exp (y i - M * Real.log 2) := fun i => by
    rw [Real.rpow_def_of_pos two_pos, h]; congr 1; field_simp
  simp only [e]
  exact weight_shift y _ k

/-- The quotient of a weighted sum by the sum of its weights. -/
theorem div_running {n : ℕ} (s y : Fin n → ℝ) (h : ∀ k, s k = y k * (Real.log 2)⁻¹) (v : Fin n → EReal) (M : ℝ)
    (h0 : 0 < n) :
    Ideal.div (∑ k, v k * (((2 : ℝ) ^ (s k - M) : ℝ) : EReal)) (∑ k, (1 : EReal) * (((2 : ℝ) ^ (s k - M) : ℝ) : EReal))
      = ∑ k, v k * ((weight y k : ℝ) : EReal) := by
  have hp : 0 < ∑ k, (2 : ℝ) ^ (s k - M) :=
    Finset.sum_pos (fun k _ => Real.rpow_pos_of_pos two_pos _) ⟨⟨0, h0⟩, Finset.mem_univ _⟩
  simp only [one_mul]
  rw [sum_real]
  unfold Ideal.div
  rw [if_neg (by exact_mod_cast hp.ne'), ← EReal.coe_inv, sum_mul_real _ _ _ (inv_nonneg.2 hp.le)]
  refine Finset.sum_congr rfl fun k _ => ?_
  rw [mul_assoc, ← EReal.coe_mul, ← div_eq_mul_inv, weight_two s y h M k]

/-- The weight as a quotient of exponentials below any real shift. -/
theorem div_exp {n : ℕ} (y : Fin n → ℝ) (Y : ℝ) (h0 : 0 < n) (k : Fin n) :
    Ideal.div (Ideal.exp ((y k : EReal) - (Y : EReal))) (∑ i, Ideal.exp ((y i : EReal) - (Y : EReal)))
      = ((weight y k : ℝ) : EReal) := by
  have he : ∀ i, Ideal.exp ((y i : EReal) - (Y : EReal)) = ((Real.exp (y i - Y) : ℝ) : EReal) := fun i => by
    rw [← EReal.coe_sub]; exact Ideal.exp_coe _
  have hp : 0 < ∑ i, Real.exp (y i - Y) := Finset.sum_pos (fun i _ => Real.exp_pos _) ⟨⟨0, h0⟩, Finset.mem_univ _⟩
  simp only [he]
  rw [sum_real]
  unfold Ideal.div
  rw [if_neg (by exact_mod_cast hp.ne'), ← EReal.coe_inv, ← EReal.coe_mul, ← div_eq_mul_inv, weight_shift]

/-- A sum over all keys, block by block. -/
theorem sum_blocks {M : Type*} [AddCommMonoid M] (a b : ℕ) (f : ℕ → M) :
    ∑ j ∈ Finset.range a, ∑ k : Fin b, f (b * j + k) = ∑ i : Fin (a * b), f i := by
  rw [Finset.sum_range, ← finProdFinEquiv.sum_comp, Fintype.sum_prod_type]
  refine Finset.sum_congr rfl fun j _ => Finset.sum_congr rfl fun k _ => ?_
  rw [finProdFinEquiv_apply_val, add_comm]

end Cert.Attn

end
-- ==== Proof.Planes.lean ====
module

public import proofs.«01_k».proof.Proof.Weights
public import proofs.«01_k».proof.Proof.Loads
public import Idealize.ShloMosaic.Lib.Pointwise
public import Idealize.ShloMosaic.Lib.IdealHost
public import Idealize.ShloMosaic.Lib.Pipeline.FrameBody

@[expose] public section

set_option maxRecDepth 16384

noncomputable section

/-! What the first point of a batch stores into the two scratch buffers: for each key and value head a plane of its keys,
and a plane of its values with ones below. -/

namespace Cert.Attn

open Idealize.ShloMosaic Cert.KernelIdeal Cert.KernelIdeal.Facts₀

section Stack

variable {e : EltTy} {Val : EltTy → Type} [∀ e, Nonempty (Val e)] {A B : ℕ}

theorem plane_inb (h : Fin 4) (a : Fin 3) :
    (![h.val, 0, 0] : Fin 3 → ℕ) a + (⟨3, ![1, A, B]⟩ : Shape).size a ≤ (⟨3, ![4, A, B]⟩ : Shape).size a := by
  match a with
  | 0 => show h.val + 1 ≤ 4; omega
  | 1 => show 0 + A ≤ A; omega
  | 2 => show 0 + B ≤ B; omega

/-- Planes stored one by one. -/
def planes (w : Fin 4 → (⟨3, ![1, A, B]⟩ : Shape).Idx → Val e) (l : List (Fin 4)) :
    List (View.Piece Val (⟨3, ![4, A, B]⟩ : Shape) e) :=
  l.map fun h => ⟨Rect.unit (s := ⟨3, ![4, A, B]⟩) ![h.val, 0, 0] (⟨3, ![1, A, B]⟩ : Shape).size (plane_inb h), w h⟩

/-- A plane that was stored is read back. -/
theorem canon_planes (w : Fin 4 → (⟨3, ![1, A, B]⟩ : Shape).Idx → Val e) (l : List (Fin 4)) (h : Fin 4) (hl : h ∈ l)
    (a : Fin A) (b : Fin B) : View.canon (planes w l) (ix3 h a b) = w h (ix3 0 a b) := by
  induction l with
  | nil => exact absurd hl List.not_mem_nil
  | cons h' l ih =>
    by_cases hh : h = h'
    · subst hh
      have e1 : (Rect.unit (s := ⟨3, ![4, A, B]⟩) ![h.val, 0, 0] (⟨3, ![1, A, B]⟩ : Shape).size (plane_inb h)).emb
          (ix3 0 a b) = ix3 h a b := funext fun x => Fin.ext (by
        match x with
        | 0 => show h.val + 1 * 0 = h.val; omega
        | 1 => show 0 + 1 * a.val = a.val; omega
        | 2 => show 0 + 1 * b.val = b.val; omega)
      rw [← e1]
      exact View.canon_cons_emb (Rect.unit (s := ⟨3, ![4, A, B]⟩) ![h.val, 0, 0] (⟨3, ![1, A, B]⟩ : Shape).size (plane_inb h)) (w h) (planes w l) (ix3 0 a b)
    · refine (View.canon_cons_of_not_mem _ (planes w l) ?_).trans (ih ((List.mem_cons.mp hl).resolve_left hh))
      rw [Rect.mem_set_unit]
      intro hall
      have h0 : h'.val ≤ h.val ∧ h.val < h'.val + 1 := hall 0
      exact hh (Fin.ext (by omega))

end Stack

section Planes

variable {F : FTy → Type} [FloatOps F]

/-- The 0/1 matrix that picks the columns of head `h`. -/
def picks (h : Fin 4) : FVec F S256x64 .bf16 :=
  truncf .bf16 (select (cmpi .eq (iota .tc S256x64 32 [0] iota_S256x64_d0_w32)
      (addi (broadcast S256x64 (BitVec.ofNat 32 (64 * h.val))) (iota .tc S256x64 32 [1] iota_S256x64_d1_w32)))
    (broadcast S256x64 (Scalar.ofBits .f32 0x3F800000#32)) (broadcast S256x64 (Scalar.ofBits .f32 0x00000000#32)))
    bitsLt_bf16_f32

/-- The keys of head `h`. -/
def keyPlane (x : Vec F S1x2048x256 .bf16) (h : Fin 4) : FVec F S1x2048x64 .bf16 :=
  shapeCast S1x2048x64 (truncf .bf16 (matmul dot_S2048x256_S256x64_S2048x64_1_0_0_1_n_n none
    (shapeCast S2048x256 x shapeCasts_S1x2048x256_S2048x256) (picks h) (constant S2048x64 .f32 0x00000000#32))
    bitsLt_bf16_f32) shapeCasts_S2048x64_S1x2048x64

theorem slices_head (h : Fin 4) : S256x2048.Slices ![64 * h.val, 0] S64x2048 := by revert h; decide

/-- The values of head `h`, turned, with ones below. -/
def valuePlane (x : Vec F S1x2048x256 .bf16) (h : Fin 4) : FVec F S1x80x2048 .bf16 :=
  shapeCast S1x80x2048 (concatenate S80x2048 0
    [⟨S64x2048, extractStridedSlice S64x2048 ![64 * h.val, 0]
        (truncf .bf16 (transpose S256x2048 [1, 0]
          (extf .f32 (shapeCast S2048x256 x shapeCasts_S1x2048x256_S2048x256) bitsLt_bf16_f32)
          transposes_S2048x256_p1_0_S256x2048) bitsLt_bf16_f32) (slices_head h)⟩,
      ⟨S16x2048, broadcast S16x2048 (Scalar.ofBits .bf16 0x3F80#16)⟩] concatenates_S64x2048_S16x2048_S80x2048_d0)
    shapeCasts_S80x2048_S1x80x2048

end Planes

theorem picks_apply (h : Fin 4) (c : Fin 256) (d : Fin 64) :
    picks (F := Ideal) h (ix2 c d) = if c.val = 64 * h.val + d.val then 1 else 0 := by
  pointwise [picks]
  have e : IntOp.addi (BitVec.ofNat 32 (64 * h.val)) (BitVec.ofNat 32 d.val) = BitVec.ofNat 32 (64 * h.val + d.val) :=
    (BitVec.ofNat_add _ _).symm
  rw [e]
  have hc : c.val < 2 ^ 32 := by omega
  have hd : 64 * h.val + d.val < 2 ^ 32 := by omega
  by_cases hcd : c.val = 64 * h.val + d.val
  · rw [if_pos hcd, hcd]
    simp [IntOp.cmpi, Scalar.select]
  · rw [if_neg hcd]
    have hne : BitVec.ofNat 32 c.val ≠ BitVec.ofNat 32 (64 * h.val + d.val) := fun he => hcd (by
      have := congrArg BitVec.toNat he
      rwa [BitVec.toNat_ofNat, BitVec.toNat_ofNat, Nat.mod_eq_of_lt hc, Nat.mod_eq_of_lt hd] at this)
    have hb : (BitVec.ofNat 32 c.val == BitVec.ofNat 32 (64 * h.val + d.val)) = false := beq_eq_false_iff_ne.mpr hne
    simp [IntOp.cmpi, Scalar.select, hb]

/-- With finite entries the product with the 0/1 matrix is the picked column. -/
theorem keyPlane_apply (x : Vec Ideal S1x2048x256 .bf16) (h : Fin 4) (k : Fin 2048) (d : Fin 64)
    (hx : ∀ c, ∃ r : ℝ, x (ix3 0 k c) = (r : EReal)) :
    keyPlane x h (ix3 0 k d) = x (ix3 0 k ⟨64 * h.val + d.val, by omega⟩) := by
  have e1 : keyPlane x h (ix3 0 k d) = ∑ c : Fin 256, x (ix3 0 k c) * picks (F := Ideal) h (ix2 c d) := by
    pointwise [keyPlane]
  rw [e1, Finset.sum_eq_single (⟨64 * h.val + d.val, by omega⟩ : Fin 256)]
  · rw [picks_apply, if_pos rfl, mul_one]
  · intro c _ hc
    rw [picks_apply, if_neg fun he => hc (Fin.ext he), mul_zero]
  · exact fun hc => absurd (Finset.mem_univ _) hc

theorem valuePlane_apply (x : Vec Ideal S1x2048x256 .bf16) (h : Fin 4) (k : Fin 2048) (d : Fin 64) :
    valuePlane x h (ix3 0 ⟨d.val, by omega⟩ k) = x (ix3 0 k ⟨64 * h.val + d.val, by omega⟩) := by
  pointwise [valuePlane]

theorem valuePlane_ones (x : Vec Ideal S1x2048x256 .bf16) (h : Fin 4) (k : Fin 2048) :
    valuePlane x h (ix3 0 64 k) = 1 := by
  pointwise [valuePlane]

theorem keyBlocks_apply (v : View sig .tc .vmem S4x2048x64 .bf16) (f : v.ty.Contents (Elt Ideal)) (h : Fin 4) (j : Fin 16)
    (a : Fin 128) (d : Fin 64) :
    keyBlocks v f h j (ix3 0 a d) = v.read (Elt Ideal) f (ix3 h ⟨128 * j.val + a.val, by omega⟩ d) := by
  refine congrArg (v.read (Elt Ideal) f) (funext fun x => Fin.ext ?_)
  match x with
  | 0 => show h.val + 1 * 0 = h.val; omega
  | 1 => show 128 * j.val + 1 * a.val = 128 * j.val + a.val; omega
  | 2 => show 0 + 1 * d.val = d.val; omega

theorem valueBlocks_apply (v : View sig .tc .vmem S4x80x2048 .bf16) (f : v.ty.Contents (Elt Ideal)) (h : Fin 4) (j : Fin 16)
    (r : Fin 80) (a : Fin 128) :
    valueBlocks v f h j (ix3 0 r a) = v.read (Elt Ideal) f (ix3 h r ⟨128 * j.val + a.val, by omega⟩) := by
  refine congrArg (v.read (Elt Ideal) f) (funext fun x => Fin.ext ?_)
  match x with
  | 0 => show h.val + 1 * 0 = h.val; omega
  | 1 => show 0 + 1 * r.val = r.val; omega
  | 2 => show 128 * j.val + 1 * a.val = 128 * j.val + a.val; omega

end Cert.Attn

end
-- ==== Proof.PlanesA.lean ====
module

public import proofs.«01_k».proof.Proof.Planes
public import proofs.«01_k».proof.Proof.Gen.KernelIdeal.Frame.RunA

@[expose] public section

set_option maxRecDepth 16384

noncomputable section

/-! The pieces that the first point of a batch stores into the two scratch buffers. -/

namespace Cert.Attn

open Idealize.ShloMosaic Cert.KernelIdeal Cert.KernelIdeal.Gen

variable {F : FTy → Type} [FloatOps F] [Named F]

variable (c : Dev nD) (i : grid0.Coords) (arg2 : Memref sig .tc .vmem S1x512x1024 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x512x1024 .bf16) (harg5 : arg5.IsWhole)
    (arg6 : Memref sig .tc .vmem S4x2048x64 .bf16) (harg6 : arg6.IsWhole)
    (arg7 : Memref sig .tc .vmem S4x80x2048 .bf16) (harg7 : arg7.IsWhole) (hc0 : cond0_0 i)
    (x0 : Vec F S1x512x1024 .bf16) (x1 : Vec F S1x2048x256 .bf16) (x2 : Vec F S1x2048x256 .bf16)

theorem stored_keys :
    (kernelRun0_A c i arg2 harg2 arg3 harg3 arg4 harg4 arg5 harg5 arg6 harg6 arg7 harg7 hc0 x0 x1 x2).2.1
      = planes (keyPlane (View.readAt (Elt F) arg3.view
          (Rect.unit ![0, 0, 0] S1x2048x256.size inb_S1x2048x256_S1x2048x256_0_0_0).toLoadRect (harg3.unread x1)))
        [3, 2, 1, 0] := by
  sl_kernel_rfl

theorem stored_values :
    (kernelRun0_A c i arg2 harg2 arg3 harg3 arg4 harg4 arg5 harg5 arg6 harg6 arg7 harg7 hc0 x0 x1 x2).2.2.1
      = planes (valuePlane (View.readAt (Elt F) arg4.view
          (Rect.unit ![0, 0, 0] S1x2048x256.size inb_S1x2048x256_S1x2048x256_0_0_0).toLoadRect (harg4.unread x2)))
        [3, 2, 1, 0] := by
  sl_kernel_rfl

end Cert.Attn

end
-- ==== Proof.Reads.lean ====
module

public import proofs.«01_k».proof.Proof.Tiles
public import proofs.«01_k».proof.Proof.Weights
public import Idealize.ShloMosaic.Lib.Pointwise

@[expose] public section

set_option maxRecDepth 16384

noncomputable section

/-! The grid point's pieces read at an index over the extended reals. -/

namespace Cert.Attn

open Idealize.ShloMosaic Cert.KernelIdeal Cert.KernelIdeal.Facts₀

theorem turned_apply (x : Vec Ideal S1x512x1024 .bf16) (r : Fin 1024) (i : Fin 512) :
    turned x (ix2 r i) = x (ix3 0 i r) * (((1 / 8) * (Real.log 2)⁻¹ : ℝ) : EReal) := by
  pointwise [turned]
  rfl

theorem scores_apply (k : Vec Ideal S1x128x64 .bf16) (q : FVec Ideal S64x256 .bf16) (a : Fin 128) (b : Fin 256) :
    scores k q (ix2 a b) = ∑ d : Fin 64, k (ix3 0 a d) * q (ix2 d b) := by
  pointwise [scores]

theorem higher_apply (m : FVec Ideal S1x256 .f32) (s : FVec Ideal S128x256 .f32) (b : Fin 256) :
    higher m s (ix2 0 b) = max (m (ix2 0 b)) (Finset.univ.fold max ⊥ fun a : Fin 128 => s (ix2 a b)) := by
  pointwise [higher]
  rfl

theorem gathered_apply (m m' : FVec Ideal S1x256 .f32) (a : FVec Ideal S80x256 .f32) (s : FVec Ideal S128x256 .f32)
    (v : Vec Ideal S1x80x128 .bf16) (r : Fin 80) (b : Fin 256) :
    gathered m m' a s v (ix2 r b) = a (ix2 r b) * Ideal.exp2 (m (ix2 0 b) - m' (ix2 0 b))
      + ∑ k : Fin 128, v (ix3 0 r k) * Ideal.exp2 (s (ix2 k b) - m' (ix2 0 b)) := by
  pointwise [gathered]
  rfl

theorem quotient_apply (a : FVec Ideal S80x256 .f32) (d : Fin 64) (b : Fin 256) :
    quotient a (ix2 d b) = Ideal.div (a (ix2 ⟨d.val, by omega⟩ b)) (a (ix2 64 b)) := by
  pointwise [quotient]

end Cert.Attn

end
-- ==== Proof.Heads.lean ====
module

public import proofs.«01_k».proof.Proof.Reads
public import Idealize.ShloMosaic.Lib.Pipeline.Value

@[expose] public section

set_option maxRecDepth 16384

noncomputable section

/-! The sweep over the blocks of keys read as one sum over all the keys, and the quotient as the softmax-weighted sum of
the values. -/

namespace Cert.Attn

open Idealize.ShloMosaic Cert.KernelIdeal Cert.KernelIdeal.Facts₀

/-- The maximum the sweep starts from is a real number. -/
theorem start_real : ∃ r : ℝ, Ideal.ofBits .f32 0xF149F2CA#32 = (r : EReal) := by
  refine ⟨-13234890 * (2 : ℝ) ^ 76, ?_⟩
  simp [Ideal.ofBits, Ideal.ieee]

/-- After `n` blocks the maximum is real, and the sums are the running sums below it. -/
theorem sweep_apply (s : Fin 16 → FVec Ideal S128x256 .f32) (v : Fin 16 → Vec Ideal S1x80x128 .bf16)
    (S : ℕ → Fin 128 → ℝ) (b : Fin 256) (hs : ∀ j : Fin 16, ∀ a, s j (ix2 a b) = (S j.val a : ℝ)) (n : ℕ) (hn : n ≤ 16) :
    ∃ M : ℝ, (sweep s v n).1 (ix2 0 b) = (M : EReal)
      ∧ ∀ r, (sweep s v n).2 (ix2 r b) = running S (fun j k => v (Fin.ofNat 16 j) (ix3 0 r k)) n M := by
  induction n with
  | zero =>
    obtain ⟨r, hr⟩ := start_real
    refine ⟨r, hr, fun r' => ?_⟩
    show Ideal.ofBits .f32 0x00000000#32 = _
    rw [Ideal.ofBits_zero_f32]
    simp [running]
  | succ n ih =>
    obtain ⟨M, hM, hA⟩ := ih (by omega)
    have hj : (Fin.ofNat 16 n).val = n := Nat.mod_eq_of_lt (by omega)
    have hs' : ∀ a, s (Fin.ofNat 16 n) (ix2 a b) = (S n a : ℝ) := fun a => by rw [hs, hj]
    obtain ⟨X, hX⟩ := fold_max_real (fun a : Fin 128 => s (Fin.ofNat 16 n) (ix2 a b)) (fun a => ⟨_, hs' a⟩) (by decide)
    have hM' : higher (sweep s v n).1 (s (Fin.ofNat 16 n)) (ix2 0 b) = ((max M X : ℝ) : EReal) := by
      rw [higher_apply, hM, hX]; exact (EReal.coe_strictMono.monotone.map_max).symm
    refine ⟨max M X, hM', fun r => ?_⟩
    show gathered (sweep s v n).1 (higher (sweep s v n).1 (s (Fin.ofNat 16 n))) (sweep s v n).2 (s (Fin.ofNat 16 n))
      (v (Fin.ofNat 16 n)) (ix2 r b) = _
    rw [gathered_apply, hM, hM', hA]
    simp only [hs']
    exact running_step S (fun j k => v (Fin.ofNat 16 j) (ix3 0 r k)) n M (max M X)

/-- A head's tile of the result: the values weighted by the softmax of the scores. -/
theorem headTile_apply (q : FVec Ideal S1024x512 .bf16) (k : Fin 4 → Fin 16 → Vec Ideal S1x128x64 .bf16)
    (v : Fin 4 → Fin 16 → Vec Ideal S1x80x128 .bf16) (h : Fin 16) (g : Fin 2) (d : Fin 64) (b : Fin 256)
    (Q : Fin 64 → ℝ) (K : ℕ → Fin 64 → ℝ) (V : ℕ → EReal)
    (hq : ∀ e : Fin 64, q (ix2 ⟨64 * h.val + e.val, by omega⟩ ⟨256 * g.val + b.val, by omega⟩)
      = ((Q e * ((1 / 8) * (Real.log 2)⁻¹) : ℝ) : EReal))
    (hk : ∀ j a e, k (kvHead h) j (ix3 0 a e) = (K (128 * j.val + a.val) e : ℝ))
    (hv : ∀ j a, v (kvHead h) j (ix3 0 ⟨d.val, by omega⟩ a) = V (128 * j.val + a.val))
    (h1 : ∀ j a, v (kvHead h) j (ix3 0 64 a) = 1) :
    headTile q k v h g (ix2 d b)
      = ∑ i : Fin 2048, V i.val * ((weight (fun i : Fin 2048 => (∑ e, K i.val e * Q e) * (1 / 8)) i : ℝ) : EReal) := by
  let S : ℕ → ℝ := fun i => (∑ e, K i e * Q e) * (1 / 8) * (Real.log 2)⁻¹
  have hs : ∀ j : Fin 16, ∀ a : Fin 128, scores (k (kvHead h) j)
      (extractStridedSlice S64x256 ![64 * h.val, 256 * g.val] q (slices_tile h g)) (ix2 a b)
        = ((S (128 * j.val + a.val) : ℝ) : EReal) := fun j a => by
    rw [scores_apply]
    have hx : ∀ e : Fin 64, extractStridedSlice S64x256 ![64 * h.val, 256 * g.val] q (slices_tile h g) (ix2 e b)
        = ((Q e * ((1 / 8) * (Real.log 2)⁻¹) : ℝ) : EReal) := fun e => by
      rw [← hq e]
      pointwise
    simp only [hx, hk, ← EReal.coe_mul]
    rw [sum_real]
    refine congrArg _ ?_
    show _ = (∑ e, K _ e * Q e) * (1 / 8) * (Real.log 2)⁻¹
    rw [mul_assoc, Finset.sum_mul]
    exact Finset.sum_congr rfl fun e _ => by ring
  obtain ⟨M, -, hA⟩ := sweep_apply _ (v (kvHead h)) (fun j a => S (128 * j + a.val)) b hs 16 le_rfl
  have hj : ∀ j, j ∈ Finset.range 16 → (Fin.ofNat 16 j).val = j := fun j hj =>
    Nat.mod_eq_of_lt (Finset.mem_range.mp hj)
  unfold headTile
  rw [quotient_apply, hA, hA]
  have e1 : running (fun j (a : Fin 128) => S (128 * j + a.val))
      (fun j a => v (kvHead h) (Fin.ofNat 16 j) (ix3 0 ⟨d.val, by omega⟩ a)) 16 M
        = ∑ i : Fin 2048, V i.val * (((2 : ℝ) ^ (S i.val - M) : ℝ) : EReal) := by
    unfold running
    rw [← sum_blocks 16 128 fun i => V i * (((2 : ℝ) ^ (S i - M) : ℝ) : EReal)]
    exact Finset.sum_congr rfl fun j h => Finset.sum_congr rfl fun a _ => by
      show v (kvHead _) _ _ * _ = _; rw [hv, hj j h]
  have e2 : running (fun j (a : Fin 128) => S (128 * j + a.val))
      (fun j a => v (kvHead h) (Fin.ofNat 16 j) (ix3 0 64 a)) 16 M
        = ∑ i : Fin 2048, 1 * (((2 : ℝ) ^ (S i.val - M) : ℝ) : EReal) := by
    unfold running
    rw [← sum_blocks 16 128 fun i => 1 * (((2 : ℝ) ^ (S i - M) : ℝ) : EReal)]
    exact Finset.sum_congr rfl fun j h => Finset.sum_congr rfl fun a _ => by
      show v (kvHead _) _ _ * _ = _; rw [h1]
  rw [e1, e2]
  exact div_running (fun i : Fin 2048 => S i.val) _ (fun i => rfl) (fun i => V i.val) M (by decide)

/-- The turning of the heads' rows back into the block, read at an index. -/
theorem turned_back (y : FVec Ideal S1024x512 .f32) (i : Fin 512) (r : Fin 1024) :
    shapeCast S1x512x1024 (truncf .bf16 (transpose S512x1024 [1, 0] y transposes_S1024x512_p1_0_S512x1024)
      bitsLt_bf16_f32) shapeCasts_S512x1024_S1x512x1024 (ix3 0 i r) = y (ix2 r i) := by
  pointwise

/-- The block at an index is the head's tile at its place. -/
theorem block_apply (x : Vec Ideal S1x512x1024 .bf16) (k : Fin 4 → Fin 16 → Vec Ideal S1x128x64 .bf16)
    (v : Fin 4 → Fin 16 → Vec Ideal S1x80x128 .bf16) (h : Fin 16) (d : Fin 64) (g : Fin 2) (b : Fin 256) :
    block x k v (ix3 0 ⟨256 * g.val + b.val, by omega⟩ ⟨64 * h.val + d.val, by omega⟩)
      = headTile (turned x) k v h g (ix2 d b) := by
  have hc := concatenate_ofFn_apply (t := S1024x512) (s₁ := S64x512) 0
    (fun h : Fin 16 => concatenate S64x512 1 [⟨S64x256, headTile (turned x) k v h 0⟩,
      ⟨S64x256, headTile (turned x) k v h 1⟩] concatenates_S64x256_S64x256_S64x512_d1)
    (by rw [List.map_ofFn]; exact rows_side_by_side) rfl 64 rfl
    (ix2 ⟨64 * h.val + d.val, by omega⟩ ⟨256 * g.val + b.val, by omega⟩) h
    (by show (64 * h.val + d.val) / 64 = h.val; omega) (ix2 d ⟨256 * g.val + b.val, by omega⟩)
    (by show d.val = (64 * h.val + d.val) % 64; omega)
    (fun a ha => by
      match a with
      | ⟨0, _⟩ => exact absurd rfl ha
      | ⟨1, _⟩ => rfl)
  refine (turned_back _ _ _).trans (hc.trans ?_)
  pointwise
  match g with
  | 0 => rw [dif_pos (by show 256 * 0 + b.val < 256; omega)]; congr 2; apply Fin.ext; show 256 * 0 + b.val = b.val; omega
  | 1 =>
    rw [dif_neg (by show ¬256 * 1 + b.val < 256; omega)]; congr 2; apply Fin.ext
    show 256 * 1 + b.val - 256 = b.val; omega

end Cert.Attn

end
-- ==== Proof.Batches.lean ====
module

public import proofs.«01_k».proof.Proof.PointA
public import proofs.«01_k».proof.Proof.PointB
public import proofs.«01_k».proof.Proof.PlanesA
public import proofs.«01_k».proof.Proof.Heads
public import proofs.«01_k».proof.Proof.Gen.KernelIdeal.Frame

@[expose] public section

set_option maxRecDepth 16384

noncomputable section

/-! What each point of the grid stores: the four points of a batch read the planes that the batch's first point stored. -/

namespace Cert.Attn

open Idealize.ShloMosaic Cert.KernelIdeal Cert.KernelIdeal.Gen

theorem zeros_three : (![0, 0, 0] : Fin 3 → ℕ) = fun _ => 0 := by decide

/-- A load of a whole buffer through its zero rectangle reads what it holds. -/
theorem readAt_unread {Val : EltTy → Type} {S : Shape} {e : EltTy} (mr : Memref sig .tc .vmem S e) (hm : mr.IsWhole)
    {off : Fin S.rank → ℕ} (h : off = fun _ => 0) (inb : ∀ a, off a + S.size a ≤ S.size a) (x : S.Idx → Val e) :
    View.readAt Val mr.view (Rect.unit off S.size inb).toLoadRect (hm.unread x) = x := by
  subst h
  funext y
  rw [View.readAt_apply, hm.read_unread]
  refine congrArg x (funext fun a => Fin.ext ?_)
  show 0 + 1 * (y a).val = (y a).val
  omega

/-! ## One run -/

section Run

variable (c : Dev nD) (i : grid0.Coords) (arg2 : Memref sig .tc .vmem S1x512x1024 .bf16) (harg2 : arg2.IsWhole)
    (arg3 : Memref sig .tc .vmem S1x2048x256 .bf16) (harg3 : arg3.IsWhole)
    (arg4 : Memref sig .tc .vmem S1x2048x256 .bf16) (harg4 : arg4.IsWhole)
    (arg5 : Memref sig .tc .vmem S1x512x1024 .bf16) (harg5 : arg5.IsWhole)
    (arg6 : Memref sig .tc .vmem S4x2048x64 .bf16) (harg6 : arg6.IsWhole)
    (arg7 : Memref sig .tc .vmem S4x80x2048 .bf16) (harg7 : arg7.IsWhole)
    (x0 : Vec Ideal S1x512x1024 .bf16) (x1 x2 : Vec Ideal S1x2048x256 .bf16)

theorem keys_left (hc0 : cond0_0 i) :
    sout0_A_0 c i arg2 harg2 arg3 harg3 arg4 harg4 arg5 harg5 arg6 harg6 arg7 harg7 hc0 x0 x1 x2
      = View.canon (planes (keyPlane x1) [3, 2, 1, 0]) := by
  refine (View.read_writes_junk_eq_canon _ _).trans (congrArg View.canon ((stored_keys ..).trans ?_))
  rw [readAt_unread _ _ zeros_three]

theorem values_left (hc0 : cond0_0 i) :
    sout0_A_1 c i arg2 harg2 arg3 harg3 arg4 harg4 arg5 harg5 arg6 harg6 arg7 harg7 hc0 x0 x1 x2
      = View.canon (planes (valuePlane x2) [3, 2, 1, 0]) := by
  refine (View.read_writes_junk_eq_canon _ _).trans (congrArg View.canon ((stored_values ..).trans ?_))
  rw [readAt_unread _ _ zeros_three]

/-- A block of the result over scratch contents `X` and `Y`. -/
def BlockOver (o : Vec Ideal S1x512x1024 .bf16) (x0 : Vec Ideal S1x512x1024 .bf16) (X : Vec Ideal S4x2048x64 .bf16)
    (Y : Vec Ideal S4x80x2048 .bf16) : Prop :=
  ∃ (k : Fin 4 → Fin 16 → Vec Ideal S1x128x64 .bf16) (v : Fin 4 → Fin 16 → Vec Ideal S1x80x128 .bf16),
    o = block x0 k v
    ∧ (∀ (h : Fin 4) (j : Fin 16) (a : Fin 128) (d : Fin 64), k h j (ix3 0 a d) = X (ix3 h ⟨128 * j.val + a.val, by omega⟩ d))
    ∧ (∀ (h : Fin 4) (j : Fin 16) (r : Fin 80) (a : Fin 128), v h j (ix3 0 r a) = Y (ix3 h r ⟨128 * j.val + a.val, by omega⟩))

theorem first_left (hc0 : cond0_0 i) :
    BlockOver (out0_A_3 c i arg2 harg2 arg3 harg3 arg4 harg4 arg5 harg5 arg6 harg6 arg7 harg7 hc0 x0 x1 x2) x0
      (View.canon (planes (keyPlane x1) [3, 2, 1, 0])) (View.canon (planes (valuePlane x2) [3, 2, 1, 0])) := by
  refine ⟨_, _, (View.read_writes_junk_eq_canon _ _).trans ((congrArg View.canon (stored_first ..)).trans
    ((View.canon_unit_zero zeros_three _ _).trans (congrArg (block · _ _) (readAt_unread _ _ zeros_three _ _)))),
    fun h j a d => ?_, fun h j r a => ?_⟩
  · refine (keyBlocks_apply ..).trans ((congrFun (View.read_writes_junk_eq_canon _ _) _).trans ?_)
    rw [stored_keys, readAt_unread _ _ zeros_three]
  · refine (valueBlocks_apply ..).trans ((congrFun (View.read_writes_junk_eq_canon _ _) _).trans ?_)
    rw [stored_values, readAt_unread _ _ zeros_three]

theorem later_left (hc0 : ¬cond0_0 i) (X : Vec Ideal S4x2048x64 .bf16) (Y : Vec Ideal S4x80x2048 .bf16) :
    BlockOver (out0_B_3 c i arg2 harg2 arg3 harg3 arg4 harg4 arg5 harg5 arg6 harg6 arg7 harg7 hc0 x0 x1 x2 X Y) x0 X Y := by
  refine ⟨_, _, (View.read_writes_junk_eq_canon _ _).trans ((congrArg View.canon (stored_later ..)).trans
    ((View.canon_unit_zero zeros_three _ _).trans (congrArg (block · _ _) (readAt_unread _ _ zeros_three _ _)))),
    fun h j a d => ?_, fun h j r a => ?_⟩
  · exact (keyBlocks_apply ..).trans (congrFun (harg6.read_unread X) _)
  · exact (valueBlocks_apply ..).trans (congrFun (harg7.read_unread Y) _)

end Run

variable (m : (ℓ : Loc nD τ sig) → Buf (Elt Ideal) ℓ)

/-! ## The input blocks -/

theorem indices : ∀ t : Fin cfg0.N,
    (win0_0.index t (0 : Fin 3) = t.val / 4 ∧ win0_0.index t (1 : Fin 3) = t.val % 4 ∧ win0_0.index t (2 : Fin 3) = 4)
    ∧ (win0_1.index t (0 : Fin 3) = t.val / 4 ∧ win0_1.index t (1 : Fin 3) = 0 ∧ win0_1.index t (2 : Fin 3) = 40)
    ∧ (win0_2.index t (0 : Fin 3) = t.val / 4 ∧ win0_2.index t (1 : Fin 3) = 0 ∧ win0_2.index t (2 : Fin 3) = 41) :=
  (by decide +kernel : ∀ t : Fin grid0.N, _)

theorem lt_points (t : Fin cfg0.N) : t.val < 64 := lt_of_lt_of_eq t.isLt (show cfg0.N = 64 from N_0)

/-- The batch of a point. -/
def batch (t : Fin cfg0.N) : Fin 16 := ⟨t.val / 4, by have := lt_points t; omega⟩

/-- The input array. -/
abbrev proj (c : Dev nD) : S16x2048x11264.Idx → EReal := m ((c.tc : Thread nD τ).loc main_arg0)

def queryBlock (c : Dev nD) (t : Fin cfg0.N) : Vec Ideal S1x512x1024 .bf16 := iblk m c 0 t
def keyBlock (c : Dev nD) (t : Fin cfg0.N) : Vec Ideal S1x2048x256 .bf16 := iblk m c 1 t
def valueBlock (c : Dev nD) (t : Fin cfg0.N) : Vec Ideal S1x2048x256 .bf16 := iblk m c 2 t

theorem queryBlock_apply (c : Dev nD) (t : Fin cfg0.N) (i : Fin 512) (e : Fin 1024) :
    queryBlock m c t (ix3 0 i e)
      = proj m c (ix3 (batch t) ⟨512 * (t.val % 4) + i.val, by omega⟩ ⟨4096 + e.val, by omega⟩) := by
  obtain ⟨⟨h0, h1, h2⟩, _, _⟩ := indices t
  refine congrArg (proj m c) (funext fun a => Fin.ext ?_)
  match a with
  | 0 => show win0_0.index t (0 : Fin 3) * 1 + 1 * 0 = t.val / 4; rw [h0]; omega
  | 1 => show win0_0.index t (1 : Fin 3) * 512 + 1 * i.val = 512 * (t.val % 4) + i.val; rw [h1]; omega
  | 2 => show win0_0.index t (2 : Fin 3) * 1024 + 1 * e.val = 4096 + e.val; rw [h2]; omega

theorem keyBlock_apply (c : Dev nD) (t : Fin cfg0.N) (k : Fin 2048) (e : Fin 256) :
    keyBlock m c t (ix3 0 k e) = proj m c (ix3 (batch t) k ⟨10240 + e.val, by omega⟩) := by
  obtain ⟨_, ⟨h0, h1, h2⟩, _⟩ := indices t
  refine congrArg (proj m c) (funext fun a => Fin.ext ?_)
  match a with
  | 0 => show win0_1.index t (0 : Fin 3) * 1 + 1 * 0 = t.val / 4; rw [h0]; omega
  | 1 => show win0_1.index t (1 : Fin 3) * 2048 + 1 * k.val = k.val; rw [h1]; omega
  | 2 => show win0_1.index t (2 : Fin 3) * 256 + 1 * e.val = 10240 + e.val; rw [h2]; omega

theorem valueBlock_apply (c : Dev nD) (t : Fin cfg0.N) (k : Fin 2048) (e : Fin 256) :
    valueBlock m c t (ix3 0 k e) = proj m c (ix3 (batch t) k ⟨10496 + e.val, by omega⟩) := by
  obtain ⟨_, _, ⟨h0, h1, h2⟩⟩ := indices t
  refine congrArg (proj m c) (funext fun a => Fin.ext ?_)
  match a with
  | 0 => show win0_2.index t (0 : Fin 3) * 1 + 1 * 0 = t.val / 4; rw [h0]; omega
  | 1 => show win0_2.index t (1 : Fin 3) * 2048 + 1 * k.val = k.val; rw [h1]; omega
  | 2 => show win0_2.index t (2 : Fin 3) * 256 + 1 * e.val = 10496 + e.val; rw [h2]; omega

/-! ## The scratch -/

/-- The keys' scratch of the batch of point `t`. -/
def keyScratch (c : Dev nD) (t : Fin cfg0.N) : Vec Ideal S4x2048x64 .bf16 :=
  View.canon (planes (keyPlane (keyBlock m c t)) [3, 2, 1, 0])

/-- The values' scratch of the batch of point `t`. -/
def valueScratch (c : Dev nD) (t : Fin cfg0.N) : Vec Ideal S4x80x2048 .bf16 :=
  View.canon (planes (valuePlane (valueBlock m c t)) [3, 2, 1, 0])

theorem blocks_of_batch (c : Dev nD) (t t' : Fin cfg0.N) (h : batch t = batch t') :
    keyBlock m c t = keyBlock m c t' ∧ valueBlock m c t = valueBlock m c t' := by
  constructor
  · funext y
    obtain ⟨a, k, e, rfl⟩ : ∃ (a : Fin 1) (k : Fin 2048) (e : Fin 256), y = ix3 a k e := ⟨y 0, y 1, y 2, by
      funext x; match x with | 0 => rfl | 1 => rfl | 2 => rfl⟩
    obtain rfl : a = 0 := Subsingleton.elim _ _
    rw [keyBlock_apply, keyBlock_apply, h]
  · funext y
    obtain ⟨a, k, e, rfl⟩ : ∃ (a : Fin 1) (k : Fin 2048) (e : Fin 256), y = ix3 a k e := ⟨y 0, y 1, y 2, by
      funext x; match x with | 0 => rfl | 1 => rfl | 2 => rfl⟩
    obtain rfl : a = 0 := Subsingleton.elim _ _
    rw [valueBlock_apply, valueBlock_apply, h]

theorem scratch_first (c : Dev nD) (t : Fin cfg0.N) (h0 : t.val % 4 = 0) :
    (outsAt0 m c t.val t.isLt).2 = (keyScratch m c t, valueScratch m c t) := by
  rw [outsAt0_A m c t h0]
  dsimp only
  rw [keys_left, values_left]
  rfl

theorem scratch_later (c : Dev nD) (t : Fin cfg0.N) (h0 : ¬t.val % 4 = 0) :
    (outsAt0 m c t.val t.isLt).2 = (outsAt0 m c (t.val - 1) (Nat.lt_of_le_of_lt (Nat.sub_le _ _) t.isLt)).2 := by
  rw [outsAt0_B m c t h0]
  dsimp only
  unfold sout0_B_0 sout0_B_1
  rfl

/-- Every point leaves its batch's planes in the scratch. -/
theorem scratch_eq (c : Dev nD) (n : ℕ) : ∀ t : Fin cfg0.N, t.val % 4 = n →
    (outsAt0 m c t.val t.isLt).2 = (keyScratch m c t, valueScratch m c t) := by
  induction n with
  | zero => exact fun t h => scratch_first m c t h
  | succ n ih =>
    intro t h
    rw [scratch_later m c t (by omega)]
    have hb : batch ⟨t.val - 1, Nat.lt_of_le_of_lt (Nat.sub_le _ _) t.isLt⟩ = batch t :=
      Fin.ext (by show (t.val - 1) / 4 = t.val / 4; omega)
    refine (ih ⟨t.val - 1, Nat.lt_of_le_of_lt (Nat.sub_le _ _) t.isLt⟩ (by show (t.val - 1) % 4 = n; omega)).trans ?_
    obtain ⟨ek, ev⟩ := blocks_of_batch m c _ _ hb
    unfold keyScratch valueScratch
    rw [ek, ev]

/-! ## The stored block -/

/-- Each point stores the block of its queries over the planes of its batch. -/
theorem stored_block (c : Dev nD) (t : Fin cfg0.N) :
    BlockOver (outsAt0 m c t.val t.isLt).1 (queryBlock m c t) (keyScratch m c t) (valueScratch m c t) := by
  by_cases h0 : t.val % 4 = 0
  · rw [outsAt0_A m c t h0]
    dsimp only
    exact first_left ..
  · have hl := (scratch_later m c t h0).symm.trans (scratch_eq m c _ t rfl)
    rw [outsAt0_B m c t h0]
    dsimp only
    have hX := congrArg Prod.fst hl
    have hY := congrArg Prod.snd hl
    dsimp only at hX hY
    rw [hX, hY]
    exact later_left ..

end Cert.Attn

end
-- ==== Proof.RefReads.lean ====
module

public import proofs.«01_k».proof.Proof.Weights
public import proofs.«01_k».proof.Proof.Gen.ReferenceIdeal.Run
public import Idealize.ShloMosaic.Lib.Pointwise
public import Idealize.ShloMosaic.Lib.IdealHost

@[expose] public section

set_option maxRecDepth 16384

noncomputable section

/-! The reference's result read at an index over the extended reals. -/

namespace Cert.AttnRef

open Idealize.ShloMosaic Cert.ReferenceIdeal Cert.ReferenceIdeal.Facts₀ Cert.Attn

/-- The scaled scores. -/
def scaled (x : FVec Ideal S16x2048x11264 .bf16) : FVec Ideal S16x4x4x2048x2048 .f32 :=
  mulf (transpose S16x4x4x2048x2048 [0, 1, 4, 3, 2] (Host.dotGeneral dot_S16x2048x4x64_S16x2048x4x4x64_S16x4x2048x2048x4_3_4_1_13_02_02 none (shapeCast _ (extractStridedSlice S16x2048x256 ![0, 0, 10240] (extf .f32 x bitsLt_bf16_f32) slices_S16x2048x11264_S16x2048x256_0_0_10240) shapeCasts_S16x2048x256_S16x2048x4x64) (shapeCast _ (extractStridedSlice S16x2048x1024 ![0, 0, 4096] (extf .f32 x bitsLt_bf16_f32) slices_S16x2048x11264_S16x2048x1024_0_0_4096) shapeCasts_S16x2048x1024_S16x2048x4x4x64)) transposes_S16x4x2048x2048x4_S16x4x4x2048x2048_0_1_4_3_2) (broadcastInDim S16x4x4x2048x2048 ![] bcast_S_S16x4x4x2048x2048 (constant S_ .f32 0x3E000000#32))

/-- Each row's maximum. -/
def highest (s : FVec Ideal S16x4x4x2048x2048 .f32) : FVec Ideal S16x4x4x2048 .f32 :=
  Host.reduce FloatOps.maximumf s (constant S_ .f32 0xFF800000#32) reducesTo_S16x4x4x2048x2048_S16x4x4x2048_d4 h_S_

/-- The exponentials below a number of each row. -/
def loweredBy (s : FVec Ideal S16x4x4x2048x2048 .f32) (t : FVec Ideal S16x4x4x2048 .f32) : FVec Ideal S16x4x4x2048x2048 .f32 :=
  Host.exp (subf s (broadcastInDim S16x4x4x2048x2048 ![0, 1, 2, 3, 4] bcast_S16x4x4x2048x1_S16x4x4x2048x2048_0_1_2_3_4 (broadcastInDim S16x4x4x2048x1 ![0, 1, 2, 3] bcast_S16x4x4x2048_S16x4x4x2048x1_0_1_2_3 (maximumf (broadcastInDim S16x4x4x2048 ![] bcast_S_S16x4x4x2048 (constant S_ .f32 0xFF800000#32)) t))))

/-- The exponentials below each row's maximum. -/
def lowered (s : FVec Ideal S16x4x4x2048x2048 .f32) : FVec Ideal S16x4x4x2048x2048 .f32 := loweredBy s (highest s)

/-- The softmax. -/
def softened (e : FVec Ideal S16x4x4x2048x2048 .f32) : FVec Ideal S16x4x4x2048x2048 .f32 :=
  Host.divf e (broadcastInDim S16x4x4x2048x2048 ![0, 1, 2, 3, 4] bcast_S16x4x4x2048x1_S16x4x4x2048x2048_0_1_2_3_4 (broadcastInDim S16x4x4x2048x1 ![0, 1, 2, 3] bcast_S16x4x4x2048_S16x4x4x2048x1_0_1_2_3 (Host.reduceAdd e (constant S_ .f32 0x00000000#32) reducesTo_S16x4x4x2048x2048_S16x4x4x2048_d4 h_S_)))

/-- The weighted values, laid out as the result. -/
def gatheredAll (x : FVec Ideal S16x2048x11264 .bf16) (p : FVec Ideal S16x4x4x2048x2048 .f32) : FVec Ideal S16x2048x1024 .bf16 :=
  truncf .bf16 (shapeCast _ (transpose S16x2048x4x4x64 [0, 4, 1, 3, 2] (Host.dotGeneral dot_S16x2048x4x64_S16x4x4x2048x2048_S16x4x64x4x2048_1_4_3_23_02_01 none (shapeCast _ (extractStridedSlice S16x2048x256 ![0, 0, 10496] (extf .f32 x bitsLt_bf16_f32) slices_S16x2048x11264_S16x2048x256_0_0_10496) shapeCasts_S16x2048x256_S16x2048x4x64) p) transposes_S16x4x64x4x2048_S16x2048x4x4x64_0_4_1_3_2) shapeCasts_S16x2048x4x4x64_S16x2048x1024) bitsLt_bf16_f32

theorem result_eq (m : (ℓ : Loc nD τ sig) → Buf (Elt Ideal) ℓ) (c : Dev nD) :
    Value.res_main_v25 m c = gatheredAll (m ((c.tc : Thread nD τ).loc main_arg0))
      (softened (lowered (scaled (m ((c.tc : Thread nD τ).loc main_arg0))))) := by
  rfl

theorem scaled_apply (x : FVec Ideal S16x2048x11264 .bf16) (b : Fin 16) (h g : Fin 4) (i k : Fin 2048) :
    scaled x (ix5 b h g i k) = (∑ e : Fin 64, x (ix3 b k ⟨10240 + (64 * h.val + e.val), by omega⟩)
      * x (ix3 b i ⟨4096 + (64 * (4 * h.val + g.val) + e.val), by omega⟩)) * (((1 : ℝ) / 8 : ℝ) : EReal) := by
  have e8 : Ideal.ofBits .f32 0x3E000000#32 = (((1 : ℝ) / 8 : ℝ) : EReal) := by
    simp [Ideal.ofBits, Ideal.ieee, -EReal.coe_mul]; norm_num
  pointwise [scaled]
  rw [e8]
  refine congrArg (· * _) (Finset.sum_congr rfl fun e _ => congrArg₂ (· * ·) (congrArg x ?_) (congrArg x ?_))
  · exact congrArg (ix3 b k) (Fin.ext (by show 10240 + (h.val * 64 + e.val) = 10240 + (64 * h.val + e.val); omega))
  · exact congrArg (ix3 b i) (Fin.ext (by
      show 4096 + (h.val * 256 + g.val * 64 + e.val) = 4096 + (64 * (4 * h.val + g.val) + e.val); omega))

theorem highest_apply (s : FVec Ideal S16x4x4x2048x2048 .f32) (b : Fin 16) (h g : Fin 4) (i : Fin 2048) :
    highest s (ix4 b h g i) = (Finset.univ : Finset (Fin 2048)).fold max ⊥ fun k => s (ix5 b h g i k) := by
  have e : Ideal.ofBits .f32 0xFF800000#32 = ⊥ := rfl
  pointwise [highest]
  rw [e]

theorem loweredBy_apply (s : FVec Ideal S16x4x4x2048x2048 .f32) (t : FVec Ideal S16x4x4x2048 .f32) (b : Fin 16)
    (h g : Fin 4) (i k : Fin 2048) :
    loweredBy s t (ix5 b h g i k) = Ideal.exp (s (ix5 b h g i k) - t (ix4 b h g i)) := by
  have e : Ideal.ofBits .f32 0xFF800000#32 = ⊥ := rfl
  pointwise [loweredBy]
  rw [e, max_eq_right bot_le]

theorem softened_apply (s : FVec Ideal S16x4x4x2048x2048 .f32) (b : Fin 16) (h g : Fin 4) (i k : Fin 2048) :
    softened s (ix5 b h g i k) = Ideal.div (s (ix5 b h g i k)) (∑ k : Fin 2048, s (ix5 b h g i k)) := by
  pointwise [softened]

theorem gatheredAll_apply (x : FVec Ideal S16x2048x11264 .bf16) (p : FVec Ideal S16x4x4x2048x2048 .f32)
    (b : Fin 16) (h g : Fin 4) (i : Fin 2048) (d : Fin 64) :
    gatheredAll x p (ix3 b i ⟨64 * (4 * h.val + g.val) + d.val, by omega⟩)
      = ∑ k : Fin 2048, x (ix3 b k ⟨10496 + (64 * h.val + d.val), by omega⟩) * p (ix5 b h g i k) := by
  pointwise [gatheredAll]
  refine Finset.sum_congr rfl fun k _ => congrArg (· * _) (congrArg x ?_)
  exact congrArg (ix3 b k) (Fin.ext (by show 10496 + (h.val * 64 + d.val) = 10496 + (64 * h.val + d.val); omega))

end Cert.AttnRef

end
-- ==== Proof.Attend.lean ====
module

public import proofs.«01_k».proof.Proof.Batches
public import proofs.«01_k».proof.Proof.RefReads
public import proofs.«01_k».proof.Proof.Gen.KernelIdeal.Value
public import proofs.«01_k».proof.Defs

@[expose] public section

set_option maxRecDepth 16384

noncomputable section

/-! Kernel and reference give one attention. -/

namespace Cert.Attn

open Idealize.ShloMosaic

abbrev Proj : Shape := ⟨3, ![16, 2048, 11264]⟩

/-- The columns that hold the queries and the keys are real numbers. -/
def RealColumns (a : Proj.Idx → EReal) : Prop :=
  ∀ (b : Fin 16) (i : Fin 2048) (e : Fin 11264), (4096 ≤ e.val ∧ e.val < 5120) ∨ (10240 ≤ e.val ∧ e.val < 10496) →
    ∃ r : ℝ, a (ix3 b i e) = (r : EReal)

/-- An entry of a query, as a real number. -/
def queryAt (a : Proj.Idx → EReal) (b : Fin 16) (i : Fin 2048) (h : Fin 16) (e : Fin 64) : ℝ :=
  (a (ix3 b i ⟨4096 + (64 * h.val + e.val), by omega⟩)).toReal

/-- An entry of a key, as a real number. -/
def keyAt (a : Proj.Idx → EReal) (b : Fin 16) (k : Fin 2048) (h : Fin 4) (e : Fin 64) : ℝ :=
  (a (ix3 b k ⟨10240 + (64 * h.val + e.val), by omega⟩)).toReal

theorem queryAt_eq (a : Proj.Idx → EReal) (ha : RealColumns a) (b : Fin 16) (i : Fin 2048) (h : Fin 16) (e : Fin 64) :
    a (ix3 b i ⟨4096 + (64 * h.val + e.val), by omega⟩) = ((queryAt a b i h e : ℝ) : EReal) := by
  obtain ⟨r, hr⟩ := ha b i ⟨4096 + (64 * h.val + e.val), by omega⟩ (Or.inl ⟨by show 4096 ≤ 4096 + _; omega, by
    show 4096 + (64 * h.val + e.val) < 5120; omega⟩)
  unfold queryAt
  rw [hr, EReal.toReal_coe]

theorem keyAt_eq (a : Proj.Idx → EReal) (ha : RealColumns a) (b : Fin 16) (k : Fin 2048) (h : Fin 4) (e : Fin 64) :
    a (ix3 b k ⟨10240 + (64 * h.val + e.val), by omega⟩) = ((keyAt a b k h e : ℝ) : EReal) := by
  obtain ⟨r, hr⟩ := ha b k ⟨10240 + (64 * h.val + e.val), by omega⟩ (Or.inr ⟨by show 10240 ≤ 10240 + _; omega, by
    show 10240 + (64 * h.val + e.val) < 10496; omega⟩)
  unfold keyAt
  rw [hr, EReal.toReal_coe]

/-- The scores of one query. -/
def scoreRow (a : Proj.Idx → EReal) (b : Fin 16) (i : Fin 2048) (h : Fin 16) (k : Fin 2048) : ℝ :=
  (∑ e, keyAt a b k (kvHead h) e * queryAt a b i h e) * (1 / 8)

/-- Softmax attention at one entry. -/
def attended (a : Proj.Idx → EReal) (b : Fin 16) (i : Fin 2048) (h : Fin 16) (d : Fin 64) : EReal :=
  ∑ k : Fin 2048, a (ix3 b k ⟨10496 + (64 * (kvHead h).val + d.val), by have := (kvHead h).isLt; omega⟩)
    * ((weight (scoreRow a b i h) k : ℝ) : EReal)

/-! ## The kernel -/

section Kernel

open Cert.KernelIdeal Cert.KernelIdeal.Gen

variable (m : (ℓ : Loc nD τ sig) → Buf (Elt Ideal) ℓ)

theorem keyScratch_apply (c : Dev nD) (t : Fin cfg0.N) (ha : RealColumns (proj m c)) (h : Fin 4) (k : Fin 2048) (e : Fin 64) :
    keyScratch m c t (ix3 h k e) = ((keyAt (proj m c) (batch t) k h e : ℝ) : EReal) := by
  have hm : h ∈ [(3 : Fin 4), 2, 1, 0] := by revert h; decide
  refine (canon_planes _ _ h hm k e).trans ((keyPlane_apply _ h k e fun e' => ?_).trans ?_)
  · rw [keyBlock_apply]
    exact ha _ _ _ (Or.inr ⟨by show 10240 ≤ 10240 + _; omega, by show 10240 + e'.val < 10496; omega⟩)
  · rw [keyBlock_apply]
    exact keyAt_eq _ ha _ _ _ _

theorem valueScratch_apply (c : Dev nD) (t : Fin cfg0.N) (h : Fin 4) (k : Fin 2048) (d : Fin 64) :
    valueScratch m c t (ix3 h ⟨d.val, by omega⟩ k)
      = proj m c (ix3 (batch t) k ⟨10496 + (64 * h.val + d.val), by omega⟩) := by
  have hm : h ∈ [(3 : Fin 4), 2, 1, 0] := by revert h; decide
  refine (canon_planes _ _ h hm _ k).trans ((valuePlane_apply _ h k d).trans ?_)
  rw [valueBlock_apply]

theorem valueScratch_ones (c : Dev nD) (t : Fin cfg0.N) (h : Fin 4) (k : Fin 2048) :
    valueScratch m c t (ix3 h 64 k) = 1 := by
  have hm : h ∈ [(3 : Fin 4), 2, 1, 0] := by revert h; decide
  exact (canon_planes _ _ h hm _ k).trans (valuePlane_ones _ h k)

/-- What a point stores is the attention of its queries. -/
theorem point_attended (c : Dev nD) (t : Fin cfg0.N) (ha : RealColumns (proj m c)) (h : Fin 16) (d : Fin 64) (g : Fin 2)
    (r : Fin 256) :
    (outsAt0 m c t.val t.isLt).1 (ix3 0 ⟨256 * g.val + r.val, by omega⟩ ⟨64 * h.val + d.val, by omega⟩)
      = attended (proj m c) (batch t) ⟨512 * (t.val % 4) + (256 * g.val + r.val), by omega⟩ h d := by
  obtain ⟨k, v, ho, hk, hv⟩ := stored_block m c t
  rw [ho, block_apply]
  have hmod : ∀ i : Fin 2048, Fin.ofNat 2048 i.val = i := fun i => Fin.ext (Nat.mod_eq_of_lt i.isLt)
  have hmod' : ∀ (j : Fin 16) (a : Fin 128), (⟨128 * j.val + a.val, by omega⟩ : Fin 2048) = Fin.ofNat 2048 (128 * j.val + a.val) :=
    fun j a => Fin.ext (Nat.mod_eq_of_lt (by omega)).symm
  rw [headTile_apply (turned (queryBlock m c t)) k v h g d r
    (fun e => queryAt (proj m c) (batch t) ⟨512 * (t.val % 4) + (256 * g.val + r.val), by omega⟩ h e)
    (fun n e => keyAt (proj m c) (batch t) (Fin.ofNat 2048 n) (kvHead h) e)
    (fun n => proj m c (ix3 (batch t) (Fin.ofNat 2048 n)
      ⟨10496 + (64 * (kvHead h).val + d.val), by have := (kvHead h).isLt; omega⟩))]
  · simp only [hmod]
    rfl
  · intro e
    rw [turned_apply, queryBlock_apply, EReal.coe_mul]
    exact congrArg (fun x : EReal => x * (((1 / 8) * (Real.log 2)⁻¹ : ℝ) : EReal)) (queryAt_eq _ ha _ _ _ _)
  · intro j a e
    rw [hk, keyScratch_apply m c t ha, hmod']
  · intro j a
    rw [hv, valueScratch_apply, hmod']
  · intro j a
    rw [hv, valueScratch_ones]

/-- The kernel's array is the attention. -/
theorem kernel_attended (c : Dev nD) (ha : RealColumns (proj m c)) (b : Fin 16) (i : Fin 2048) (h : Fin 16) (d : Fin 64) :
    Cert.KernelIdeal.Value.G3 m c (ix3 b i ⟨64 * h.val + d.val, by omega⟩) = attended (proj m c) b i h d := by
  have hp : Cert.KernelIdeal.Value.pt3Of (ix3 b i ⟨64 * h.val + d.val, by omega⟩) = 4 * b.val + i.val / 512 := by
    show 4 * (b.val / 1 - 0) + 1 * (i.val / 512 - 0) + 1 * ((64 * h.val + d.val) / 1024 - 0) = _
    omega
  have hN : cfg0.N = 64 := N_0
  have hlt : Cert.KernelIdeal.Value.pt3Of (ix3 b i ⟨64 * h.val + d.val, by omega⟩) < cfg0.N := by rw [hp, hN]; omega
  have e1 : Cert.KernelIdeal.Value.G3 m c (ix3 b i ⟨64 * h.val + d.val, by omega⟩)
      = (outsAt0 m c (Cert.KernelIdeal.Value.pt3Of (ix3 b i ⟨64 * h.val + d.val, by omega⟩)) hlt).1
        (Cert.KernelIdeal.Value.loc3Of (ix3 b i ⟨64 * h.val + d.val, by omega⟩)) := by
    rw [Cert.KernelIdeal.Value.outsAt0_sweep]
    exact dif_pos hlt
  have e2 : Cert.KernelIdeal.Value.loc3Of (ix3 b i ⟨64 * h.val + d.val, by omega⟩)
      = ix3 0 ⟨256 * (i.val % 512 / 256) + i.val % 256, by omega⟩ ⟨64 * h.val + d.val, by omega⟩ := funext fun x => Fin.ext (by
    match x with
    | 0 => show b.val % 1 = 0; omega
    | 1 => show i.val % 512 = 256 * (i.val % 512 / 256) + i.val % 256; omega
    | 2 => show (64 * h.val + d.val) % 1024 = 64 * h.val + d.val; omega)
  rw [e1, e2]
  refine (point_attended m c ⟨_, hlt⟩ ha h d ⟨i.val % 512 / 256, by omega⟩ ⟨i.val % 256, by omega⟩).trans ?_
  have eb : batch ⟨Cert.KernelIdeal.Value.pt3Of (ix3 b i ⟨64 * h.val + d.val, by omega⟩), hlt⟩ = b := Fin.ext (by
    show Cert.KernelIdeal.Value.pt3Of (ix3 b i ⟨64 * h.val + d.val, by omega⟩) / 4 = b.val
    rw [hp]; omega)
  rw [eb]
  refine congrArg (attended (proj m c) b · h d) (Fin.ext ?_)
  show 512 * (Cert.KernelIdeal.Value.pt3Of (ix3 b i ⟨64 * h.val + d.val, by omega⟩) % 4)
    + (256 * (i.val % 512 / 256) + i.val % 256) = i.val
  rw [hp]
  omega

end Kernel

/-! ## The reference -/

theorem reference_attended (a : Proj.Idx → EReal) (ha : RealColumns a) (b : Fin 16) (i : Fin 2048) (h : Fin 16) (d : Fin 64) :
    AttnRef.gatheredAll a (AttnRef.softened (AttnRef.lowered (AttnRef.scaled a)))
      (ix3 b i ⟨64 * h.val + d.val, by omega⟩) = attended a b i h d := by
  have hs : ∀ k, AttnRef.scaled a (ix5 b (kvHead h) ⟨h.val % 4, by omega⟩ i k) = ((scoreRow a b i h k : ℝ) : EReal) := fun k => by
    rw [AttnRef.scaled_apply]
    unfold scoreRow
    rw [EReal.coe_mul, ← sum_real]
    refine congrArg (· * _) (Finset.sum_congr rfl fun e _ => ?_)
    have he : (⟨4096 + (64 * (4 * (kvHead h).val + h.val % 4) + e.val), by have := (kvHead h).isLt; omega⟩ : Fin 11264)
        = ⟨4096 + (64 * h.val + e.val), by omega⟩ := Fin.ext (by
      show 4096 + (64 * (4 * (h.val / 4) + h.val % 4) + e.val) = 4096 + (64 * h.val + e.val); omega)
    rw [EReal.coe_mul]
    refine congrArg₂ (· * ·) (keyAt_eq a ha _ _ _ _) ?_
    exact (congrArg (fun x => a (ix3 b i x)) he).trans (queryAt_eq a ha _ _ _ _)
  obtain ⟨Y, hY⟩ := fold_max_real (fun k : Fin 2048 => AttnRef.scaled a (ix5 b (kvHead h) ⟨h.val % 4, by omega⟩ i k))
    (fun k => ⟨_, hs k⟩) (by decide)
  have hl : ∀ k, AttnRef.lowered (AttnRef.scaled a) (ix5 b (kvHead h) ⟨h.val % 4, by omega⟩ i k)
      = Ideal.exp ((scoreRow a b i h k : EReal) - (Y : EReal)) := fun k => by
    unfold AttnRef.lowered
    rw [AttnRef.loweredBy_apply, AttnRef.highest_apply, hY, hs]
  have hp : ∀ k, AttnRef.softened (AttnRef.lowered (AttnRef.scaled a)) (ix5 b (kvHead h) ⟨h.val % 4, by omega⟩ i k)
      = ((weight (scoreRow a b i h) k : ℝ) : EReal) := fun k => by
    rw [AttnRef.softened_apply]
    simp only [hl]
    exact div_exp _ Y (by decide) k
  have hc : (⟨64 * h.val + d.val, by omega⟩ : Fin 1024)
      = ⟨64 * (4 * (kvHead h).val + h.val % 4) + d.val, by have := (kvHead h).isLt; omega⟩ := Fin.ext (by
    show 64 * h.val + d.val = 64 * (4 * (h.val / 4) + h.val % 4) + d.val; omega)
  rw [hc]
  refine (AttnRef.gatheredAll_apply a _ b (kvHead h) ⟨h.val % 4, by omega⟩ i d).trans ?_
  simp only [hp]
  rfl

end Cert.Attn

end
-- ==== Proof.ProjDefs.lean ====
module

public import proofs.«01_k».proof.Kernel2Ideal
public import proofs.«01_k».proof.Proof.Gen.Kernel2Ideal.Frame.Runs

@[expose] public section

set_option maxRecDepth 16384

noncomputable section

/-! The pieces of the projection's grid points: products of row blocks with the columns of a block, the two halves
of those columns, the mixing with neighbouring rows, and the normalised and turned heads. -/

namespace Cert.Proj

open Idealize.ShloMosaic Cert.Kernel2Ideal Cert.Kernel2Ideal.Facts₀

variable {F : FTy → Type} [FloatOps F]

/-! ## Products -/

def prod512 (v : Vec F S1x512x2048 .bf16) (w : Vec F S2048x512 .bf16) : FVec F S512x512 .f32 :=
  matmul dot_S512x2048_S2048x512_S512x512_1_0_0_1_n_n none (shapeCast S512x2048 v shapeCasts_S1x512x2048_S512x2048)
    (shapeCast S2048x512 w shapeCasts_S2048x512_S2048x512)
    (constant S512x512 .f32 0x00000000#32)

def prod1024 (v : Vec F S1x1024x2048 .bf16) (w : Vec F S2048x512 .bf16) : FVec F S1024x512 .f32 :=
  matmul dot_S1024x2048_S2048x512_S1024x512_1_0_0_1_n_n none (shapeCast S1024x2048 v shapeCasts_S1x1024x2048_S1024x2048)
    (shapeCast S2048x512 w shapeCasts_S2048x512_S2048x512)
    (constant S1024x512 .f32 0x00000000#32)

def prod2048 (v : Vec F S1x2048x2048 .bf16) (w : Vec F S2048x512 .bf16) : FVec F S2048x512 .f32 :=
  matmul dot_S2048x2048_S2048x512_S2048x512_1_0_0_1_n_n none (shapeCast S2048x2048 v shapeCasts_S1x2048x2048_S2048x2048)
    (shapeCast S2048x512 w shapeCasts_S2048x512_S2048x512)
    (constant S2048x512 .f32 0x00000000#32)

/-! ## Halves of the columns -/

theorem slices512 (q : Fin 2) : S512x512.Slices ![0, 256 * q.val] S512x256 := by revert q; decide
theorem slices1024 (q : Fin 2) : S1024x512.Slices ![0, 256 * q.val] S1024x256 := by revert q; decide
theorem slices2048 (q : Fin 2) : S2048x512.Slices ![0, 256 * q.val] S2048x256 := by revert q; decide

def half512 (q : Fin 2) (y : FVec F S512x512 .f32) : FVec F S512x256 .f32 :=
  extractStridedSlice S512x256 ![0, 256 * q.val] y (slices512 q)

def half1024 (q : Fin 2) (y : FVec F S1024x512 .f32) : FVec F S1024x256 .f32 :=
  extractStridedSlice S1024x256 ![0, 256 * q.val] y (slices1024 q)

def half2048 (q : Fin 2) (y : FVec F S2048x512 .f32) : FVec F S2048x256 .f32 :=
  extractStridedSlice S2048x256 ![0, 256 * q.val] y (slices2048 q)

/-! ## Columns stored as they are -/

def plain512 (y : FVec F S512x256 .f32) : FVec F S1x512x256 .bf16 :=
  shapeCast S1x512x256 (truncf .bf16 y bitsLt_bf16_f32) shapeCasts_S512x256_S1x512x256

def plain1024 (y : FVec F S1024x256 .f32) : FVec F S1x1024x256 .bf16 :=
  shapeCast S1x1024x256 (truncf .bf16 y bitsLt_bf16_f32) shapeCasts_S1024x256_S1x1024x256

def plain2048 (y : FVec F S2048x256 .f32) : FVec F S1x2048x256 .bf16 :=
  shapeCast S1x2048x256 (truncf .bf16 y bitsLt_bf16_f32) shapeCasts_S2048x256_S1x2048x256

/-! ## Rows mixed with their neighbours -/

/-- Rows, the rows before and the rows after, under the two rows of weights. -/
def mix (mu : Vec F S2x256 .f32) (y u v : Vec F S1024x256 .f32) : FVec F S1024x256 .f32 :=
  addf (addf y (mulf (broadcastTo S1024x256 (extractStridedSlice S1x256 ![0, 0] (shapeCast S2x256 mu shapeCasts_S2x256_S2x256) slices_S2x256_o0_0_S1x256)
      broadcasts_S1x256_S1024x256) (subf u y)))
    (mulf (broadcastTo S1024x256 (extractStridedSlice S1x256 ![1, 0] (shapeCast S2x256 mu shapeCasts_S2x256_S2x256) slices_S2x256_o1_0_S1x256)
      broadcasts_S1x256_S1024x256) (subf v y))

/-- The mixed rows in full precision. -/
def full1024 (y : FVec F S1024x256 .f32) : FVec F S1x1024x256 .f32 :=
  shapeCast S1x1024x256 y shapeCasts_S1024x256_S1x1024x256

def stored (y : FVec F S1024x256 .f32) : FVec F S1024x256 .f32 :=
  shapeCast S1024x256 y shapeCasts_S1024x256_S1024x256

def blank : FVec F S8x512 .f32 :=
  shapeCast S8x512 (broadcast S8x512 (Scalar.ofBits .f32 0x00000000#32)) shapeCasts_S8x512_S8x512

/-! ## Heads -/

/-- The quotient of an index by 64, rounded down. -/
def quotients (v : IVec S256x256 32) : IVec S256x256 32 :=
  select
    (andi
      (cmpi .ne
        (subi (extui 32 (cmpi .sgt v (broadcast S256x256 0#32)) natLt_1_32)
          (extui 32 (cmpi .slt v (broadcast S256x256 0#32)) natLt_1_32))
        (broadcast S256x256 (Scalar.subi (Scalar.extui (Scalar.cmpi .sgt (64#32 : BitVec 32) 0#32))
          (Scalar.extui (Scalar.cmpi .slt (64#32 : BitVec 32) 0#32)))))
      (cmpi .ne (remsi v (broadcast S256x256 64#32)) (broadcast S256x256 0#32)))
    (subi (divsi v (broadcast S256x256 64#32)) (broadcast S256x256 1#32))
    (divsi v (broadcast S256x256 64#32))

/-- One where two columns are of one head. -/
def sameHead : FVec F S256x256 .bf16 :=
  truncf .bf16 (select (cmpi .eq (quotients (iota .tc S256x256 32 [0] iota_S256x256_d0_w32))
      (quotients (iota .tc S256x256 32 [1] iota_S256x256_d1_w32)))
    (broadcast S256x256 (Scalar.ofBits .f32 0x3F800000#32)) (broadcast S256x256 (Scalar.ofBits .f32 0x00000000#32)))
    bitsLt_bf16_f32

/-- The sums over a head, in two parts. -/
def headSums (s : FVec F S512x256 .f32) : FVec F S512x256 .f32 :=
  addf
    (matmul dot_S512x256_S256x256_S512x256_1_0_0_1_n_n none (truncf .bf16 s bitsLt_bf16_f32) sameHead
      (constant S512x256 .f32 0x00000000#32))
    (matmul dot_S512x256_S256x256_S512x256_1_0_0_1_n_n none
      (truncf .bf16 (subf s (extf .f32 (truncf .bf16 s bitsLt_bf16_f32) bitsLt_bf16_f32)) bitsLt_bf16_f32) sameHead
      (constant S512x256 .f32 0x00000000#32))

def scales (y : FVec F S512x256 .f32) : FVec F S512x256 .f32 :=
  rsqrt (addf (mulf (headSums (mulf y y)) (broadcast S512x256 (Scalar.ofBits .f32 0x3C800000#32)))
    (broadcast S512x256 (Scalar.ofBits .f32 0x358637BD#32)))

def norms (y : FVec F S512x256 .f32) (g : Vec F S1x256 .f32) : FVec F S512x256 .f32 :=
  mulf (mulf y (scales y)) (broadcastTo S512x256 (shapeCast S1x256 g shapeCasts_S1x256_S1x256) broadcasts_S1x256_S512x256)

/-- The remainder of an index by two. -/
def remainders (v : IVec S512x256 32) : IVec S512x256 32 :=
  select
    (andi
      (xori
        (cmpi .slt (remsi v (broadcast S512x256 (Scalar.select (Scalar.cmpi .eq (2#32 : BitVec 32) 0#32) 1#32 2#32)))
          (broadcast S512x256 0#32))
        (broadcastTo S512x256
          (broadcast S512x256 (Scalar.cmpi .slt (Scalar.select (Scalar.cmpi .eq (2#32 : BitVec 32) 0#32) 1#32 (2#32 : BitVec 32)) 0#32))
          broadcasts_S512x256_S512x256))
      (cmpi .ne (remsi v (broadcast S512x256 (Scalar.select (Scalar.cmpi .eq (2#32 : BitVec 32) 0#32) 1#32 2#32)))
        (broadcast S512x256 0#32)))
    (addi (remsi v (broadcast S512x256 (Scalar.select (Scalar.cmpi .eq (2#32 : BitVec 32) 0#32) 1#32 2#32)))
      (broadcast S512x256 (Scalar.select (Scalar.cmpi .eq (2#32 : BitVec 32) 0#32) 1#32 2#32)))
    (remsi v (broadcast S512x256 (Scalar.select (Scalar.cmpi .eq (2#32 : BitVec 32) 0#32) 1#32 2#32)))

/-- The even columns. -/
def evens : IVec S512x256 1 :=
  cmpi .eq (remainders (iota .tc S512x256 32 [1] iota_S512x256_d1_w32)) (broadcast S512x256 0#32)

/-- Each column's partner, with its sign. -/
def partners (n : FVec F S512x256 .f32) : FVec F S512x256 .f32 :=
  select evens
    (subf (broadcast S512x256 (Scalar.ofBits .f32 0x00000000#32)) (dynamicRotate 1 255#32 none n rotates_S512x256_d1))
    (dynamicRotate 1 1#32 none n rotates_S512x256_d1)

def turns (n : FVec F S512x256 .f32) (co si : Vec F S512x256 .f32) : FVec F S512x256 .f32 :=
  addf (mulf n (shapeCast S512x256 co shapeCasts_S512x256_S512x256))
    (mulf (partners n) (shapeCast S512x256 si shapeCasts_S512x256_S512x256))

/-- The normalised and turned heads of half the columns. -/
def roped (y : FVec F S512x256 .f32) (g : Vec F S1x256 .f32) (co si : Vec F S512x256 .f32) : FVec F S1x512x256 .bf16 :=
  plain512 (turns (norms y g) co si)

/-! ## Loads -/

theorem inb_rows512 (k : Fin 4) : ∀ a, (![0, 512 * k.val, 0] : Fin 3 → ℕ) a + S1x512x2048.size a ≤ S1x2048x2048.size a := by
  revert k; decide
theorem inb_rows1024 (k : Fin 2) : ∀ a, (![0, 1024 * k.val, 0] : Fin 3 → ℕ) a + S1x1024x2048.size a ≤ S1x2048x2048.size a := by
  revert k; decide
theorem inb_weights (q : Fin 2) : ∀ a, (![0, 256 * q.val] : Fin 2 → ℕ) a + S2x256.size a ≤ S2x512.size a := by
  revert q; decide
theorem inb_gains (q : Fin 2) : ∀ a, (![0, 256 * q.val] : Fin 2 → ℕ) a + S1x256.size a ≤ S1x512.size a := by
  revert q; decide
theorem inb_table (k : Fin 4) : ∀ a, (![512 * k.val, 0] : Fin 2 → ℕ) a + S512x256.size a ≤ S2048x256.size a := by
  revert k; decide
theorem inb_tape (r : Fin 1041) (q : Fin 2) : ∀ a, (![r.val, 256 * q.val] : Fin 2 → ℕ) a + S1024x256.size a ≤ S2064x512.size a := by
  intro a
  have := r.isLt
  have := q.isLt
  match a with
  | 0 => show r.val + 1024 ≤ 2064; omega
  | 1 => show 256 * q.val + 256 ≤ 512; omega

def rows512 (a : Memref sig .tc .vmem S1x2048x2048 .bf16) (ha : a.IsWhole) (x : Vec F S1x2048x2048 .bf16) (k : Fin 4) :
    Vec F S1x512x2048 .bf16 :=
  View.readAt (Elt F) a.view (Rect.unit (s := S1x2048x2048) ![0, 512 * k.val, 0] S1x512x2048.size (inb_rows512 k)).toLoadRect (ha.unread x)

def rows1024 (a : Memref sig .tc .vmem S1x2048x2048 .bf16) (ha : a.IsWhole) (x : Vec F S1x2048x2048 .bf16) (k : Fin 2) :
    Vec F S1x1024x2048 .bf16 :=
  View.readAt (Elt F) a.view (Rect.unit (s := S1x2048x2048) ![0, 1024 * k.val, 0] S1x1024x2048.size (inb_rows1024 k)).toLoadRect (ha.unread x)

def rows2048 (a : Memref sig .tc .vmem S1x2048x2048 .bf16) (ha : a.IsWhole) (x : Vec F S1x2048x2048 .bf16) :
    Vec F S1x2048x2048 .bf16 :=
  View.readAt (Elt F) a.view (Rect.unit ![0, 0, 0] S1x2048x2048.size inb_S1x2048x2048_S1x2048x2048_0_0_0).toLoadRect (ha.unread x)

def cols (a : Memref sig .tc .vmem S2048x512 .bf16) (ha : a.IsWhole) (x : Vec F S2048x512 .bf16) : Vec F S2048x512 .bf16 :=
  View.readAt (Elt F) a.view (Rect.unit ![0, 0] S2048x512.size inb_S2048x512_S2048x512_0_0).toLoadRect (ha.unread x)

def weights (a : Memref sig .tc .vmem S2x512 .f32) (ha : a.IsWhole) (x : Vec F S2x512 .f32) (q : Fin 2) : Vec F S2x256 .f32 :=
  View.readAt (Elt F) a.view (Rect.unit (s := S2x512) ![0, 256 * q.val] S2x256.size (inb_weights q)).toLoadRect (ha.unread x)

def gains (a : Memref sig .tc .vmem S1x512 .f32) (ha : a.IsWhole) (x : Vec F S1x512 .f32) (q : Fin 2) : Vec F S1x256 .f32 :=
  View.readAt (Elt F) a.view (Rect.unit (s := S1x512) ![0, 256 * q.val] S1x256.size (inb_gains q)).toLoadRect (ha.unread x)

def tables (a : Memref sig .tc .vmem S2048x256 .f32) (ha : a.IsWhole) (x : Vec F S2048x256 .f32) (k : Fin 4) : Vec F S512x256 .f32 :=
  View.readAt (Elt F) a.view (Rect.unit (s := S2048x256) ![512 * k.val, 0] S512x256.size (inb_table k)).toLoadRect (ha.unread x)

def seen (v : View sig .tc .vmem S2064x512 .f32) (L : List (View.Piece (Elt F) S2064x512 .f32)) (r : Fin 1041) (q : Fin 2) :
    Vec F S1024x256 .f32 :=
  v.readCov L (Rect.unit (s := S2064x512) ![r.val, 256 * q.val] S1024x256.size (inb_tape r q)).toLoadRect

/-- The rows kept for mixing: the first half of the columns, blank before and after. -/
def tape (y0 y1 : FVec F S1024x512 .f32) : List (View.Piece (Elt F) S2064x512 .f32) :=
  [⟨Rect.unit ![1032, 0] S1024x256.size inb_S2064x512_S1024x256_1032_0, stored (half1024 0 y1)⟩,
    ⟨Rect.unit ![8, 0] S1024x256.size inb_S2064x512_S1024x256_8_0, stored (half1024 0 y0)⟩,
    ⟨Rect.unit ![2056, 0] S8x512.size inb_S2064x512_S8x512_2056_0, blank⟩,
    ⟨Rect.unit ![0, 0] S8x512.size inb_S2064x512_S8x512_0_0, blank⟩]

/-- Before the last store of both halves. -/
def tapes (y0 y1 : FVec F S1024x512 .f32) : List (View.Piece (Elt F) S2064x512 .f32) :=
  [⟨Rect.unit ![1032, 0] S1024x256.size inb_S2064x512_S1024x256_1032_0, stored (half1024 0 y1)⟩,
    ⟨Rect.unit ![8, 256] S1024x256.size inb_S2064x512_S1024x256_8_256, stored (half1024 1 y0)⟩,
    ⟨Rect.unit ![8, 0] S1024x256.size inb_S2064x512_S1024x256_8_0, stored (half1024 0 y0)⟩,
    ⟨Rect.unit ![2056, 0] S8x512.size inb_S2064x512_S8x512_2056_0, blank⟩,
    ⟨Rect.unit ![0, 0] S8x512.size inb_S2064x512_S8x512_0_0, blank⟩]

/-- After the last store of both halves. -/
def bothTapes (y0 y1 : FVec F S1024x512 .f32) : List (View.Piece (Elt F) S2064x512 .f32) :=
  ⟨Rect.unit ![1032, 256] S1024x256.size inb_S2064x512_S1024x256_1032_256, stored (half1024 1 y1)⟩ :: tapes y0 y1

/-- One block of rows mixed with its neighbours off the tape. -/
def mixed (mu : Vec F S2x256 .f32) (v : View sig .tc .vmem S2064x512 .f32) (L : List (View.Piece (Elt F) S2064x512 .f32))
    (k q : Fin 2) : FVec F S1024x256 .f32 :=
  mix mu (seen v L ⟨8 + 1024 * k.val, by omega⟩ q) (seen v L ⟨7 + 1024 * k.val, by omega⟩ q)
    (seen v L ⟨9 + 1024 * k.val, by omega⟩ q)

/-- The heads of one block of rows. -/
def heads (arg2 : Memref sig .tc .vmem S1x2048x2048 .bf16) (harg2 : arg2.IsWhole) (arg3 : Memref sig .tc .vmem S2048x512 .bf16)
    (harg3 : arg3.IsWhole) (arg5 : Memref sig .tc .vmem S1x512 .f32) (harg5 : arg5.IsWhole)
    (arg6 : Memref sig .tc .vmem S2048x256 .f32) (harg6 : arg6.IsWhole) (arg7 : Memref sig .tc .vmem S2048x256 .f32)
    (harg7 : arg7.IsWhole) (x0 : Vec F S1x2048x2048 .bf16) (x1 : Vec F S2048x512 .bf16) (x3 : Vec F S1x512 .f32)
    (x4 x5 : Vec F S2048x256 .f32) (k : Fin 4) (q : Fin 2) : FVec F S1x512x256 .bf16 :=
  roped (half512 q (prod512 (rows512 arg2 harg2 x0 k) (cols arg3 harg3 x1))) (gains arg5 harg5 x3 q)
    (tables arg6 harg6 x4 k) (tables arg7 harg7 x5 k)

end Cert.Proj

end
-- ==== Proof.ProjSpec.lean ====
module

public import Idealize.ShloMosaic.PureOps.Ideal.Laws
public import Mathlib.Analysis.SpecialFunctions.Pow.Real

@[expose] public section

noncomputable section

/-! The input projection over the extended reals: the product, the centred shift of its rows, the normed and
rotated heads, and which columns are which. No program is in it. -/

namespace Cert.Proj

open Idealize.ShloMosaic

/-- One row of the product. -/
def product (h : Fin 16 → Fin 2048 → Fin 2048 → EReal) (w : Fin 2048 → Fin 11264 → EReal) (b : Fin 16)
    (i : Fin 2048) (e : Fin 11264) : EReal := ∑ k : Fin 2048, h b i k * w k e

/-- The row before, zeros before the first. -/
def before (y : Fin 2048 → EReal) (i : Fin 2048) : EReal :=
  if h : i.val = 0 then 0 else y ⟨i.val - 1, by omega⟩

/-- The row after, zeros after the last. -/
def after (y : Fin 2048 → EReal) (i : Fin 2048) : EReal :=
  if h : i.val = 2047 then 0 else y ⟨i.val + 1, by omega⟩

/-- A row moved towards the one before and the one after. -/
def shifted (y : Fin 2048 → EReal) (u v : EReal) (i : Fin 2048) : EReal :=
  (y i + u * (before y i - y i)) + v * (after y i - y i)

/-- The small number below the root. -/
def eps : EReal := Ideal.ofBits .f32 0x358637BD#32

/-- One head brought to unit mean square. -/
def normed (y g : Fin 64 → EReal) (e : Fin 64) : EReal :=
  y e * Ideal.rsqrt ((∑ d : Fin 64, y d * y d) * (((1 : ℝ) / 64 : ℝ) : EReal) + eps) * g e

/-- One head with neighbouring lanes rotated in pairs. -/
def turned (n : Fin 64 → EReal) (co si : Fin 32 → EReal) (e : Fin 64) : EReal :=
  if e.val % 2 = 0 then n e * co ⟨e.val / 2, by omega⟩ - n ⟨(e.val + 1) % 64, by omega⟩ * si ⟨e.val / 2, by omega⟩
  else n ⟨e.val - 1, by omega⟩ * si ⟨e.val / 2, by omega⟩ + n e * co ⟨e.val / 2, by omega⟩

/-- A lane of the head a column lies in. -/
def lane (e : Fin 11264) (d : Fin 64) : Fin 11264 := ⟨64 * (e.val / 64) + d.val, by omega⟩

variable (y : Fin 2048 → Fin 11264 → EReal) (mu : Fin 2 → Fin 11264 → EReal) (g : Fin 11264 → EReal)
  (co si : Fin 2048 → Fin 32 → EReal)

/-- A shifted column. -/
def shiftedAt (i : Fin 2048) (e : Fin 11264) : EReal := shifted (fun r => y r e) (mu 0 e) (mu 1 e) i

/-- A column of a normed and rotated head. -/
def turnedAt (i : Fin 2048) (e : Fin 11264) : EReal :=
  turned (normed (fun d => y i (lane e d)) (fun d => g (lane e d))) (co i) (si i) ⟨e.val % 64, by omega⟩

/-- One entry of the projection. -/
def entry (i : Fin 2048) (e : Fin 11264) : EReal :=
  if e.val < 3072 then shiftedAt y mu i e
  else if e.val < 4096 then y i e
  else if e.val < 5120 then turnedAt y g co si i e
  else if e.val < 10240 then y i e
  else if e.val < 10496 then turnedAt y g co si i e
  else if e.val < 10752 then y i e
  else if e.val < 11008 then shiftedAt y mu i e
  else y i e

end Cert.Proj

end
-- ==== Proof.ProjReads.lean ====
module

public import proofs.«01_k».proof.Proof.ProjDefs
public import proofs.«01_k».proof.Proof.ProjSpec
public import proofs.«01_k».proof.Proof.Weights
public import Idealize.ShloMosaic.Lib.Pointwise
public import Idealize.ShloMosaic.Lib.KernelVsHost

@[expose] public section

set_option maxRecDepth 16384

noncomputable section

/-! The pieces of the projection read at an index over the extended reals. -/

namespace Cert.Proj

open Idealize.ShloMosaic Cert.Kernel2Ideal Cert.Kernel2Ideal.Facts₀

/-! ## Products and halves -/

theorem half512_apply (v : Vec Ideal S1x512x2048 .bf16) (w : Vec Ideal S2048x512 .bf16) (q : Fin 2) (i : Fin 512) (b : Fin 256) :
    half512 q (prod512 v w) (ix2 i b)
      = ∑ k : Fin 2048, v (ix3 0 i k) * w (ix2 k ⟨256 * q.val + b.val, by omega⟩) := by
  pointwise [half512, prod512]

theorem half1024_apply (v : Vec Ideal S1x1024x2048 .bf16) (w : Vec Ideal S2048x512 .bf16) (q : Fin 2) (i : Fin 1024) (b : Fin 256) :
    half1024 q (prod1024 v w) (ix2 i b)
      = ∑ k : Fin 2048, v (ix3 0 i k) * w (ix2 k ⟨256 * q.val + b.val, by omega⟩) := by
  pointwise [half1024, prod1024]

theorem half2048_apply (v : Vec Ideal S1x2048x2048 .bf16) (w : Vec Ideal S2048x512 .bf16) (q : Fin 2) (i : Fin 2048) (b : Fin 256) :
    half2048 q (prod2048 v w) (ix2 i b)
      = ∑ k : Fin 2048, v (ix3 0 i k) * w (ix2 k ⟨256 * q.val + b.val, by omega⟩) := by
  pointwise [half2048, prod2048]

theorem plain512_apply (y : FVec Ideal S512x256 .f32) (i : Fin 512) (b : Fin 256) : plain512 y (ix3 0 i b) = y (ix2 i b) := by
  pointwise [plain512]

theorem plain1024_apply (y : FVec Ideal S1024x256 .f32) (i : Fin 1024) (b : Fin 256) :
    plain1024 y (ix3 0 i b) = y (ix2 i b) := by
  pointwise [plain1024]

theorem plain2048_apply (y : FVec Ideal S2048x256 .f32) (i : Fin 2048) (b : Fin 256) :
    plain2048 y (ix3 0 i b) = y (ix2 i b) := by
  pointwise [plain2048]

theorem full1024_apply (y : FVec Ideal S1024x256 .f32) (i : Fin 1024) (b : Fin 256) :
    full1024 y (ix3 0 i b) = y (ix2 i b) := by
  pointwise [full1024]

theorem stored_eq (y : FVec Ideal S1024x256 .f32) : stored y = y := by
  funext j
  obtain ⟨i, b, rfl⟩ : ∃ (i : Fin 1024) (b : Fin 256), j = ix2 i b := ⟨j 0, j 1, funext fun a => by
    match a with
    | 0 => rfl
    | 1 => rfl⟩
  pointwise [stored]

theorem blank_apply (i : Fin 8) (e : Fin 512) : (blank : FVec Ideal S8x512 .f32) (ix2 i e) = 0 := by
  pointwise [blank]

theorem mix_apply (mu : Vec Ideal S2x256 .f32) (y u v : Vec Ideal S1024x256 .f32) (i : Fin 1024) (b : Fin 256) :
    mix mu y u v (ix2 i b) = y (ix2 i b) + mu (ix2 0 b) * (u (ix2 i b) - y (ix2 i b))
      + mu (ix2 1 b) * (v (ix2 i b) - y (ix2 i b)) := by
  pointwise [mix]

/-! ## Heads -/

/-- The quotient by 64 of one index. -/
def quotient64 (v : BitVec 32) : BitVec 32 :=
  quotients (broadcast S256x256 v) (ix2 0 0)

theorem quotients_apply (v : IVec S256x256 32) (c b : Fin 256) : quotients v (ix2 c b) = quotient64 (v (ix2 c b)) := by
  pointwise [quotients, quotient64]

theorem quotient64_apply : ∀ c : Fin 256, quotient64 (BitVec.ofNat 32 c.val) = BitVec.ofNat 32 (c.val / 64) := by
  decide +kernel

theorem sameHead_apply (c b : Fin 256) :
    (sameHead : FVec Ideal S256x256 .bf16) (ix2 c b) = if c.val / 64 = b.val / 64 then 1 else 0 := by
  have e1 : (sameHead : FVec Ideal S256x256 .bf16) (ix2 c b) = Scalar.select
      (IntOp.cmpi .eq (quotients (iota .tc S256x256 32 [0] iota_S256x256_d0_w32) (ix2 c b))
        (quotients (iota .tc S256x256 32 [1] iota_S256x256_d1_w32) (ix2 c b))) 1 0 := by
    pointwise [sameHead]
  have e2 : iota .tc S256x256 32 [0] iota_S256x256_d0_w32 (ix2 c b) = BitVec.ofNat 32 c.val := by pointwise []
  have e3 : iota .tc S256x256 32 [1] iota_S256x256_d1_w32 (ix2 c b) = BitVec.ofNat 32 b.val := by pointwise []
  rw [e1, quotients_apply, quotients_apply, e2, e3, quotient64_apply, quotient64_apply]
  have hc : c.val / 64 < 2 ^ 32 := by omega
  have hd : b.val / 64 < 2 ^ 32 := by omega
  by_cases hcd : c.val / 64 = b.val / 64
  · rw [if_pos hcd, hcd]
    simp [IntOp.cmpi, Scalar.select]
  · rw [if_neg hcd]
    have hne : BitVec.ofNat 32 (c.val / 64) ≠ BitVec.ofNat 32 (b.val / 64) := fun he => hcd (by
      have := congrArg BitVec.toNat he
      rwa [BitVec.toNat_ofNat, BitVec.toNat_ofNat, Nat.mod_eq_of_lt hc, Nat.mod_eq_of_lt hd] at this)
    have hb : (BitVec.ofNat 32 (c.val / 64) == BitVec.ofNat 32 (b.val / 64)) = false := beq_eq_false_iff_ne.mpr hne
    simp [IntOp.cmpi, Scalar.select, hb]

/-- A sum over all columns that keeps one head is the sum over that head. -/
theorem sum_head (f : Fin 256 → EReal) (b : Fin 256) :
    ∑ c : Fin 256, f c * (if c.val / 64 = b.val / 64 then 1 else 0) = ∑ d : Fin 64, f ⟨64 * (b.val / 64) + d.val, by omega⟩ := by
  have e1 : ∑ c : Fin 256, f c * (if c.val / 64 = b.val / 64 then (1 : EReal) else 0)
      = ∑ p : Fin 4 × Fin 64, f (finProdFinEquiv p) * (if (finProdFinEquiv p : Fin (4 * 64)).val / 64 = b.val / 64 then 1 else 0) :=
    (Fintype.sum_equiv (finProdFinEquiv (m := 4) (n := 64)) _ _ fun _ => rfl).symm
  rw [e1, Fintype.sum_prod_type, Finset.sum_eq_single (⟨b.val / 64, by omega⟩ : Fin 4)]
  · refine Finset.sum_congr rfl fun d _ => ?_
    have hv : ((finProdFinEquiv ((⟨b.val / 64, by omega⟩ : Fin 4), d) : Fin (4 * 64))).val = d.val + 64 * (b.val / 64) := rfl
    rw [if_pos (by rw [hv]; omega), mul_one]
    exact congrArg f (Fin.ext (by rw [hv]; dsimp only; omega))
  · intro h _ hh
    refine Finset.sum_eq_zero fun d _ => ?_
    have hv : ((finProdFinEquiv (h, d) : Fin (4 * 64))).val = d.val + 64 * h.val := rfl
    rw [if_neg (fun he => hh (Fin.ext (by rw [hv] at he; dsimp only; omega))), mul_zero]
  · exact fun hc => absurd (Finset.mem_univ _) hc

theorem headSums_apply (s : FVec Ideal S512x256 .f32) (i : Fin 512) (b : Fin 256)
    (hs : ∀ c, ∃ r : ℝ, s (ix2 i c) = (r : EReal)) :
    headSums s (ix2 i b) = ∑ d : Fin 64, s (ix2 i ⟨64 * (b.val / 64) + d.val, by omega⟩) := by
  have e1 : headSums s (ix2 i b) = (∑ c : Fin 256, s (ix2 i c) * (sameHead : FVec Ideal S256x256 .bf16) (ix2 c b))
      + ∑ c : Fin 256, (s (ix2 i c) - s (ix2 i c)) * (sameHead : FVec Ideal S256x256 .bf16) (ix2 c b) := by
    pointwise [headSums]
  have e2 : ∀ c : Fin 256, s (ix2 i c) - s (ix2 i c) = 0 := fun c => by
    obtain ⟨r, hr⟩ := hs c
    rw [hr, ← EReal.coe_sub, sub_self, EReal.coe_zero]
  simp only [e1, e2, sameHead_apply, zero_mul, Finset.sum_const_zero, add_zero]
  exact sum_head (fun c => s (ix2 i c)) b

theorem sixty_fourth : Ideal.ofBits .f32 0x3C800000#32 = ((1 / 64 : ℝ) : EReal) := by
  simp [Ideal.ofBits, Ideal.ieee, -EReal.coe_mul]
  norm_num

theorem norms_apply (y : FVec Ideal S512x256 .f32) (g : Vec Ideal S1x256 .f32) (i : Fin 512) (b : Fin 256)
    (hy : ∀ c, ∃ r : ℝ, y (ix2 i c) = (r : EReal)) :
    norms y g (ix2 i b) = normed (fun d => y (ix2 i ⟨64 * (b.val / 64) + d.val, by omega⟩))
      (fun d => g (ix2 0 ⟨64 * (b.val / 64) + d.val, by omega⟩)) ⟨b.val % 64, Nat.mod_lt _ (by decide)⟩ := by
  have e1 : norms y g (ix2 i b) = y (ix2 i b) * Ideal.rsqrt (headSums (mulf y y) (ix2 i b) * Ideal.ofBits .f32 0x3C800000#32
      + Ideal.ofBits .f32 0x358637BD#32) * g (ix2 0 b) := by
    pointwise [norms, scales]
  rw [e1, headSums_apply _ i b, sixty_fourth]
  · have hb : (⟨64 * (b.val / 64) + (⟨b.val % 64, Nat.mod_lt _ (by decide)⟩ : Fin 64).val, by dsimp only; omega⟩ : Fin 256) = b :=
      Fin.ext (by dsimp only; omega)
    unfold normed
    beta_reduce
    rw [hb]
    rfl
  · intro c
    obtain ⟨r, hr⟩ := hy c
    exact ⟨r * r, by show y (ix2 i c) * y (ix2 i c) = _; rw [hr, EReal.coe_mul]⟩

/-- Whether one index is even. -/
def even32 (v : BitVec 32) : BitVec 1 :=
  (cmpi .eq (remainders (broadcast S512x256 v)) (broadcast S512x256 0#32)) (ix2 0 0)

theorem even32_apply : ∀ c : Fin 256, even32 (BitVec.ofNat 32 c.val) = if c.val % 2 = 0 then 1#1 else 0#1 := by
  decide +kernel

theorem evens_apply (i : Fin 512) (b : Fin 256) : evens (ix2 i b) = if b.val % 2 = 0 then 1#1 else 0#1 := by
  have e1 : evens (ix2 i b) = even32 (BitVec.ofNat 32 b.val) := by
    pointwise [evens, even32, remainders]
  exact e1.trans (even32_apply b)

theorem after_apply (n : FVec Ideal S512x256 .f32) (i : Fin 512) (b : Fin 256) :
    dynamicRotate 1 255#32 none n rotates_S512x256_d1 (ix2 i b) = n (ix2 i ⟨(b.val + 1) % 256, Nat.mod_lt _ (by decide)⟩) :=
  dynamicRotate_apply _ _ _ _ _ _ fun a => by
    match a with
    | 0 => rfl
    | 1 =>
      show (b.val + 1) % 256 = (b.val + 256 - 255 % 256) % 256
      omega

theorem before_apply (n : FVec Ideal S512x256 .f32) (i : Fin 512) (b : Fin 256) :
    dynamicRotate 1 1#32 none n rotates_S512x256_d1 (ix2 i b) = n (ix2 i ⟨(b.val + 255) % 256, Nat.mod_lt _ (by decide)⟩) :=
  dynamicRotate_apply _ _ _ _ _ _ fun a => by
    match a with
    | 0 => rfl
    | 1 =>
      show (b.val + 255) % 256 = (b.val + 256 - 1 % 256) % 256
      omega

theorem partners_apply (n : FVec Ideal S512x256 .f32) (i : Fin 512) (b : Fin 256) :
    partners n (ix2 i b) = if b.val % 2 = 0 then 0 - n (ix2 i ⟨(b.val + 1) % 256, Nat.mod_lt _ (by decide)⟩)
      else n (ix2 i ⟨(b.val + 255) % 256, Nat.mod_lt _ (by decide)⟩) := by
  have e1 : partners n (ix2 i b) = Scalar.select (evens (ix2 i b))
      (Ideal.ofBits .f32 0x00000000#32 - dynamicRotate 1 255#32 none n rotates_S512x256_d1 (ix2 i b))
      (dynamicRotate 1 1#32 none n rotates_S512x256_d1 (ix2 i b)) := rfl
  rw [e1, evens_apply, after_apply, before_apply, Ideal.ofBits_zero_f32]
  by_cases hb : b.val % 2 = 0
  · rw [if_pos hb, if_pos hb]; rfl
  · rw [if_neg hb, if_neg hb]; rfl

theorem turns_apply (n : FVec Ideal S512x256 .f32) (co si : Vec Ideal S512x256 .f32) (i : Fin 512) (b : Fin 256) :
    turns n co si (ix2 i b) = n (ix2 i b) * co (ix2 i b) + partners n (ix2 i b) * si (ix2 i b) := by
  pointwise [turns]

theorem roped_apply (y : FVec Ideal S512x256 .f32) (g : Vec Ideal S1x256 .f32) (co si : Vec Ideal S512x256 .f32) (i : Fin 512)
    (b : Fin 256) (c s : Fin 32 → EReal) (hy : ∀ c, ∃ r : ℝ, y (ix2 i c) = (r : EReal))
    (hc : co (ix2 i b) = c ⟨b.val % 64 / 2, by omega⟩) (hs : si (ix2 i b) = s ⟨b.val % 64 / 2, by omega⟩) :
    roped y g co si (ix3 0 i b) = turned (normed (fun d => y (ix2 i ⟨64 * (b.val / 64) + d.val, by omega⟩))
      (fun d => g (ix2 0 ⟨64 * (b.val / 64) + d.val, by omega⟩))) c s ⟨b.val % 64, Nat.mod_lt _ (by decide)⟩ := by
  have hn : ∀ (j : Fin 256) (d : Fin 64), j.val = 64 * (b.val / 64) + d.val →
      norms y g (ix2 i j) = normed (fun d => y (ix2 i ⟨64 * (b.val / 64) + d.val, by omega⟩))
        (fun d => g (ix2 0 ⟨64 * (b.val / 64) + d.val, by omega⟩)) d := by
    intro j d hj
    rw [norms_apply y g i j hy]
    have h1 : j.val / 64 = b.val / 64 := by omega
    have h2 : (⟨j.val % 64, Nat.mod_lt _ (by decide)⟩ : Fin 64) = d := Fin.ext (by dsimp only; omega)
    rw [h2]
    simp only [h1]
  unfold roped
  rw [plain512_apply, turns_apply, partners_apply, hc, hs]
  generalize hN : normed (fun d => y (ix2 i ⟨64 * (b.val / 64) + d.val, by omega⟩))
        (fun d => g (ix2 0 ⟨64 * (b.val / 64) + d.val, by omega⟩)) = N at hn ⊢
  unfold turned
  by_cases hb : b.val % 2 = 0
  · rw [if_pos hb, if_pos (show b.val % 64 % 2 = 0 by omega), hn b ⟨b.val % 64, by omega⟩ (by dsimp only; omega),
      hn ⟨(b.val + 1) % 256, by omega⟩ ⟨(b.val % 64 + 1) % 64, by omega⟩ (by dsimp only; omega), zero_sub, neg_mul]
    rfl
  · rw [if_neg hb, if_neg (show ¬b.val % 64 % 2 = 0 by omega), hn b ⟨b.val % 64, by omega⟩ (by dsimp only; omega),
      hn ⟨(b.val + 255) % 256, by omega⟩ ⟨b.val % 64 - 1, by omega⟩ (by dsimp only; omega), add_comm]

end Cert.Proj

end
-- ==== Proof.ProjBlocks.lean ====
module

public import proofs.«01_k».proof.Proof.ProjReads
public import Idealize.ShloMosaic.Lib.Pipeline.Value
public import Idealize.ShloMosaic.Lib.Pipeline.ReadBack

@[expose] public section

set_option maxRecDepth 16384

noncomputable section

/-! What the loads and the pieces of the projection's grid points are, in terms of the point's blocks. -/

namespace Cert.Proj

open Idealize.ShloMosaic Cert.Kernel2Ideal Cert.Kernel2Ideal.Facts₀

/-! ## Pieces of a block -/

theorem pair_eq {A B : ℕ} (x : (⟨2, ![A, B]⟩ : Shape).Idx) : x = ix2 (x 0) (x 1) := funext fun a => by
  match a with
  | 0 => rfl
  | 1 => rfl

theorem triple_eq {A B C : ℕ} (x : (⟨3, ![A, B, C]⟩ : Shape).Idx) : x = ix3 (x 0) (x 1) (x 2) := funext fun a => by
  match a with
  | 0 => rfl
  | 1 => rfl
  | 2 => rfl

/-- A stored piece of a table of rows agrees with `G`. -/
theorem band2 {M N : ℕ} (G : Fin M → Fin N → EReal) (r0 c0 R C : ℕ)
    (inb : ∀ a, (![r0, c0] : Fin 2 → ℕ) a + (![R, C] : Fin 2 → ℕ) a ≤ (⟨2, ![M, N]⟩ : Shape).size a)
    (w : (⟨2, ![R, C]⟩ : Shape).Idx → EReal)
    (h : ∀ (a : Fin R) (b : Fin C) (i : Fin M) (e : Fin N), i.val = r0 + a.val → e.val = c0 + b.val → w (ix2 a b) = G i e)
    (x : (⟨2, ![R, C]⟩ : Shape).Idx) :
    w x = (fun y : (⟨2, ![M, N]⟩ : Shape).Idx => G (y 0) (y 1))
      ((Rect.unit (s := ⟨2, ![M, N]⟩) ![r0, c0] ![R, C] inb).emb x) := by
  refine (congrArg w (pair_eq x)).trans (h (x 0) (x 1) _ _ ?_ ?_)
  · show r0 + 1 * (x 0).val = r0 + (x 0).val; omega
  · show c0 + 1 * (x 1).val = c0 + (x 1).val; omega

theorem mem2 {M N : ℕ} (r0 c0 R C : ℕ)
    (inb : ∀ a, (![r0, c0] : Fin 2 → ℕ) a + (![R, C] : Fin 2 → ℕ) a ≤ (⟨2, ![M, N]⟩ : Shape).size a) (i : Fin M) (e : Fin N)
    (hi : r0 ≤ i.val ∧ i.val < r0 + R) (he : c0 ≤ e.val ∧ e.val < c0 + C) :
    ix2 i e ∈ (Rect.unit (s := ⟨2, ![M, N]⟩) ![r0, c0] ![R, C] inb).set := by
  rw [Rect.mem_set_unit]
  intro a
  match a with
  | 0 => exact hi
  | 1 => exact he

/-- A stored piece of a block agrees with `G`. -/
theorem band3 {N : ℕ} (G : Fin 2048 → Fin N → EReal) (r0 c0 R C : ℕ)
    (inb : ∀ a, (![0, r0, c0] : Fin 3 → ℕ) a + (![1, R, C] : Fin 3 → ℕ) a ≤ (⟨3, ![1, 2048, N]⟩ : Shape).size a)
    (w : (⟨3, ![1, R, C]⟩ : Shape).Idx → EReal)
    (h : ∀ (a : Fin R) (b : Fin C) (i : Fin 2048) (e : Fin N), i.val = r0 + a.val → e.val = c0 + b.val → w (ix3 0 a b) = G i e)
    (x : (⟨3, ![1, R, C]⟩ : Shape).Idx) :
    w x = (fun y : (⟨3, ![1, 2048, N]⟩ : Shape).Idx => G (y 1) (y 2))
      ((Rect.unit (s := ⟨3, ![1, 2048, N]⟩) ![0, r0, c0] ![1, R, C] inb).emb x) := by
  have h0 : x 0 = (0 : Fin 1) := Subsingleton.elim (α := Fin 1) _ _
  refine (congrArg w ((triple_eq x).trans (congrArg (fun z : Fin 1 => ix3 z (x 1) (x 2)) h0))).trans (h (x 1) (x 2) _ _ ?_ ?_)
  · show r0 + 1 * (x 1).val = r0 + (x 1).val; omega
  · show c0 + 1 * (x 2).val = c0 + (x 2).val; omega

theorem mem3 {N : ℕ} (r0 c0 R C : ℕ)
    (inb : ∀ a, (![0, r0, c0] : Fin 3 → ℕ) a + (![1, R, C] : Fin 3 → ℕ) a ≤ (⟨3, ![1, 2048, N]⟩ : Shape).size a)
    (i : Fin 2048) (e : Fin N) (hi : r0 ≤ i.val ∧ i.val < r0 + R) (he : c0 ≤ e.val ∧ e.val < c0 + C) :
    ix3 0 i e ∈ (Rect.unit (s := ⟨3, ![1, 2048, N]⟩) ![0, r0, c0] ![1, R, C] inb).set := by
  rw [Rect.mem_set_unit]
  intro a
  match a with
  | 0 => exact ⟨Nat.le_refl 0, Nat.zero_lt_one⟩
  | 1 => exact hi
  | 2 => exact he

/-! ## Loads -/

/-- A load through a rectangle of a whole buffer reads what it holds there. -/
theorem readAt_part {Val : EltTy → Type} {S : Shape} {e : EltTy} (mr : Memref sig .tc .vmem S e) (hm : mr.IsWhole)
    (r : LoadRect S) (x : S.Idx → Val e) (y : r.shape.Idx) :
    View.readAt Val mr.view r (hm.unread x) y = x (r.idx y) := by
  rw [View.readAt_apply, hm.read_unread]

section Loads

variable (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (x0 : Vec Ideal S1x2048x2048 .bf16) (x1 : Vec Ideal S2048x512 .bf16) (x2 : Vec Ideal S2x512 .f32)
    (x3 : Vec Ideal S1x512 .f32) (x4 x5 : Vec Ideal S2048x256 .f32)

theorem rows512_apply (k : Fin 4) (a : Fin 512) (d : Fin 2048) :
    rows512 arg2 harg2 x0 k (ix3 0 a d) = x0 (ix3 0 ⟨512 * k.val + a.val, by omega⟩ d) :=
  (readAt_part arg2 harg2 _ x0 _).trans (congrArg x0 (funext fun z => Fin.ext (by
    match z with
    | 0 => rfl
    | 1 => show 512 * k.val + 1 * a.val = 512 * k.val + a.val; omega
    | 2 => show 0 + 1 * d.val = d.val; omega)))

theorem rows1024_apply (k : Fin 2) (a : Fin 1024) (d : Fin 2048) :
    rows1024 arg2 harg2 x0 k (ix3 0 a d) = x0 (ix3 0 ⟨1024 * k.val + a.val, by omega⟩ d) :=
  (readAt_part arg2 harg2 _ x0 _).trans (congrArg x0 (funext fun z => Fin.ext (by
    match z with
    | 0 => rfl
    | 1 => show 1024 * k.val + 1 * a.val = 1024 * k.val + a.val; omega
    | 2 => show 0 + 1 * d.val = d.val; omega)))

theorem rows2048_apply (a d : Fin 2048) : rows2048 arg2 harg2 x0 (ix3 0 a d) = x0 (ix3 0 a d) :=
  (readAt_part arg2 harg2 _ x0 _).trans (congrArg x0 (funext fun z => Fin.ext (by
    match z with
    | 0 => rfl
    | 1 => show 0 + 1 * a.val = a.val; omega
    | 2 => show 0 + 1 * d.val = d.val; omega)))

theorem cols_apply (d : Fin 2048) (e : Fin 512) : cols arg3 harg3 x1 (ix2 d e) = x1 (ix2 d e) :=
  (readAt_part arg3 harg3 _ x1 _).trans (congrArg x1 (funext fun z => Fin.ext (by
    match z with
    | 0 => show 0 + 1 * d.val = d.val; omega
    | 1 => show 0 + 1 * e.val = e.val; omega)))

theorem weights_apply (q r : Fin 2) (b : Fin 256) :
    weights arg4 harg4 x2 q (ix2 r b) = x2 (ix2 r ⟨256 * q.val + b.val, by omega⟩) :=
  (readAt_part arg4 harg4 _ x2 _).trans (congrArg x2 (funext fun z => Fin.ext (by
    match z with
    | 0 => show 0 + 1 * r.val = r.val; omega
    | 1 => show 256 * q.val + 1 * b.val = 256 * q.val + b.val; omega)))

theorem gains_apply (q : Fin 2) (b : Fin 256) :
    gains arg5 harg5 x3 q (ix2 0 b) = x3 (ix2 0 ⟨256 * q.val + b.val, by omega⟩) :=
  (readAt_part arg5 harg5 _ x3 _).trans (congrArg x3 (funext fun z => Fin.ext (by
    match z with
    | 0 => rfl
    | 1 => show 256 * q.val + 1 * b.val = 256 * q.val + b.val; omega)))

theorem tables_apply (k : Fin 4) (a : Fin 512) (b : Fin 256) :
    tables arg6 harg6 x4 k (ix2 a b) = x4 (ix2 ⟨512 * k.val + a.val, by omega⟩ b) :=
  (readAt_part arg6 harg6 _ x4 _).trans (congrArg x4 (funext fun z => Fin.ext (by
    match z with
    | 0 => show 512 * k.val + 1 * a.val = 512 * k.val + a.val; omega
    | 1 => show 0 + 1 * b.val = b.val; omega)))

/-! ## Blocks -/

/-- One entry of a block of the product. -/
def blockAt (i : Fin 2048) (e : Fin 512) : EReal := ∑ k : Fin 2048, x0 (ix3 0 i k) * x1 (ix2 k e)

theorem half512_block (k : Fin 4) (q : Fin 2) (a : Fin 512) (b : Fin 256) (i : Fin 2048) (e : Fin 512)
    (hi : i.val = 512 * k.val + a.val) (he : e.val = 256 * q.val + b.val) :
    half512 q (prod512 (rows512 arg2 harg2 x0 k) (cols arg3 harg3 x1)) (ix2 a b) = blockAt x0 x1 i e := by
  rw [half512_apply]
  refine Finset.sum_congr rfl fun d _ => ?_
  rw [rows512_apply, cols_apply]
  rw [show i = ⟨512 * k.val + a.val, by omega⟩ from Fin.ext hi, show e = ⟨256 * q.val + b.val, by omega⟩ from Fin.ext he]

theorem half1024_block (k q : Fin 2) (a : Fin 1024) (b : Fin 256) (i : Fin 2048) (e : Fin 512)
    (hi : i.val = 1024 * k.val + a.val) (he : e.val = 256 * q.val + b.val) :
    half1024 q (prod1024 (rows1024 arg2 harg2 x0 k) (cols arg3 harg3 x1)) (ix2 a b) = blockAt x0 x1 i e := by
  rw [half1024_apply]
  refine Finset.sum_congr rfl fun d _ => ?_
  rw [rows1024_apply, cols_apply]
  rw [show i = ⟨1024 * k.val + a.val, by omega⟩ from Fin.ext hi, show e = ⟨256 * q.val + b.val, by omega⟩ from Fin.ext he]

theorem half2048_block (q : Fin 2) (a : Fin 2048) (b : Fin 256) (i : Fin 2048) (e : Fin 512)
    (hi : i.val = a.val) (he : e.val = 256 * q.val + b.val) :
    half2048 q (prod2048 (rows2048 arg2 harg2 x0) (cols arg3 harg3 x1)) (ix2 a b) = blockAt x0 x1 i e := by
  rw [half2048_apply]
  refine Finset.sum_congr rfl fun d _ => ?_
  rw [rows2048_apply, cols_apply]
  rw [show i = a from Fin.ext hi, show e = ⟨256 * q.val + b.val, by omega⟩ from Fin.ext he]

/-- One entry of a block of heads. -/
def headAt (co si : Fin 2048 → Fin 32 → EReal) (i : Fin 2048) (e : Fin 512) : EReal :=
  turned (normed (fun d => blockAt x0 x1 i ⟨64 * (e.val / 64) + d.val, by omega⟩)
    (fun d => x3 (ix2 0 ⟨64 * (e.val / 64) + d.val, by omega⟩))) (co i) (si i) ⟨e.val % 64, Nat.mod_lt _ (by decide)⟩

/-- The table of angles, repeated over the lanes. -/
def Spread (x : Vec Ideal S2048x256 .f32) (co : Fin 2048 → Fin 32 → EReal) : Prop :=
  ∀ (i : Fin 2048) (l : Fin 256), x (ix2 i l) = co i ⟨l.val % 64 / 2, by omega⟩

theorem heads_block (co si : Fin 2048 → Fin 32 → EReal) (hc : Spread x4 co) (hs : Spread x5 si) (q : Fin 2)
    (hx : ∀ (i : Fin 2048) (e : Fin 512), e.val / 256 = q.val → ∃ r : ℝ, blockAt x0 x1 i e = (r : EReal))
    (k : Fin 4) (a : Fin 512) (b : Fin 256) (i : Fin 2048) (e : Fin 512)
    (hi : i.val = 512 * k.val + a.val) (he : e.val = 256 * q.val + b.val) :
    heads arg2 harg2 arg3 harg3 arg5 harg5 arg6 harg6 arg7 harg7 x0 x1 x3 x4 x5 k q (ix3 0 a b) = headAt x0 x1 x3 co si i e := by
  have hb := b.isLt
  have hq := q.isLt
  have hI : (⟨512 * k.val + a.val, by omega⟩ : Fin 2048) = i := Fin.ext hi.symm
  have e1 : ∀ c : Fin 256, half512 q (prod512 (rows512 arg2 harg2 x0 k) (cols arg3 harg3 x1)) (ix2 a c)
      = blockAt x0 x1 i ⟨256 * q.val + c.val, by omega⟩ := fun c =>
    half512_block arg2 harg2 arg3 harg3 x0 x1 k q a c i _ hi rfl
  unfold heads
  refine (roped_apply _ _ _ _ a b (co i) (si i) (fun c => ?_) ?_ ?_).trans ?_
  · rw [e1 c]
    exact hx i _ (by dsimp only; omega)
  · rw [tables_apply, hI]
    exact hc i b
  · rw [tables_apply, hI]
    exact hs i b
  · unfold headAt
    have hl : ∀ d : Fin 64, (⟨256 * q.val + (64 * (b.val / 64) + d.val), by omega⟩ : Fin 512)
        = ⟨64 * (e.val / 64) + d.val, by omega⟩ := fun d => Fin.ext (by dsimp only; omega)
    have hz : (⟨b.val % 64, Nat.mod_lt _ (by decide)⟩ : Fin 64) = ⟨e.val % 64, Nat.mod_lt _ (by decide)⟩ :=
      Fin.ext (by dsimp only; omega)
    simp only [e1, gains_apply, hl, hz]

/-! ## Mixed rows -/

/-- The rows kept for mixing, zeros outside. -/
def taped (r : Fin 2064) (e : Fin 512) : EReal :=
  if h : 8 ≤ r.val ∧ r.val < 2056 then blockAt x0 x1 ⟨r.val - 8, by omega⟩ e else 0

/-- A list of stores holds the kept rows of half the columns. -/
def Holds (L : List (View.Piece (Elt Ideal) S2064x512 .f32)) (q : Fin 2) : Prop :=
  ∀ (r : Fin 2064) (e : Fin 512), e.val / 256 = q.val → View.canon L (ix2 r e) = taped x0 x1 r e

theorem blank_band (r0 : ℕ) (hr : r0 + 8 ≤ 8 ∨ 2056 ≤ r0) (a : Fin 8) (b : Fin 512) (r : Fin 2064) (e : Fin 512)
    (h : r.val = r0 + a.val) : (blank : FVec Ideal S8x512 .f32) (ix2 a b) = taped x0 x1 r e := by
  rw [blank_apply]
  unfold taped
  rw [dif_neg (by omega)]

theorem stored_band (k q : Fin 2) (a : Fin 1024) (b : Fin 256) (r : Fin 2064) (e : Fin 512)
    (hr : r.val = 8 + 1024 * k.val + a.val) (he : e.val = 256 * q.val + b.val) :
    stored (half1024 q (prod1024 (rows1024 arg2 harg2 x0 k) (cols arg3 harg3 x1))) (ix2 a b) = taped x0 x1 r e := by
  have hk := k.isLt
  have ha := a.isLt
  unfold taped
  rw [stored_eq, dif_pos (by omega)]
  exact half1024_block arg2 harg2 arg3 harg3 x0 x1 k q a b _ e (by dsimp only; omega) he

/-- The kept rows, as one function of the index. -/
abbrev tapedAll (y : S2064x512.Idx) : EReal := taped x0 x1 (y 0) (y 1)

theorem blanks_band : View.PiecesOf (Val := Elt Ideal) (e := .f32) (tapedAll x0 x1)
    [⟨Rect.unit ![2056, 0] S8x512.size inb_S2064x512_S8x512_2056_0, (blank : FVec Ideal S8x512 .f32)⟩,
      ⟨Rect.unit ![0, 0] S8x512.size inb_S2064x512_S8x512_0_0, (blank : FVec Ideal S8x512 .f32)⟩] :=
  ⟨band2 (taped x0 x1) 2056 0 8 512 inb_S2064x512_S8x512_2056_0 _ fun a b r e hr _ => blank_band x0 x1 2056 (Or.inr (Nat.le_refl _)) a b r e hr,
    band2 (taped x0 x1) 0 0 8 512 inb_S2064x512_S8x512_0_0 _ fun a b r e hr _ => blank_band x0 x1 0 (Or.inl (Nat.le_refl _)) a b r e hr, trivial⟩

theorem tape_holds : Holds x0 x1 (tape (prod1024 (rows1024 arg2 harg2 x0 0) (cols arg3 harg3 x1))
    (prod1024 (rows1024 arg2 harg2 x0 1) (cols arg3 harg3 x1))) 0 := by
  intro r e he
  have hr := r.isLt
  have he0 : e.val / 256 = 0 := he
  have hp : View.PiecesOf (Val := Elt Ideal) (e := .f32) (tapedAll x0 x1)
      (tape (prod1024 (rows1024 arg2 harg2 x0 0) (cols arg3 harg3 x1))
        (prod1024 (rows1024 arg2 harg2 x0 1) (cols arg3 harg3 x1))) :=
    ⟨band2 (taped x0 x1) 1032 0 1024 256 inb_S2064x512_S1024x256_1032_0 _ fun a b r e hr he =>
        stored_band arg2 harg2 arg3 harg3 x0 x1 1 0 a b r e hr (by rw [he]; rfl),
      band2 (taped x0 x1) 8 0 1024 256 inb_S2064x512_S1024x256_8_0 _ fun a b r e hr he =>
        stored_band arg2 harg2 arg3 harg3 x0 x1 0 0 a b r e hr (by rw [he]; rfl), blanks_band x0 x1⟩
  refine View.canon_apply_of_pieces (Val := Elt Ideal) (e := .f32) (tapedAll x0 x1) _ (View.PiecesOf.mem hp) (ix2 r e) ?_
  unfold tape
  by_cases h1 : r.val < 8
  · exact ⟨_, .tail _ (.tail _ (.tail _ (.head _))), mem2 0 0 8 512 inb_S2064x512_S8x512_0_0 r e (by omega) (by omega)⟩
  by_cases h2 : r.val < 1032
  · exact ⟨_, .tail _ (.head _), mem2 8 0 1024 256 inb_S2064x512_S1024x256_8_0 r e (by omega) (by omega)⟩
  by_cases h3 : r.val < 2056
  · exact ⟨_, .head _, mem2 1032 0 1024 256 inb_S2064x512_S1024x256_1032_0 r e (by omega) (by omega)⟩
  · exact ⟨_, .tail _ (.tail _ (.head _)), mem2 2056 0 8 512 inb_S2064x512_S8x512_2056_0 r e (by omega) (by omega)⟩

theorem tapes_pieces : View.PiecesOf (Val := Elt Ideal) (e := .f32) (tapedAll x0 x1)
    (tapes (prod1024 (rows1024 arg2 harg2 x0 0) (cols arg3 harg3 x1))
      (prod1024 (rows1024 arg2 harg2 x0 1) (cols arg3 harg3 x1))) :=
  ⟨band2 (taped x0 x1) 1032 0 1024 256 inb_S2064x512_S1024x256_1032_0 _ fun a b r e hr he =>
      stored_band arg2 harg2 arg3 harg3 x0 x1 1 0 a b r e hr (by rw [he]; rfl),
    band2 (taped x0 x1) 8 256 1024 256 inb_S2064x512_S1024x256_8_256 _ fun a b r e hr he =>
      stored_band arg2 harg2 arg3 harg3 x0 x1 0 1 a b r e hr (by rw [he]; rfl),
    band2 (taped x0 x1) 8 0 1024 256 inb_S2064x512_S1024x256_8_0 _ fun a b r e hr he =>
      stored_band arg2 harg2 arg3 harg3 x0 x1 0 0 a b r e hr (by rw [he]; rfl), blanks_band x0 x1⟩

theorem tapes_holds : Holds x0 x1 (tapes (prod1024 (rows1024 arg2 harg2 x0 0) (cols arg3 harg3 x1))
    (prod1024 (rows1024 arg2 harg2 x0 1) (cols arg3 harg3 x1))) 0 := by
  intro r e he
  have hr := r.isLt
  have he0 : e.val / 256 = 0 := he
  refine View.canon_apply_of_pieces (Val := Elt Ideal) (e := .f32) (tapedAll x0 x1) _
    (View.PiecesOf.mem (tapes_pieces arg2 harg2 arg3 harg3 x0 x1)) (ix2 r e) ?_
  unfold tapes
  by_cases h1 : r.val < 8
  · exact ⟨_, .tail _ (.tail _ (.tail _ (.tail _ (.head _)))), mem2 0 0 8 512 inb_S2064x512_S8x512_0_0 r e (by omega) (by omega)⟩
  by_cases h2 : r.val < 1032
  · exact ⟨_, .tail _ (.tail _ (.head _)), mem2 8 0 1024 256 inb_S2064x512_S1024x256_8_0 r e (by omega) (by omega)⟩
  by_cases h3 : r.val < 2056
  · exact ⟨_, .head _, mem2 1032 0 1024 256 inb_S2064x512_S1024x256_1032_0 r e (by omega) (by omega)⟩
  · exact ⟨_, .tail _ (.tail _ (.tail _ (.head _))), mem2 2056 0 8 512 inb_S2064x512_S8x512_2056_0 r e (by omega) (by omega)⟩

theorem bothTapes_holds (q : Fin 2) : Holds x0 x1 (bothTapes (prod1024 (rows1024 arg2 harg2 x0 0) (cols arg3 harg3 x1))
    (prod1024 (rows1024 arg2 harg2 x0 1) (cols arg3 harg3 x1))) q := by
  intro r e _
  have hr := r.isLt
  have he := e.isLt
  have hp : View.PiecesOf (Val := Elt Ideal) (e := .f32) (tapedAll x0 x1)
      (bothTapes (prod1024 (rows1024 arg2 harg2 x0 0) (cols arg3 harg3 x1))
        (prod1024 (rows1024 arg2 harg2 x0 1) (cols arg3 harg3 x1))) :=
    ⟨band2 (taped x0 x1) 1032 256 1024 256 inb_S2064x512_S1024x256_1032_256 _ fun a b r e hr he =>
      stored_band arg2 harg2 arg3 harg3 x0 x1 1 1 a b r e hr (by rw [he]; rfl), tapes_pieces arg2 harg2 arg3 harg3 x0 x1⟩
  refine View.canon_apply_of_pieces (Val := Elt Ideal) (e := .f32) (tapedAll x0 x1) _ (View.PiecesOf.mem hp) (ix2 r e) ?_
  unfold bothTapes tapes
  by_cases h1 : r.val < 8
  · exact ⟨_, .tail _ (.tail _ (.tail _ (.tail _ (.tail _ (.head _))))), mem2 0 0 8 512 inb_S2064x512_S8x512_0_0 r e (by omega) (by omega)⟩
  by_cases h3 : 2056 ≤ r.val
  · exact ⟨_, .tail _ (.tail _ (.tail _ (.tail _ (.head _)))), mem2 2056 0 8 512 inb_S2064x512_S8x512_2056_0 r e (by omega) (by omega)⟩
  by_cases h2 : r.val < 1032
  · by_cases h4 : e.val < 256
    · exact ⟨_, .tail _ (.tail _ (.tail _ (.head _))), mem2 8 0 1024 256 inb_S2064x512_S1024x256_8_0 r e (by omega) (by omega)⟩
    · exact ⟨_, .tail _ (.tail _ (.head _)), mem2 8 256 1024 256 inb_S2064x512_S1024x256_8_256 r e (by omega) (by omega)⟩
  · by_cases h4 : e.val < 256
    · exact ⟨_, .tail _ (.head _), mem2 1032 0 1024 256 inb_S2064x512_S1024x256_1032_0 r e (by omega) (by omega)⟩
    · exact ⟨_, .head _, mem2 1032 256 1024 256 inb_S2064x512_S1024x256_1032_256 r e (by omega) (by omega)⟩

theorem seen_apply (v : View sig .tc .vmem S2064x512 .f32) (L : List (View.Piece (Elt Ideal) S2064x512 .f32)) (q : Fin 2)
    (hL : Holds x0 x1 L q) (r : Fin 1041) (a : Fin 1024) (b : Fin 256) (e : Fin 512) (he : e.val = 256 * q.val + b.val) :
    seen v L r q (ix2 a b) = taped x0 x1 ⟨r.val + a.val, by omega⟩ e := by
  unfold seen
  rw [View.readCov_eq_canon']
  refine Eq.trans (congrArg (View.canon L) (funext fun z => Fin.ext ?_))
    (hL ⟨r.val + a.val, by omega⟩ e (by omega))
  match z with
  | 0 => show r.val + 1 * a.val = r.val + a.val; omega
  | 1 => show 256 * q.val + 1 * b.val = e.val; omega

/-- One entry of a block of mixed rows. -/
def mixedAt (i : Fin 2048) (e : Fin 512) : EReal :=
  shifted (fun r => blockAt x0 x1 r e) (x2 (ix2 0 e)) (x2 (ix2 1 e)) i

theorem mixed_block (v : View sig .tc .vmem S2064x512 .f32) (L : List (View.Piece (Elt Ideal) S2064x512 .f32)) (q : Fin 2)
    (hL : Holds x0 x1 L q) (k : Fin 2) (a : Fin 1024) (b : Fin 256) (i : Fin 2048) (e : Fin 512)
    (hi : i.val = 1024 * k.val + a.val) (he : e.val = 256 * q.val + b.val) :
    mixed (weights arg4 harg4 x2 q) v L k q (ix2 a b) = mixedAt x0 x1 x2 i e := by
  have hk := k.isLt
  have ha := a.isLt
  have hE : (⟨256 * q.val + b.val, by omega⟩ : Fin 512) = e := Fin.ext he.symm
  have e0 : taped x0 x1 ⟨8 + 1024 * k.val + a.val, by omega⟩ e = blockAt x0 x1 i e := by
    unfold taped
    rw [dif_pos (by dsimp only; omega)]
    exact congrArg (blockAt x0 x1 · e) (Fin.ext (by dsimp only; omega))
  have e1 : taped x0 x1 ⟨7 + 1024 * k.val + a.val, by omega⟩ e = before (fun r => blockAt x0 x1 r e) i := by
    unfold taped before
    by_cases h : i.val = 0
    · rw [dif_neg (by dsimp only; omega), dif_pos h]
    · rw [dif_pos (by dsimp only; omega), dif_neg h]
      exact congrArg (blockAt x0 x1 · e) (Fin.ext (by dsimp only; omega))
  have e2 : taped x0 x1 ⟨9 + 1024 * k.val + a.val, by omega⟩ e = after (fun r => blockAt x0 x1 r e) i := by
    unfold taped after
    by_cases h : i.val = 2047
    · rw [dif_neg (by dsimp only; omega), dif_pos h]
    · rw [dif_pos (by dsimp only; omega), dif_neg h]
      exact congrArg (blockAt x0 x1 · e) (Fin.ext (by dsimp only; omega))
  unfold mixed
  rw [mix_apply, seen_apply x0 x1 v L q hL _ a b e he, seen_apply x0 x1 v L q hL _ a b e he,
    seen_apply x0 x1 v L q hL _ a b e he, weights_apply, weights_apply, hE]
  dsimp only
  rw [e0, e1, e2]
  rfl

end Loads

end Cert.Proj

end
-- ==== Proof.ProjRunA.lean ====
module

public import proofs.«01_k».proof.Proof.ProjDefs
public import proofs.«01_k».proof.Proof.Gen.Kernel2Ideal.Frame.RunA
public import Idealize.ShloMosaic.Lib.Tactic

@[expose] public section

set_option maxRecDepth 16384

noncomputable section

/-! The blocks whose columns are all mixed. -/

namespace Cert.Proj

open Idealize.ShloMosaic Cert.Kernel2Ideal Cert.Kernel2Ideal.Gen

variable {F : FTy → Type} [FloatOps F] (c : Dev nD) (i : grid0.Coords)
    (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (arg8 : Memref sig .tc .vmem S1x2048x512 .bf16) (harg8 : arg8.IsWhole)
    (arg9 : Memref sig .tc .vmem S1x2048x256 .f32) (harg9 : arg9.IsWhole)
    (arg10 : Memref sig .tc .vmem S2064x512 .f32) (harg10 : arg10.IsWhole)
    (x0 : Vec F S1x2048x2048 .bf16) (x1 : Vec F S2048x512 .bf16) (x2 : Vec F S2x512 .f32) (x3 : Vec F S1x512 .f32)
    (x4 x5 : Vec F S2048x256 .f32)

theorem piecesA (hc0 : ¬cond0_0 i) (hc1 : ¬cond0_1 i) (hc2 : ¬cond0_2 i) (hc3 : cond0_3 i) (hc4 : ¬cond0_4 i) :
    (kernelRun0_A c i arg2 harg2 arg3 harg3 arg4 harg4 arg5 harg5 arg6 harg6 arg7 harg7 arg8 harg8 arg9 harg9 arg10 harg10
      hc0 hc1 hc2 hc3 hc4 x0 x1 x2 x3 x4 x5).1
      = [⟨Rect.unit ![0, 1024, 256] S1x1024x256.size inb_S1x2048x512_S1x1024x256_0_1024_256,
          plain1024 (mixed (weights arg4 harg4 x2 1) arg10.view (bothTapes (prod1024 (rows1024 arg2 harg2 x0 0) (cols arg3 harg3 x1)) (prod1024 (rows1024 arg2 harg2 x0 1) (cols arg3 harg3 x1))) 1 1)⟩,
        ⟨Rect.unit ![0, 1024, 0] S1x1024x256.size inb_S1x2048x512_S1x1024x256_0_1024_0,
          plain1024 (mixed (weights arg4 harg4 x2 0) arg10.view (bothTapes (prod1024 (rows1024 arg2 harg2 x0 0) (cols arg3 harg3 x1)) (prod1024 (rows1024 arg2 harg2 x0 1) (cols arg3 harg3 x1))) 1 0)⟩,
        ⟨Rect.unit ![0, 0, 256] S1x1024x256.size inb_S1x2048x512_S1x1024x256_0_0_256,
          plain1024 (mixed (weights arg4 harg4 x2 1) arg10.view (bothTapes (prod1024 (rows1024 arg2 harg2 x0 0) (cols arg3 harg3 x1)) (prod1024 (rows1024 arg2 harg2 x0 1) (cols arg3 harg3 x1))) 0 1)⟩,
        ⟨Rect.unit ![0, 0, 0] S1x1024x256.size inb_S1x2048x512_S1x1024x256_0_0_0,
          plain1024 (mixed (weights arg4 harg4 x2 0) arg10.view (tapes (prod1024 (rows1024 arg2 harg2 x0 0) (cols arg3 harg3 x1)) (prod1024 (rows1024 arg2 harg2 x0 1) (cols arg3 harg3 x1))) 0 0)⟩] := by
  sl_kernel_rfl

end Cert.Proj

end
-- ==== Proof.ProjRunB.lean ====
module

public import proofs.«01_k».proof.Proof.ProjDefs
public import proofs.«01_k».proof.Proof.Gen.Kernel2Ideal.Frame.RunB
public import Idealize.ShloMosaic.Lib.Tactic

@[expose] public section

set_option maxRecDepth 16384

noncomputable section

/-! The blocks whose columns are stored as they are. -/

namespace Cert.Proj

open Idealize.ShloMosaic Cert.Kernel2Ideal Cert.Kernel2Ideal.Gen

variable {F : FTy → Type} [FloatOps F] (c : Dev nD) (i : grid0.Coords)
    (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (arg8 : Memref sig .tc .vmem S1x2048x512 .bf16) (harg8 : arg8.IsWhole)
    (arg9 : Memref sig .tc .vmem S1x2048x256 .f32) (harg9 : arg9.IsWhole)
    (arg10 : Memref sig .tc .vmem S2064x512 .f32) (harg10 : arg10.IsWhole)
    (x0 : Vec F S1x2048x2048 .bf16) (x1 : Vec F S2048x512 .bf16) (x2 : Vec F S2x512 .f32) (x3 : Vec F S1x512 .f32)
    (x4 x5 : Vec F S2048x256 .f32)

theorem piecesB (hc0 : cond0_0 i) (hc1 : ¬cond0_1 i) (hc2 : ¬cond0_2 i) (hc3 : ¬cond0_3 i) (hc4 : ¬cond0_4 i) :
    (kernelRun0_B c i arg2 harg2 arg3 harg3 arg4 harg4 arg5 harg5 arg6 harg6 arg7 harg7 arg8 harg8 arg9 harg9 arg10 harg10
      hc0 hc1 hc2 hc3 hc4 x0 x1 x2 x3 x4 x5).1
      = [⟨Rect.unit ![0, 0, 256] S1x2048x256.size inb_S1x2048x512_S1x2048x256_0_0_256,
          plain2048 (half2048 1 (prod2048 (rows2048 arg2 harg2 x0) (cols arg3 harg3 x1)))⟩,
        ⟨Rect.unit ![0, 0, 0] S1x2048x256.size inb_S1x2048x512_S1x2048x256_0_0_0,
          plain2048 (half2048 0 (prod2048 (rows2048 arg2 harg2 x0) (cols arg3 harg3 x1)))⟩] := by
  sl_kernel_rfl

end Cert.Proj

end
-- ==== Proof.ProjRunC.lean ====
module

public import proofs.«01_k».proof.Proof.ProjDefs
public import proofs.«01_k».proof.Proof.Gen.Kernel2Ideal.Frame.RunC
public import Idealize.ShloMosaic.Lib.Tactic

@[expose] public section

set_option maxRecDepth 16384

noncomputable section

/-! The blocks whose columns are all heads. -/

namespace Cert.Proj

open Idealize.ShloMosaic Cert.Kernel2Ideal Cert.Kernel2Ideal.Gen

variable {F : FTy → Type} [FloatOps F] (c : Dev nD) (i : grid0.Coords)
    (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (arg8 : Memref sig .tc .vmem S1x2048x512 .bf16) (harg8 : arg8.IsWhole)
    (arg9 : Memref sig .tc .vmem S1x2048x256 .f32) (harg9 : arg9.IsWhole)
    (arg10 : Memref sig .tc .vmem S2064x512 .f32) (harg10 : arg10.IsWhole)
    (x0 : Vec F S1x2048x2048 .bf16) (x1 : Vec F S2048x512 .bf16) (x2 : Vec F S2x512 .f32) (x3 : Vec F S1x512 .f32)
    (x4 x5 : Vec F S2048x256 .f32)

theorem piecesC (hc0 : ¬cond0_0 i) (hc1 : ¬cond0_1 i) (hc2 : cond0_2 i) (hc3 : ¬cond0_3 i) (hc4 : ¬cond0_4 i) :
    (kernelRun0_C c i arg2 harg2 arg3 harg3 arg4 harg4 arg5 harg5 arg6 harg6 arg7 harg7 arg8 harg8 arg9 harg9 arg10 harg10
      hc0 hc1 hc2 hc3 hc4 x0 x1 x2 x3 x4 x5).1
      = [⟨Rect.unit ![0, 1536, 256] S1x512x256.size inb_S1x2048x512_S1x512x256_0_1536_256,
          heads arg2 harg2 arg3 harg3 arg5 harg5 arg6 harg6 arg7 harg7 x0 x1 x3 x4 x5 3 1⟩,
        ⟨Rect.unit ![0, 1536, 0] S1x512x256.size inb_S1x2048x512_S1x512x256_0_1536_0,
          heads arg2 harg2 arg3 harg3 arg5 harg5 arg6 harg6 arg7 harg7 x0 x1 x3 x4 x5 3 0⟩,
        ⟨Rect.unit ![0, 1024, 256] S1x512x256.size inb_S1x2048x512_S1x512x256_0_1024_256,
          heads arg2 harg2 arg3 harg3 arg5 harg5 arg6 harg6 arg7 harg7 x0 x1 x3 x4 x5 2 1⟩,
        ⟨Rect.unit ![0, 1024, 0] S1x512x256.size inb_S1x2048x512_S1x512x256_0_1024_0,
          heads arg2 harg2 arg3 harg3 arg5 harg5 arg6 harg6 arg7 harg7 x0 x1 x3 x4 x5 2 0⟩,
        ⟨Rect.unit ![0, 512, 256] S1x512x256.size inb_S1x2048x512_S1x512x256_0_512_256,
          heads arg2 harg2 arg3 harg3 arg5 harg5 arg6 harg6 arg7 harg7 x0 x1 x3 x4 x5 1 1⟩,
        ⟨Rect.unit ![0, 512, 0] S1x512x256.size inb_S1x2048x512_S1x512x256_0_512_0,
          heads arg2 harg2 arg3 harg3 arg5 harg5 arg6 harg6 arg7 harg7 x0 x1 x3 x4 x5 1 0⟩,
        ⟨Rect.unit ![0, 0, 256] S1x512x256.size inb_S1x2048x512_S1x512x256_0_0_256,
          heads arg2 harg2 arg3 harg3 arg5 harg5 arg6 harg6 arg7 harg7 x0 x1 x3 x4 x5 0 1⟩,
        ⟨Rect.unit ![0, 0, 0] S1x512x256.size inb_S1x2048x512_S1x512x256_0_0_0,
          heads arg2 harg2 arg3 harg3 arg5 harg5 arg6 harg6 arg7 harg7 x0 x1 x3 x4 x5 0 0⟩] := by
  sl_kernel_rfl

end Cert.Proj

end
-- ==== Proof.ProjRunD.lean ====
module

public import proofs.«01_k».proof.Proof.ProjDefs
public import proofs.«01_k».proof.Proof.Gen.Kernel2Ideal.Frame.RunD
public import Idealize.ShloMosaic.Lib.Tactic

@[expose] public section

set_option maxRecDepth 16384

noncomputable section

/-! The block whose first half of columns are heads. -/

namespace Cert.Proj

open Idealize.ShloMosaic Cert.Kernel2Ideal Cert.Kernel2Ideal.Gen

variable {F : FTy → Type} [FloatOps F] (c : Dev nD) (i : grid0.Coords)
    (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (arg8 : Memref sig .tc .vmem S1x2048x512 .bf16) (harg8 : arg8.IsWhole)
    (arg9 : Memref sig .tc .vmem S1x2048x256 .f32) (harg9 : arg9.IsWhole)
    (arg10 : Memref sig .tc .vmem S2064x512 .f32) (harg10 : arg10.IsWhole)
    (x0 : Vec F S1x2048x2048 .bf16) (x1 : Vec F S2048x512 .bf16) (x2 : Vec F S2x512 .f32) (x3 : Vec F S1x512 .f32)
    (x4 x5 : Vec F S2048x256 .f32)

theorem piecesD (hc0 : ¬cond0_0 i) (hc1 : cond0_1 i) (hc2 : ¬cond0_2 i) (hc3 : ¬cond0_3 i) (hc4 : ¬cond0_4 i) :
    (kernelRun0_D c i arg2 harg2 arg3 harg3 arg4 harg4 arg5 harg5 arg6 harg6 arg7 harg7 arg8 harg8 arg9 harg9 arg10 harg10
      hc0 hc1 hc2 hc3 hc4 x0 x1 x2 x3 x4 x5).1
      = [⟨Rect.unit ![0, 1536, 256] S1x512x256.size inb_S1x2048x512_S1x512x256_0_1536_256,
          plain512 (half512 1 (prod512 (rows512 arg2 harg2 x0 3) (cols arg3 harg3 x1)))⟩,
        ⟨Rect.unit ![0, 1536, 0] S1x512x256.size inb_S1x2048x512_S1x512x256_0_1536_0,
          heads arg2 harg2 arg3 harg3 arg5 harg5 arg6 harg6 arg7 harg7 x0 x1 x3 x4 x5 3 0⟩,
        ⟨Rect.unit ![0, 1024, 256] S1x512x256.size inb_S1x2048x512_S1x512x256_0_1024_256,
          plain512 (half512 1 (prod512 (rows512 arg2 harg2 x0 2) (cols arg3 harg3 x1)))⟩,
        ⟨Rect.unit ![0, 1024, 0] S1x512x256.size inb_S1x2048x512_S1x512x256_0_1024_0,
          heads arg2 harg2 arg3 harg3 arg5 harg5 arg6 harg6 arg7 harg7 x0 x1 x3 x4 x5 2 0⟩,
        ⟨Rect.unit ![0, 512, 256] S1x512x256.size inb_S1x2048x512_S1x512x256_0_512_256,
          plain512 (half512 1 (prod512 (rows512 arg2 harg2 x0 1) (cols arg3 harg3 x1)))⟩,
        ⟨Rect.unit ![0, 512, 0] S1x512x256.size inb_S1x2048x512_S1x512x256_0_512_0,
          heads arg2 harg2 arg3 harg3 arg5 harg5 arg6 harg6 arg7 harg7 x0 x1 x3 x4 x5 1 0⟩,
        ⟨Rect.unit ![0, 0, 256] S1x512x256.size inb_S1x2048x512_S1x512x256_0_0_256,
          plain512 (half512 1 (prod512 (rows512 arg2 harg2 x0 0) (cols arg3 harg3 x1)))⟩,
        ⟨Rect.unit ![0, 0, 0] S1x512x256.size inb_S1x2048x512_S1x512x256_0_0_0,
          heads arg2 harg2 arg3 harg3 arg5 harg5 arg6 harg6 arg7 harg7 x0 x1 x3 x4 x5 0 0⟩] := by
  sl_kernel_rfl

end Cert.Proj

end
-- ==== Proof.ProjRunE.lean ====
module

public import proofs.«01_k».proof.Proof.ProjDefs
public import proofs.«01_k».proof.Proof.Gen.Kernel2Ideal.Frame.RunE
public import Idealize.ShloMosaic.Lib.Tactic

@[expose] public section

set_option maxRecDepth 16384

noncomputable section

/-! The block whose first half of columns are mixed. -/

namespace Cert.Proj

open Idealize.ShloMosaic Cert.Kernel2Ideal Cert.Kernel2Ideal.Gen

variable {F : FTy → Type} [FloatOps F] (c : Dev nD) (i : grid0.Coords)
    (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (arg8 : Memref sig .tc .vmem S1x2048x512 .bf16) (harg8 : arg8.IsWhole)
    (arg9 : Memref sig .tc .vmem S1x2048x256 .f32) (harg9 : arg9.IsWhole)
    (arg10 : Memref sig .tc .vmem S2064x512 .f32) (harg10 : arg10.IsWhole)
    (x0 : Vec F S1x2048x2048 .bf16) (x1 : Vec F S2048x512 .bf16) (x2 : Vec F S2x512 .f32) (x3 : Vec F S1x512 .f32)
    (x4 x5 : Vec F S2048x256 .f32)

theorem piecesE (hc0 : ¬cond0_0 i) (hc1 : ¬cond0_1 i) (hc2 : ¬cond0_2 i) (hc3 : ¬cond0_3 i) (hc4 : cond0_4 i) :
    (kernelRun0_E c i arg2 harg2 arg3 harg3 arg4 harg4 arg5 harg5 arg6 harg6 arg7 harg7 arg8 harg8 arg9 harg9 arg10 harg10
      hc0 hc1 hc2 hc3 hc4 x0 x1 x2 x3 x4 x5).1
      = [⟨Rect.unit ![0, 1024, 0] S1x1024x256.size inb_S1x2048x512_S1x1024x256_0_1024_0,
          plain1024 (mixed (weights arg4 harg4 x2 0) arg10.view (tape (prod1024 (rows1024 arg2 harg2 x0 0) (cols arg3 harg3 x1)) (prod1024 (rows1024 arg2 harg2 x0 1) (cols arg3 harg3 x1))) 1 0)⟩,
        ⟨Rect.unit ![0, 1024, 256] S1x1024x256.size inb_S1x2048x512_S1x1024x256_0_1024_256,
          plain1024 (half1024 1 (prod1024 (rows1024 arg2 harg2 x0 1) (cols arg3 harg3 x1)))⟩,
        ⟨Rect.unit ![0, 0, 0] S1x1024x256.size inb_S1x2048x512_S1x1024x256_0_0_0,
          plain1024 (mixed (weights arg4 harg4 x2 0) arg10.view (tape (prod1024 (rows1024 arg2 harg2 x0 0) (cols arg3 harg3 x1)) (prod1024 (rows1024 arg2 harg2 x0 1) (cols arg3 harg3 x1))) 0 0)⟩,
        ⟨Rect.unit ![0, 0, 256] S1x1024x256.size inb_S1x2048x512_S1x1024x256_0_0_256,
          plain1024 (half1024 1 (prod1024 (rows1024 arg2 harg2 x0 0) (cols arg3 harg3 x1)))⟩] := by
  sl_kernel_rfl

theorem keptE (hc0 : ¬cond0_0 i) (hc1 : ¬cond0_1 i) (hc2 : ¬cond0_2 i) (hc3 : ¬cond0_3 i) (hc4 : cond0_4 i) :
    (kernelRun0_E c i arg2 harg2 arg3 harg3 arg4 harg4 arg5 harg5 arg6 harg6 arg7 harg7 arg8 harg8 arg9 harg9 arg10 harg10
      hc0 hc1 hc2 hc3 hc4 x0 x1 x2 x3 x4 x5).2.1
      = [⟨Rect.unit ![0, 1024, 0] S1x1024x256.size inb_S1x2048x256_S1x1024x256_0_1024_0,
          full1024 (mixed (weights arg4 harg4 x2 0) arg10.view (tape (prod1024 (rows1024 arg2 harg2 x0 0) (cols arg3 harg3 x1)) (prod1024 (rows1024 arg2 harg2 x0 1) (cols arg3 harg3 x1))) 1 0)⟩,
        ⟨Rect.unit ![0, 0, 0] S1x1024x256.size inb_S1x2048x256_S1x1024x256_0_0_0,
          full1024 (mixed (weights arg4 harg4 x2 0) arg10.view (tape (prod1024 (rows1024 arg2 harg2 x0 0) (cols arg3 harg3 x1)) (prod1024 (rows1024 arg2 harg2 x0 1) (cols arg3 harg3 x1))) 0 0)⟩] := by
  sl_kernel_rfl

end Cert.Proj

end
-- ==== Proof.ProjOut.lean ====
module

public import proofs.«01_k».proof.Proof.ProjBlocks
public import proofs.«01_k».proof.Proof.ProjRunA
public import proofs.«01_k».proof.Proof.ProjRunB
public import proofs.«01_k».proof.Proof.ProjRunC
public import proofs.«01_k».proof.Proof.ProjRunD
public import proofs.«01_k».proof.Proof.ProjRunE
public import proofs.«01_k».proof.Proof.Gen.Kernel2Ideal.Frame

@[expose] public section

set_option maxRecDepth 16384

noncomputable section

/-! What each kind of grid point of the projection leaves in its blocks. -/

namespace Cert.Proj

open Idealize.ShloMosaic Cert.Kernel2Ideal Cert.Kernel2Ideal.Gen

variable (c : Dev nD) (i : grid0.Coords)
    (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (arg8 : Memref sig .tc .vmem S1x2048x512 .bf16) (harg8 : arg8.IsWhole)
    (arg9 : Memref sig .tc .vmem S1x2048x256 .f32) (harg9 : arg9.IsWhole)
    (arg10 : Memref sig .tc .vmem S2064x512 .f32) (harg10 : arg10.IsWhole)
    (x0 : Vec Ideal S1x2048x2048 .bf16) (x1 : Vec Ideal S2048x512 .bf16) (x2 : Vec Ideal S2x512 .f32)
    (x3 : Vec Ideal S1x512 .f32) (x4 x5 : Vec Ideal S2048x256 .f32)

/-- Pieces that agree with `G` and cover the block leave `G`. -/
theorem block_of_pieces (G : Fin 2048 → Fin 512 → EReal) (L : List (View.Piece (Elt Ideal) S1x2048x512 .bf16))
    (hp : View.PiecesOf (Val := Elt Ideal) (e := .bf16) (fun y : S1x2048x512.Idx => G (y 1) (y 2)) L)
    (r : Fin 2048) (e : Fin 512) (hc : ∃ p ∈ L, ix3 0 r e ∈ p.1.set) : View.canon L (ix3 0 r e) = G r e :=
  View.canon_apply_of_pieces (Val := Elt Ideal) (e := .bf16) (fun y : S1x2048x512.Idx => G (y 1) (y 2)) L
    (View.PiecesOf.mem hp) (ix3 0 r e) hc

/-- Pieces that agree with `G` and cover the kept block leave `G`. -/
theorem kept_of_pieces (G : Fin 2048 → Fin 256 → EReal) (L : List (View.Piece (Elt Ideal) S1x2048x256 .f32))
    (hp : View.PiecesOf (Val := Elt Ideal) (e := .f32) (fun y : S1x2048x256.Idx => G (y 1) (y 2)) L)
    (r : Fin 2048) (e : Fin 256) (hc : ∃ p ∈ L, ix3 0 r e ∈ p.1.set) : View.canon L (ix3 0 r e) = G r e :=
  View.canon_apply_of_pieces (Val := Elt Ideal) (e := .f32) (fun y : S1x2048x256.Idx => G (y 1) (y 2)) L
    (View.PiecesOf.mem hp) (ix3 0 r e) hc

theorem plain512_band (k : Fin 4) (a : Fin 512) (b : Fin 256) (r : Fin 2048) (e : Fin 512)
    (hr : r.val = 512 * k.val + a.val) (he : e.val = 256 + b.val) :
    plain512 (half512 1 (prod512 (rows512 arg2 harg2 x0 k) (cols arg3 harg3 x1))) (ix3 0 a b) = blockAt x0 x1 r e :=
  (plain512_apply _ a b).trans (half512_block arg2 harg2 arg3 harg3 x0 x1 k 1 a b r e hr he)

theorem plain1024_band (k : Fin 2) (a : Fin 1024) (b : Fin 256) (r : Fin 2048) (e : Fin 512)
    (hr : r.val = 1024 * k.val + a.val) (he : e.val = 256 + b.val) :
    plain1024 (half1024 1 (prod1024 (rows1024 arg2 harg2 x0 k) (cols arg3 harg3 x1))) (ix3 0 a b) = blockAt x0 x1 r e :=
  (plain1024_apply _ a b).trans (half1024_block arg2 harg2 arg3 harg3 x0 x1 k 1 a b r e hr he)

theorem plain2048_band (q : Fin 2) (a : Fin 2048) (b : Fin 256) (r : Fin 2048) (e : Fin 512)
    (hr : r.val = a.val) (he : e.val = 256 * q.val + b.val) :
    plain2048 (half2048 q (prod2048 (rows2048 arg2 harg2 x0) (cols arg3 harg3 x1))) (ix3 0 a b) = blockAt x0 x1 r e :=
  (plain2048_apply _ a b).trans (half2048_block arg2 harg2 arg3 harg3 x0 x1 q a b r e hr he)

theorem mixed_band (v : View sig .tc .vmem S2064x512 .f32) (L : List (View.Piece (Elt Ideal) S2064x512 .f32)) (q : Fin 2)
    (hL : Holds x0 x1 L q) (k : Fin 2) (a : Fin 1024) (b : Fin 256) (r : Fin 2048) (e : Fin 512)
    (hr : r.val = 1024 * k.val + a.val) (he : e.val = 256 * q.val + b.val) :
    plain1024 (mixed (weights arg4 harg4 x2 q) v L k q) (ix3 0 a b) = mixedAt x0 x1 x2 r e :=
  (plain1024_apply _ a b).trans (mixed_block arg4 harg4 x0 x1 x2 v L q hL k a b r e hr he)

/-- A block whose first half of columns is `G` and whose second half is the product. -/
def halves (G H : Fin 2048 → Fin 512 → EReal) (r : Fin 2048) (e : Fin 512) : EReal := if e.val < 256 then G r e else H r e

theorem halves_left (G H : Fin 2048 → Fin 512 → EReal) (r : Fin 2048) (e : Fin 512) (h : e.val < 256) :
    halves G H r e = G r e := if_pos h

theorem halves_right (G H : Fin 2048 → Fin 512 → EReal) (r : Fin 2048) (e : Fin 512) (h : ¬e.val < 256) :
    halves G H r e = H r e := if_neg h

theorem blockA (hc0 : ¬cond0_0 i) (hc1 : ¬cond0_1 i) (hc2 : ¬cond0_2 i) (hc3 : cond0_3 i) (hc4 : ¬cond0_4 i) (r : Fin 2048) (e : Fin 512) :
    out0_A_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = mixedAt x0 x1 x2 r e := by
  have hr := r.isLt
  have he := e.isLt
  refine (congrFun ((View.read_writes_junk_eq_canon _ _).trans (congrArg View.canon (piecesA c i arg2 harg2 arg3 harg3 arg4 harg4 arg5 harg5 arg6 harg6 arg7 harg7 arg8 harg8 arg9 harg9 arg10 harg10
    x0 x1 x2 x3 x4 x5 hc0 hc1 hc2 hc3 hc4))) _).trans ?_
  refine block_of_pieces (mixedAt x0 x1 x2) _ ?_ r e ?_
  · exact ⟨band3 (mixedAt x0 x1 x2) 1024 256 1024 256 inb_S1x2048x512_S1x1024x256_0_1024_256 _ fun a b r e hr he =>
        mixed_band arg4 harg4 x0 x1 x2 arg10.view _ 1 (bothTapes_holds arg2 harg2 arg3 harg3 x0 x1 1) 1 a b r e (by rw [hr]; rfl) (by rw [he]; rfl),
      band3 (mixedAt x0 x1 x2) 1024 0 1024 256 inb_S1x2048x512_S1x1024x256_0_1024_0 _ fun a b r e hr he =>
        mixed_band arg4 harg4 x0 x1 x2 arg10.view _ 0 (bothTapes_holds arg2 harg2 arg3 harg3 x0 x1 0) 1 a b r e (by rw [hr]; rfl) (by rw [he]; rfl),
      band3 (mixedAt x0 x1 x2) 0 256 1024 256 inb_S1x2048x512_S1x1024x256_0_0_256 _ fun a b r e hr he =>
        mixed_band arg4 harg4 x0 x1 x2 arg10.view _ 1 (bothTapes_holds arg2 harg2 arg3 harg3 x0 x1 1) 0 a b r e (by rw [hr]; rfl) (by rw [he]; rfl),
      band3 (mixedAt x0 x1 x2) 0 0 1024 256 inb_S1x2048x512_S1x1024x256_0_0_0 _ fun a b r e hr he =>
        mixed_band arg4 harg4 x0 x1 x2 arg10.view _ 0 (tapes_holds arg2 harg2 arg3 harg3 x0 x1) 0 a b r e (by rw [hr]; rfl) (by rw [he]; rfl), trivial⟩
  by_cases h0 : r.val < 1024
  · by_cases h : e.val < 256
    · exact ⟨_, (.tail _ (.tail _ (.tail _ (.head _)))), mem3 0 0 1024 256 inb_S1x2048x512_S1x1024x256_0_0_0 r e (by omega) (by omega)⟩
    · exact ⟨_, (.tail _ (.tail _ (.head _))), mem3 0 256 1024 256 inb_S1x2048x512_S1x1024x256_0_0_256 r e (by omega) (by omega)⟩
  by_cases h : e.val < 256
  · exact ⟨_, (.tail _ (.head _)), mem3 1024 0 1024 256 inb_S1x2048x512_S1x1024x256_0_1024_0 r e (by omega) (by omega)⟩
  · exact ⟨_, (.head _), mem3 1024 256 1024 256 inb_S1x2048x512_S1x1024x256_0_1024_256 r e (by omega) (by omega)⟩

theorem blockB (hc0 : cond0_0 i) (hc1 : ¬cond0_1 i) (hc2 : ¬cond0_2 i) (hc3 : ¬cond0_3 i) (hc4 : ¬cond0_4 i) (r : Fin 2048) (e : Fin 512) :
    out0_B_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = blockAt x0 x1 r e := by
  have hr := r.isLt
  have he := e.isLt
  refine (congrFun ((View.read_writes_junk_eq_canon _ _).trans (congrArg View.canon (piecesB c i arg2 harg2 arg3 harg3 arg4 harg4 arg5 harg5 arg6 harg6 arg7 harg7 arg8 harg8 arg9 harg9 arg10 harg10
    x0 x1 x2 x3 x4 x5 hc0 hc1 hc2 hc3 hc4))) _).trans ?_
  refine block_of_pieces (blockAt x0 x1) _ ?_ r e ?_
  · exact ⟨band3 (blockAt x0 x1) 0 256 2048 256 inb_S1x2048x512_S1x2048x256_0_0_256 _ fun a b r e hr he =>
        plain2048_band arg2 harg2 arg3 harg3 x0 x1 1 a b r e (by rw [hr, Nat.zero_add]) (by rw [he]; rfl),
      band3 (blockAt x0 x1) 0 0 2048 256 inb_S1x2048x512_S1x2048x256_0_0_0 _ fun a b r e hr he =>
        plain2048_band arg2 harg2 arg3 harg3 x0 x1 0 a b r e (by rw [hr, Nat.zero_add]) (by rw [he]; rfl), trivial⟩
  by_cases h : e.val < 256
  · exact ⟨_, (.tail _ (.head _)), mem3 0 0 2048 256 inb_S1x2048x512_S1x2048x256_0_0_0 r e (by omega) (by omega)⟩
  · exact ⟨_, (.head _), mem3 0 256 2048 256 inb_S1x2048x512_S1x2048x256_0_0_256 r e (by omega) (by omega)⟩

theorem blockC (hc0 : ¬cond0_0 i) (hc1 : ¬cond0_1 i) (hc2 : cond0_2 i) (hc3 : ¬cond0_3 i) (hc4 : ¬cond0_4 i) (co si : Fin 2048 → Fin 32 → EReal) (hc : Spread x4 co) (hs : Spread x5 si)
    (hx : ∀ (i : Fin 2048) (e : Fin 512), ∃ r : ℝ, blockAt x0 x1 i e = (r : EReal)) (r : Fin 2048) (e : Fin 512) :
    out0_C_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = headAt x0 x1 x3 co si r e := by
  have hr := r.isLt
  have he := e.isLt
  refine (congrFun ((View.read_writes_junk_eq_canon _ _).trans (congrArg View.canon (piecesC c i arg2 harg2 arg3 harg3 arg4 harg4 arg5 harg5 arg6 harg6 arg7 harg7 arg8 harg8 arg9 harg9 arg10 harg10
    x0 x1 x2 x3 x4 x5 hc0 hc1 hc2 hc3 hc4))) _).trans ?_
  refine block_of_pieces (headAt x0 x1 x3 co si) _ ?_ r e ?_
  · exact ⟨band3 (headAt x0 x1 x3 co si) 1536 256 512 256 inb_S1x2048x512_S1x512x256_0_1536_256 _ fun a b r e hr he =>
        heads_block arg2 harg2 arg3 harg3 arg5 harg5 arg6 harg6 arg7 harg7 x0 x1 x3 x4 x5 co si hc hs 1 (fun i e _ => hx i e) 3 a b r e (by rw [hr]; rfl) (by rw [he]; rfl),
      band3 (headAt x0 x1 x3 co si) 1536 0 512 256 inb_S1x2048x512_S1x512x256_0_1536_0 _ fun a b r e hr he =>
        heads_block arg2 harg2 arg3 harg3 arg5 harg5 arg6 harg6 arg7 harg7 x0 x1 x3 x4 x5 co si hc hs 0 (fun i e _ => hx i e) 3 a b r e (by rw [hr]; rfl) (by rw [he]; rfl),
      band3 (headAt x0 x1 x3 co si) 1024 256 512 256 inb_S1x2048x512_S1x512x256_0_1024_256 _ fun a b r e hr he =>
        heads_block arg2 harg2 arg3 harg3 arg5 harg5 arg6 harg6 arg7 harg7 x0 x1 x3 x4 x5 co si hc hs 1 (fun i e _ => hx i e) 2 a b r e (by rw [hr]; rfl) (by rw [he]; rfl),
      band3 (headAt x0 x1 x3 co si) 1024 0 512 256 inb_S1x2048x512_S1x512x256_0_1024_0 _ fun a b r e hr he =>
        heads_block arg2 harg2 arg3 harg3 arg5 harg5 arg6 harg6 arg7 harg7 x0 x1 x3 x4 x5 co si hc hs 0 (fun i e _ => hx i e) 2 a b r e (by rw [hr]; rfl) (by rw [he]; rfl),
      band3 (headAt x0 x1 x3 co si) 512 256 512 256 inb_S1x2048x512_S1x512x256_0_512_256 _ fun a b r e hr he =>
        heads_block arg2 harg2 arg3 harg3 arg5 harg5 arg6 harg6 arg7 harg7 x0 x1 x3 x4 x5 co si hc hs 1 (fun i e _ => hx i e) 1 a b r e (by rw [hr]; rfl) (by rw [he]; rfl),
      band3 (headAt x0 x1 x3 co si) 512 0 512 256 inb_S1x2048x512_S1x512x256_0_512_0 _ fun a b r e hr he =>
        heads_block arg2 harg2 arg3 harg3 arg5 harg5 arg6 harg6 arg7 harg7 x0 x1 x3 x4 x5 co si hc hs 0 (fun i e _ => hx i e) 1 a b r e (by rw [hr]; rfl) (by rw [he]; rfl),
      band3 (headAt x0 x1 x3 co si) 0 256 512 256 inb_S1x2048x512_S1x512x256_0_0_256 _ fun a b r e hr he =>
        heads_block arg2 harg2 arg3 harg3 arg5 harg5 arg6 harg6 arg7 harg7 x0 x1 x3 x4 x5 co si hc hs 1 (fun i e _ => hx i e) 0 a b r e (by rw [hr]; rfl) (by rw [he]; rfl),
      band3 (headAt x0 x1 x3 co si) 0 0 512 256 inb_S1x2048x512_S1x512x256_0_0_0 _ fun a b r e hr he =>
        heads_block arg2 harg2 arg3 harg3 arg5 harg5 arg6 harg6 arg7 harg7 x0 x1 x3 x4 x5 co si hc hs 0 (fun i e _ => hx i e) 0 a b r e (by rw [hr]; rfl) (by rw [he]; rfl), trivial⟩
  by_cases h0 : r.val < 512
  · by_cases h : e.val < 256
    · exact ⟨_, (.tail _ (.tail _ (.tail _ (.tail _ (.tail _ (.tail _ (.tail _ (.head _)))))))), mem3 0 0 512 256 inb_S1x2048x512_S1x512x256_0_0_0 r e (by omega) (by omega)⟩
    · exact ⟨_, (.tail _ (.tail _ (.tail _ (.tail _ (.tail _ (.tail _ (.head _))))))), mem3 0 256 512 256 inb_S1x2048x512_S1x512x256_0_0_256 r e (by omega) (by omega)⟩
  by_cases h1 : r.val < 1024
  · by_cases h : e.val < 256
    · exact ⟨_, (.tail _ (.tail _ (.tail _ (.tail _ (.tail _ (.head _)))))), mem3 512 0 512 256 inb_S1x2048x512_S1x512x256_0_512_0 r e (by omega) (by omega)⟩
    · exact ⟨_, (.tail _ (.tail _ (.tail _ (.tail _ (.head _))))), mem3 512 256 512 256 inb_S1x2048x512_S1x512x256_0_512_256 r e (by omega) (by omega)⟩
  by_cases h2 : r.val < 1536
  · by_cases h : e.val < 256
    · exact ⟨_, (.tail _ (.tail _ (.tail _ (.head _)))), mem3 1024 0 512 256 inb_S1x2048x512_S1x512x256_0_1024_0 r e (by omega) (by omega)⟩
    · exact ⟨_, (.tail _ (.tail _ (.head _))), mem3 1024 256 512 256 inb_S1x2048x512_S1x512x256_0_1024_256 r e (by omega) (by omega)⟩
  by_cases h : e.val < 256
  · exact ⟨_, (.tail _ (.head _)), mem3 1536 0 512 256 inb_S1x2048x512_S1x512x256_0_1536_0 r e (by omega) (by omega)⟩
  · exact ⟨_, (.head _), mem3 1536 256 512 256 inb_S1x2048x512_S1x512x256_0_1536_256 r e (by omega) (by omega)⟩

theorem blockD (hc0 : ¬cond0_0 i) (hc1 : cond0_1 i) (hc2 : ¬cond0_2 i) (hc3 : ¬cond0_3 i) (hc4 : ¬cond0_4 i) (co si : Fin 2048 → Fin 32 → EReal) (hc : Spread x4 co) (hs : Spread x5 si)
    (hx : ∀ (i : Fin 2048) (e : Fin 512), e.val / 256 = (0 : Fin 2).val → ∃ r : ℝ, blockAt x0 x1 i e = (r : EReal)) (r : Fin 2048) (e : Fin 512) :
    out0_D_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = halves (headAt x0 x1 x3 co si) (blockAt x0 x1) r e := by
  have hr := r.isLt
  have he := e.isLt
  refine (congrFun ((View.read_writes_junk_eq_canon _ _).trans (congrArg View.canon (piecesD c i arg2 harg2 arg3 harg3 arg4 harg4 arg5 harg5 arg6 harg6 arg7 harg7 arg8 harg8 arg9 harg9 arg10 harg10
    x0 x1 x2 x3 x4 x5 hc0 hc1 hc2 hc3 hc4))) _).trans ?_
  refine block_of_pieces (halves (headAt x0 x1 x3 co si) (blockAt x0 x1)) _ ?_ r e ?_
  · exact ⟨band3 (halves (headAt x0 x1 x3 co si) (blockAt x0 x1)) 1536 256 512 256 inb_S1x2048x512_S1x512x256_0_1536_256 _ fun a b r e hr he =>
        (plain512_band arg2 harg2 arg3 harg3 x0 x1 3 a b r e (by rw [hr]; rfl) he).trans (halves_right _ _ r e (by omega)).symm,
      band3 (halves (headAt x0 x1 x3 co si) (blockAt x0 x1)) 1536 0 512 256 inb_S1x2048x512_S1x512x256_0_1536_0 _ fun a b r e hr he =>
        (heads_block arg2 harg2 arg3 harg3 arg5 harg5 arg6 harg6 arg7 harg7 x0 x1 x3 x4 x5 co si hc hs 0 hx 3 a b r e (by rw [hr]; rfl) (by rw [he]; rfl)).trans
          (halves_left _ _ r e (by omega)).symm,
      band3 (halves (headAt x0 x1 x3 co si) (blockAt x0 x1)) 1024 256 512 256 inb_S1x2048x512_S1x512x256_0_1024_256 _ fun a b r e hr he =>
        (plain512_band arg2 harg2 arg3 harg3 x0 x1 2 a b r e (by rw [hr]; rfl) he).trans (halves_right _ _ r e (by omega)).symm,
      band3 (halves (headAt x0 x1 x3 co si) (blockAt x0 x1)) 1024 0 512 256 inb_S1x2048x512_S1x512x256_0_1024_0 _ fun a b r e hr he =>
        (heads_block arg2 harg2 arg3 harg3 arg5 harg5 arg6 harg6 arg7 harg7 x0 x1 x3 x4 x5 co si hc hs 0 hx 2 a b r e (by rw [hr]; rfl) (by rw [he]; rfl)).trans
          (halves_left _ _ r e (by omega)).symm,
      band3 (halves (headAt x0 x1 x3 co si) (blockAt x0 x1)) 512 256 512 256 inb_S1x2048x512_S1x512x256_0_512_256 _ fun a b r e hr he =>
        (plain512_band arg2 harg2 arg3 harg3 x0 x1 1 a b r e (by rw [hr]; rfl) he).trans (halves_right _ _ r e (by omega)).symm,
      band3 (halves (headAt x0 x1 x3 co si) (blockAt x0 x1)) 512 0 512 256 inb_S1x2048x512_S1x512x256_0_512_0 _ fun a b r e hr he =>
        (heads_block arg2 harg2 arg3 harg3 arg5 harg5 arg6 harg6 arg7 harg7 x0 x1 x3 x4 x5 co si hc hs 0 hx 1 a b r e (by rw [hr]; rfl) (by rw [he]; rfl)).trans
          (halves_left _ _ r e (by omega)).symm,
      band3 (halves (headAt x0 x1 x3 co si) (blockAt x0 x1)) 0 256 512 256 inb_S1x2048x512_S1x512x256_0_0_256 _ fun a b r e hr he =>
        (plain512_band arg2 harg2 arg3 harg3 x0 x1 0 a b r e (by rw [hr]; rfl) he).trans (halves_right _ _ r e (by omega)).symm,
      band3 (halves (headAt x0 x1 x3 co si) (blockAt x0 x1)) 0 0 512 256 inb_S1x2048x512_S1x512x256_0_0_0 _ fun a b r e hr he =>
        (heads_block arg2 harg2 arg3 harg3 arg5 harg5 arg6 harg6 arg7 harg7 x0 x1 x3 x4 x5 co si hc hs 0 hx 0 a b r e (by rw [hr]; rfl) (by rw [he]; rfl)).trans
          (halves_left _ _ r e (by omega)).symm, trivial⟩
  by_cases h0 : r.val < 512
  · by_cases h : e.val < 256
    · exact ⟨_, (.tail _ (.tail _ (.tail _ (.tail _ (.tail _ (.tail _ (.tail _ (.head _)))))))), mem3 0 0 512 256 inb_S1x2048x512_S1x512x256_0_0_0 r e (by omega) (by omega)⟩
    · exact ⟨_, (.tail _ (.tail _ (.tail _ (.tail _ (.tail _ (.tail _ (.head _))))))), mem3 0 256 512 256 inb_S1x2048x512_S1x512x256_0_0_256 r e (by omega) (by omega)⟩
  by_cases h1 : r.val < 1024
  · by_cases h : e.val < 256
    · exact ⟨_, (.tail _ (.tail _ (.tail _ (.tail _ (.tail _ (.head _)))))), mem3 512 0 512 256 inb_S1x2048x512_S1x512x256_0_512_0 r e (by omega) (by omega)⟩
    · exact ⟨_, (.tail _ (.tail _ (.tail _ (.tail _ (.head _))))), mem3 512 256 512 256 inb_S1x2048x512_S1x512x256_0_512_256 r e (by omega) (by omega)⟩
  by_cases h2 : r.val < 1536
  · by_cases h : e.val < 256
    · exact ⟨_, (.tail _ (.tail _ (.tail _ (.head _)))), mem3 1024 0 512 256 inb_S1x2048x512_S1x512x256_0_1024_0 r e (by omega) (by omega)⟩
    · exact ⟨_, (.tail _ (.tail _ (.head _))), mem3 1024 256 512 256 inb_S1x2048x512_S1x512x256_0_1024_256 r e (by omega) (by omega)⟩
  by_cases h : e.val < 256
  · exact ⟨_, (.tail _ (.head _)), mem3 1536 0 512 256 inb_S1x2048x512_S1x512x256_0_1536_0 r e (by omega) (by omega)⟩
  · exact ⟨_, (.head _), mem3 1536 256 512 256 inb_S1x2048x512_S1x512x256_0_1536_256 r e (by omega) (by omega)⟩

theorem blockE (hc0 : ¬cond0_0 i) (hc1 : ¬cond0_1 i) (hc2 : ¬cond0_2 i) (hc3 : ¬cond0_3 i) (hc4 : cond0_4 i) (r : Fin 2048) (e : Fin 512) :
    out0_E_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = halves (mixedAt x0 x1 x2) (blockAt x0 x1) r e := by
  have hr := r.isLt
  have he := e.isLt
  refine (congrFun ((View.read_writes_junk_eq_canon _ _).trans (congrArg View.canon (piecesE c i arg2 harg2 arg3 harg3 arg4 harg4 arg5 harg5 arg6 harg6 arg7 harg7 arg8 harg8 arg9 harg9 arg10 harg10
    x0 x1 x2 x3 x4 x5 hc0 hc1 hc2 hc3 hc4))) _).trans ?_
  refine block_of_pieces (halves (mixedAt x0 x1 x2) (blockAt x0 x1)) _ ?_ r e ?_
  · exact ⟨band3 (halves (mixedAt x0 x1 x2) (blockAt x0 x1)) 1024 0 1024 256 inb_S1x2048x512_S1x1024x256_0_1024_0 _ fun a b r e hr he =>
        (mixed_band arg4 harg4 x0 x1 x2 arg10.view _ 0 (tape_holds arg2 harg2 arg3 harg3 x0 x1) 1 a b r e (by rw [hr]; rfl) (by rw [he]; rfl)).trans
          (halves_left _ _ r e (by omega)).symm,
      band3 (halves (mixedAt x0 x1 x2) (blockAt x0 x1)) 1024 256 1024 256 inb_S1x2048x512_S1x1024x256_0_1024_256 _ fun a b r e hr he =>
        (plain1024_band arg2 harg2 arg3 harg3 x0 x1 1 a b r e (by rw [hr]; rfl) he).trans (halves_right _ _ r e (by omega)).symm,
      band3 (halves (mixedAt x0 x1 x2) (blockAt x0 x1)) 0 0 1024 256 inb_S1x2048x512_S1x1024x256_0_0_0 _ fun a b r e hr he =>
        (mixed_band arg4 harg4 x0 x1 x2 arg10.view _ 0 (tape_holds arg2 harg2 arg3 harg3 x0 x1) 0 a b r e (by rw [hr]; rfl) (by rw [he]; rfl)).trans
          (halves_left _ _ r e (by omega)).symm,
      band3 (halves (mixedAt x0 x1 x2) (blockAt x0 x1)) 0 256 1024 256 inb_S1x2048x512_S1x1024x256_0_0_256 _ fun a b r e hr he =>
        (plain1024_band arg2 harg2 arg3 harg3 x0 x1 0 a b r e (by rw [hr]; rfl) he).trans (halves_right _ _ r e (by omega)).symm, trivial⟩
  by_cases h0 : r.val < 1024
  · by_cases h : e.val < 256
    · exact ⟨_, (.tail _ (.tail _ (.head _))), mem3 0 0 1024 256 inb_S1x2048x512_S1x1024x256_0_0_0 r e (by omega) (by omega)⟩
    · exact ⟨_, (.tail _ (.tail _ (.tail _ (.head _)))), mem3 0 256 1024 256 inb_S1x2048x512_S1x1024x256_0_0_256 r e (by omega) (by omega)⟩
  by_cases h : e.val < 256
  · exact ⟨_, (.head _), mem3 1024 0 1024 256 inb_S1x2048x512_S1x1024x256_0_1024_0 r e (by omega) (by omega)⟩
  · exact ⟨_, (.tail _ (.head _)), mem3 1024 256 1024 256 inb_S1x2048x512_S1x1024x256_0_1024_256 r e (by omega) (by omega)⟩

/-- The mixed rows of the first half of the columns. -/
def keptAt (r : Fin 2048) (e : Fin 256) : EReal := mixedAt x0 x1 x2 r ⟨e.val, by omega⟩

theorem kept_blockE (hc0 : ¬cond0_0 i) (hc1 : ¬cond0_1 i) (hc2 : ¬cond0_2 i) (hc3 : ¬cond0_3 i) (hc4 : cond0_4 i) (r : Fin 2048) (e : Fin 256) :
    out0_E_7 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = keptAt x0 x1 x2 r e := by
  have hr := r.isLt
  have he := e.isLt
  refine (congrFun ((View.read_writes_junk_eq_canon _ _).trans (congrArg View.canon (keptE c i arg2 harg2 arg3 harg3 arg4 harg4 arg5 harg5 arg6 harg6 arg7 harg7 arg8 harg8 arg9 harg9 arg10 harg10
    x0 x1 x2 x3 x4 x5 hc0 hc1 hc2 hc3 hc4))) _).trans ?_
  refine kept_of_pieces (keptAt x0 x1 x2) _ ?_ r e ?_
  · exact ⟨band3 (keptAt x0 x1 x2) 1024 0 1024 256 inb_S1x2048x256_S1x1024x256_0_1024_0 _ fun a b r e hr he =>
        (full1024_apply _ a b).trans (mixed_block arg4 harg4 x0 x1 x2 arg10.view _ 0 (tape_holds arg2 harg2 arg3 harg3 x0 x1) 1 a b r ⟨e.val, by omega⟩ (by rw [hr]; rfl)
          (by dsimp only; rw [he]; rfl)),
      band3 (keptAt x0 x1 x2) 0 0 1024 256 inb_S1x2048x256_S1x1024x256_0_0_0 _ fun a b r e hr he =>
        (full1024_apply _ a b).trans (mixed_block arg4 harg4 x0 x1 x2 arg10.view _ 0 (tape_holds arg2 harg2 arg3 harg3 x0 x1) 0 a b r ⟨e.val, by omega⟩ (by rw [hr]; rfl)
          (by dsimp only; rw [he]; rfl)), trivial⟩
  by_cases h0 : r.val < 1024
  · exact ⟨_, (.tail _ (.head _)), mem3 0 0 1024 256 inb_S1x2048x256_S1x1024x256_0_0_0 r e (by omega) (by omega)⟩
  exact ⟨_, (.head _), mem3 1024 0 1024 256 inb_S1x2048x256_S1x1024x256_0_1024_0 r e (by omega) (by omega)⟩

end Cert.Proj

end
-- ==== Proof.ProjPoint.lean ====
module

public import proofs.«01_k».proof.Proof.ProjOut
public import proofs.«01_k».proof.Proof.ProjSpec

@[expose] public section

set_option maxRecDepth 16384

noncomputable section

/-! A grid point's blocks as entries of the projection. -/

namespace Cert.Proj

open Idealize.ShloMosaic Cert.Kernel2Ideal Cert.Kernel2Ideal.Gen

/-- A column of the block with number `j`. -/
def col (j : Fin 22) (e : Fin 512) : Fin 11264 := ⟨512 * j.val + e.val, by omega⟩

theorem col_val (j : Fin 22) (e : Fin 512) : (col j e).val = 512 * j.val + e.val := rfl

variable {j : Fin 22} {h : Fin 2048 → Fin 2048 → EReal} {w : Fin 2048 → Fin 11264 → EReal} {mu : Fin 2 → Fin 11264 → EReal}
  {g : Fin 11264 → EReal} {co si : Fin 2048 → Fin 32 → EReal}
  {x0 : Vec Ideal S1x2048x2048 .bf16} {x1 : Vec Ideal S2048x512 .bf16} {x2 : Vec Ideal S2x512 .f32}
  {x3 : Vec Ideal S1x512 .f32} {x4 x5 : Vec Ideal S2048x256 .f32}

/-- The blocks hold the rows `h` and the block `j` of the columns. -/
structure Reads (j : Fin 22) (h : Fin 2048 → Fin 2048 → EReal) (w : Fin 2048 → Fin 11264 → EReal)
    (mu : Fin 2 → Fin 11264 → EReal) (g : Fin 11264 → EReal) (co si : Fin 2048 → Fin 32 → EReal)
    (x0 : Vec Ideal S1x2048x2048 .bf16) (x1 : Vec Ideal S2048x512 .bf16) (x2 : Vec Ideal S2x512 .f32)
    (x3 : Vec Ideal S1x512 .f32) (x4 x5 : Vec Ideal S2048x256 .f32) : Prop where
  rows : ∀ i k, x0 (ix3 0 i k) = h i k
  cols : ∀ k e, x1 (ix2 k e) = w k (col j e)
  mus : ∀ a e, x2 (ix2 a e) = mu a (col j e)
  gains : ∀ e, x3 (ix2 0 e) = g (col j e)
  cosines : Spread x4 co
  sines : Spread x5 si

/-- The product of the rows and the columns. -/
def mul (h : Fin 2048 → Fin 2048 → EReal) (w : Fin 2048 → Fin 11264 → EReal) (i : Fin 2048) (e : Fin 11264) : EReal :=
  ∑ k : Fin 2048, h i k * w k e

/-- The columns whose heads are normed. -/
def IsHead (e : Fin 11264) : Prop := (4096 ≤ e.val ∧ e.val < 5120) ∨ (10240 ≤ e.val ∧ e.val < 10496)

theorem block_mul (H : Reads j h w mu g co si x0 x1 x2 x3 x4 x5) (i : Fin 2048) (e : Fin 512) :
    blockAt x0 x1 i e = mul h w i (col j e) :=
  Finset.sum_congr rfl fun k _ => congrArg₂ (· * ·) (H.rows i k) (H.cols k e)

theorem mixed_mul (H : Reads j h w mu g co si x0 x1 x2 x3 x4 x5) (i : Fin 2048) (e : Fin 512) :
    mixedAt x0 x1 x2 i e = shiftedAt (mul h w) mu i (col j e) := by
  unfold mixedAt shiftedAt
  rw [H.mus, H.mus]
  exact congrArg (shifted · _ _ i) (funext fun r => block_mul H r e)

theorem head_mul (H : Reads j h w mu g co si x0 x1 x2 x3 x4 x5) (i : Fin 2048) (e : Fin 512) :
    headAt x0 x1 x3 co si i e = turnedAt (mul h w) g co si i (col j e) := by
  have hl : ∀ d : Fin 64, col j ⟨64 * (e.val / 64) + d.val, by omega⟩ = lane (col j e) d := fun d => Fin.ext (by
    show 512 * j.val + (64 * (e.val / 64) + d.val) = 64 * ((512 * j.val + e.val) / 64) + d.val
    omega)
  have he : (⟨e.val % 64, Nat.mod_lt _ (by decide)⟩ : Fin 64) = ⟨(col j e).val % 64, Nat.mod_lt _ (by decide)⟩ := Fin.ext (by
    show e.val % 64 = (512 * j.val + e.val) % 64
    omega)
  unfold headAt turnedAt
  rw [he]
  refine congrArg (turned · _ _ _) (congrArg₂ normed (funext fun d => ?_) (funext fun d => ?_))
  · rw [block_mul H, hl]
  · rw [H.gains, hl]

section Entries

variable (j h w mu g co si) (i : Fin 2048) (e : Fin 512)

theorem entry_shift (hj : j.val ≤ 5) : entry (mul h w) mu g co si i (col j e) = shiftedAt (mul h w) mu i (col j e) :=
  if_pos (show (col j e).val < 3072 by rw [col_val]; omega)

theorem entry_plain (hj : j.val = 6 ∨ j.val = 7 ∨ (10 ≤ j.val ∧ j.val ≤ 19)) :
    entry (mul h w) mu g co si i (col j e) = mul h w i (col j e) := by
  unfold entry
  rw [if_neg (show ¬(col j e).val < 3072 by rw [col_val]; omega)]
  by_cases h1 : (col j e).val < 4096
  · rw [if_pos h1]
  · have h2 : (col j e).val < 10240 := by rw [col_val]; omega
    have h3 : ¬(col j e).val < 5120 := by rw [col_val] at h1 ⊢; omega
    rw [if_neg h1, if_neg h3, if_pos h2]

theorem entry_query (hj : 8 ≤ j.val ∧ j.val ≤ 9) :
    entry (mul h w) mu g co si i (col j e) = turnedAt (mul h w) g co si i (col j e) := by
  unfold entry
  rw [if_neg (show ¬(col j e).val < 3072 by rw [col_val]; omega), if_neg (show ¬(col j e).val < 4096 by rw [col_val]; omega),
    if_pos (show (col j e).val < 5120 by rw [col_val]; omega)]

theorem entry_key (hj : j.val = 20) : entry (mul h w) mu g co si i (col j e)
    = if e.val < 256 then turnedAt (mul h w) g co si i (col j e) else mul h w i (col j e) := by
  unfold entry
  rw [if_neg (show ¬(col j e).val < 3072 by rw [col_val]; omega), if_neg (show ¬(col j e).val < 4096 by rw [col_val]; omega),
    if_neg (show ¬(col j e).val < 5120 by rw [col_val]; omega), if_neg (show ¬(col j e).val < 10240 by rw [col_val]; omega)]
  by_cases h1 : e.val < 256
  · rw [if_pos h1, if_pos (show (col j e).val < 10496 by rw [col_val]; omega)]
  · rw [if_neg h1, if_neg (show ¬(col j e).val < 10496 by rw [col_val]; omega), if_pos (show (col j e).val < 10752 by rw [col_val]; omega)]

theorem entry_last (hj : j.val = 21) : entry (mul h w) mu g co si i (col j e)
    = if e.val < 256 then shiftedAt (mul h w) mu i (col j e) else mul h w i (col j e) := by
  unfold entry
  rw [if_neg (show ¬(col j e).val < 3072 by rw [col_val]; omega), if_neg (show ¬(col j e).val < 4096 by rw [col_val]; omega),
    if_neg (show ¬(col j e).val < 5120 by rw [col_val]; omega), if_neg (show ¬(col j e).val < 10240 by rw [col_val]; omega),
    if_neg (show ¬(col j e).val < 10496 by rw [col_val]; omega), if_neg (show ¬(col j e).val < 10752 by rw [col_val]; omega)]
  by_cases h1 : e.val < 256
  · rw [if_pos h1, if_pos (show (col j e).val < 11008 by rw [col_val]; omega)]
  · rw [if_neg h1, if_neg (show ¬(col j e).val < 11008 by rw [col_val]; omega)]

end Entries

section Points

variable (c : Dev nD) (i : grid0.Coords)
    (arg2 : Memref sig .tc .vmem S1x2048x2048 .bf16) (harg2 : arg2.IsWhole)
    (arg3 : Memref sig .tc .vmem S2048x512 .bf16) (harg3 : arg3.IsWhole)
    (arg4 : Memref sig .tc .vmem S2x512 .f32) (harg4 : arg4.IsWhole)
    (arg5 : Memref sig .tc .vmem S1x512 .f32) (harg5 : arg5.IsWhole)
    (arg6 : Memref sig .tc .vmem S2048x256 .f32) (harg6 : arg6.IsWhole)
    (arg7 : Memref sig .tc .vmem S2048x256 .f32) (harg7 : arg7.IsWhole)
    (arg8 : Memref sig .tc .vmem S1x2048x512 .bf16) (harg8 : arg8.IsWhole)
    (arg9 : Memref sig .tc .vmem S1x2048x256 .f32) (harg9 : arg9.IsWhole)
    (arg10 : Memref sig .tc .vmem S2064x512 .f32) (harg10 : arg10.IsWhole)
    (H : Reads j h w mu g co si x0 x1 x2 x3 x4 x5)

include H

theorem pointA (hc0 : ¬cond0_0 i) (hc1 : ¬cond0_1 i) (hc2 : ¬cond0_2 i) (hc3 : cond0_3 i) (hc4 : ¬cond0_4 i)
    (hj : j.val ≤ 5) (r : Fin 2048) (e : Fin 512) :
    out0_A_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = entry (mul h w) mu g co si r (col j e) :=
  (blockA ..).trans ((mixed_mul H r e).trans (entry_shift j h w mu g co si r e hj).symm)

theorem pointB (hc0 : cond0_0 i) (hc1 : ¬cond0_1 i) (hc2 : ¬cond0_2 i) (hc3 : ¬cond0_3 i) (hc4 : ¬cond0_4 i)
    (hj : j.val = 6 ∨ j.val = 7 ∨ (10 ≤ j.val ∧ j.val ≤ 19)) (r : Fin 2048) (e : Fin 512) :
    out0_B_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = entry (mul h w) mu g co si r (col j e) :=
  (blockB ..).trans ((block_mul H r e).trans (entry_plain j h w mu g co si r e hj).symm)

theorem pointC (hc0 : ¬cond0_0 i) (hc1 : ¬cond0_1 i) (hc2 : cond0_2 i) (hc3 : ¬cond0_3 i) (hc4 : ¬cond0_4 i)
    (hj : 8 ≤ j.val ∧ j.val ≤ 9) (hr : ∀ i e, IsHead e → ∃ x : ℝ, mul h w i e = (x : EReal)) (r : Fin 2048) (e : Fin 512) :
    out0_C_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = entry (mul h w) mu g co si r (col j e) :=
  (blockC (co := co) (si := si) (hc := H.cosines) (hs := H.sines) (hx := fun i e => by
    rw [block_mul H]
    exact hr _ _ (Or.inl ⟨show 4096 ≤ 512 * j.val + e.val by omega, show 512 * j.val + e.val < 5120 by omega⟩)) ..).trans
    ((head_mul H r e).trans (entry_query j h w mu g co si r e hj).symm)

theorem pointD (hc0 : ¬cond0_0 i) (hc1 : cond0_1 i) (hc2 : ¬cond0_2 i) (hc3 : ¬cond0_3 i) (hc4 : ¬cond0_4 i)
    (hj : j.val = 20) (hr : ∀ i e, IsHead e → ∃ x : ℝ, mul h w i e = (x : EReal)) (r : Fin 2048) (e : Fin 512) :
    out0_D_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = entry (mul h w) mu g co si r (col j e) := by
  refine (blockD (co := co) (si := si) (hc := H.cosines) (hs := H.sines) (hx := fun i e he => by
    have he0 : e.val / 256 = 0 := he
    rw [block_mul H]
    exact hr _ _ (Or.inr ⟨show 10240 ≤ 512 * j.val + e.val by omega, show 512 * j.val + e.val < 10496 by omega⟩)) ..).trans
    (Eq.trans ?_ (entry_key j h w mu g co si r e hj).symm)
  unfold halves
  rw [head_mul H, block_mul H]

theorem pointE (hc0 : ¬cond0_0 i) (hc1 : ¬cond0_1 i) (hc2 : ¬cond0_2 i) (hc3 : ¬cond0_3 i) (hc4 : cond0_4 i)
    (hj : j.val = 21) (r : Fin 2048) (e : Fin 512) :
    out0_E_6 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = entry (mul h w) mu g co si r (col j e) := by
  refine (blockE ..).trans (Eq.trans ?_ (entry_last j h w mu g co si r e hj).symm)
  unfold halves
  rw [mixed_mul H, block_mul H]

theorem keptPoint (hc0 : ¬cond0_0 i) (hc1 : ¬cond0_1 i) (hc2 : ¬cond0_2 i) (hc3 : ¬cond0_3 i) (hc4 : cond0_4 i)
    (r : Fin 2048) (e : Fin 256) :
    out0_E_7 c i arg2 harg2 arg3 harg3 arg4 harg4 arg5 harg5 arg6 harg6 arg7 harg7 arg8 harg8 arg9 harg9 arg10 harg10
      hc0 hc1 hc2 hc3 hc4 x0 x1 x2 x3 x4 x5 (ix3 0 r e) = shiftedAt (mul h w) mu r (col j ⟨e.val, by omega⟩) :=
  (kept_blockE ..).trans (mixed_mul H r _)

end Points

end Cert.Proj

end
-- ==== Proof.ProjArrays.lean ====
module

public import proofs.«01_k».proof.Proof.ProjPoint
public import proofs.«01_k».proof.Proof.Gen.Kernel2Ideal.Value
public import Idealize.ShloMosaic.Lib.Pipeline.ValueKit.Geometry

@[expose] public section

set_option maxRecDepth 16384

noncomputable section

/-! The projection's arrays: what each grid point reads and what the whole arrays are after it. -/

namespace Cert.Proj

open Idealize.ShloMosaic Cert.Kernel2Ideal Cert.Kernel2Ideal.Gen

variable (m : (ℓ : Loc nD τ sig) → Buf (Elt Ideal) ℓ) (c : Dev nD)

theorem indices : ∀ t : Fin cfg0.N,
    (win0_0.index t (0 : Fin 3) = t.val / 22 ∧ win0_0.index t (1 : Fin 3) = 0 ∧ win0_0.index t (2 : Fin 3) = 0)
    ∧ (win0_1.index t (0 : Fin 2) = 0 ∧ win0_1.index t (1 : Fin 2) = t.val % 22)
    ∧ (win0_2.index t (0 : Fin 2) = 0 ∧ win0_2.index t (1 : Fin 2) = t.val % 22)
    ∧ (win0_3.index t (0 : Fin 2) = 0 ∧ win0_3.index t (1 : Fin 2) = t.val % 22)
    ∧ (win0_4.index t (0 : Fin 2) = 0 ∧ win0_4.index t (1 : Fin 2) = 0)
    ∧ (win0_5.index t (0 : Fin 2) = 0 ∧ win0_5.index t (1 : Fin 2) = 0) :=
  (by decide +kernel : ∀ t : Fin grid0.N, _)

theorem outIndices : ∀ t : Fin cfg0.N,
    (win0_6.index t (0 : Fin 3) = t.val / 22 ∧ win0_6.index t (1 : Fin 3) = 0 ∧ win0_6.index t (2 : Fin 3) = t.val % 22)
    ∧ (win0_7.index t (0 : Fin 3) = t.val / 22 ∧ win0_7.index t (1 : Fin 3) = 0 ∧ win0_7.index t (2 : Fin 3) = 0) :=
  (by decide +kernel : ∀ t : Fin grid0.N, _)

theorem lt_points (t : Fin cfg0.N) : t.val < 352 := lt_of_lt_of_eq t.isLt (show cfg0.N = 352 from N_0)

/-- The batch of a point, and its block of columns. -/
def batch (t : Fin cfg0.N) : Fin 16 := ⟨t.val / 22, by have := lt_points t; omega⟩
def part (t : Fin cfg0.N) : Fin 22 := ⟨t.val % 22, by omega⟩

/-! ## The arrays before the grid -/

abbrev rowArr : S16x2048x2048.Idx → EReal := m ((c.tc : Thread nD τ).loc main_arg0)
abbrev colArr : S2048x11264.Idx → EReal := V m c main_v11
abbrev muArr : S2x11264.Idx → EReal := V m c main_v24
abbrev gainArr : S1x11264.Idx → EReal := V m c main_v39
abbrev cosArr : S2048x32.Idx → EReal := V m c main_v61
abbrev sinArr : S2048x32.Idx → EReal := V m c main_v67

/-- A table of angles, each lane twice and for four heads. -/
def table (x : FVec Ideal S2048x32 .f32) : FVec Ideal S2048x256 .f32 :=
  shapeCast S2048x256 (broadcastInDim S1x2048x4x64 ![0, 1, 2, 3] bcast_S1x2048x1x64_S1x2048x4x64_0_1_2_3
    (shapeCast S1x2048x1x64 (shapeCast S2048x64
      (broadcastInDim S2048x32x2 ![0, 1] bcast_S2048x32_S2048x32x2_0_1 x) shapeCasts_S2048x32x2_S2048x64)
      shapeCasts_S2048x64_S1x2048x1x64)) shapeCasts_S1x2048x4x64_S2048x256

theorem table_spread (x : FVec Ideal S2048x32 .f32) : Spread (table x) (fun i p => x (ix2 i p)) := by
  intro i l
  pointwise [table]

theorem cosTable : V m c main_v66 = table (cosArr m c) := by rfl
theorem sinTable : V m c main_v72 = table (sinArr m c) := by rfl

/-! ## The blocks of a point -/

def rowBlock (t : Fin cfg0.N) : Vec Ideal S1x2048x2048 .bf16 := iblk m c 0 t
def colBlock (t : Fin cfg0.N) : Vec Ideal S2048x512 .bf16 := iblk m c 1 t
def muBlock (t : Fin cfg0.N) : Vec Ideal S2x512 .f32 := iblk m c 2 t
def gainBlock (t : Fin cfg0.N) : Vec Ideal S1x512 .f32 := iblk m c 3 t
def cosBlock (t : Fin cfg0.N) : Vec Ideal S2048x256 .f32 := iblk m c 4 t
def sinBlock (t : Fin cfg0.N) : Vec Ideal S2048x256 .f32 := iblk m c 5 t

theorem rowBlock_apply (t : Fin cfg0.N) (i k : Fin 2048) :
    rowBlock m c t (ix3 0 i k) = rowArr m c (ix3 (batch t) i k) := by
  obtain ⟨⟨h0, h1, h2⟩, _⟩ := indices t
  refine Eq.trans ?_ (congrFun (V_main_arg0 m c) (ix3 (batch t) i k))
  refine congrArg (V m c main_arg0) (funext fun a => Fin.ext ?_)
  match a with
  | 0 => show win0_0.index t (0 : Fin 3) * 1 + 1 * 0 = t.val / 22; rw [h0]; omega
  | 1 => show win0_0.index t (1 : Fin 3) * 2048 + 1 * i.val = i.val; rw [h1]; omega
  | 2 => show win0_0.index t (2 : Fin 3) * 2048 + 1 * k.val = k.val; rw [h2]; omega

theorem colBlock_apply (t : Fin cfg0.N) (k : Fin 2048) (e : Fin 512) :
    colBlock m c t (ix2 k e) = colArr m c (ix2 k (col (part t) e)) := by
  obtain ⟨_, ⟨h0, h1⟩, _⟩ := indices t
  refine congrArg (V m c main_v11) (funext fun a => Fin.ext ?_)
  match a with
  | 0 => show win0_1.index t (0 : Fin 2) * 2048 + 1 * k.val = k.val; rw [h0]; omega
  | 1 => show win0_1.index t (1 : Fin 2) * 512 + 1 * e.val = 512 * (t.val % 22) + e.val; rw [h1]; omega

theorem muBlock_apply (t : Fin cfg0.N) (k : Fin 2) (e : Fin 512) :
    muBlock m c t (ix2 k e) = muArr m c (ix2 k (col (part t) e)) := by
  obtain ⟨_, ⟨_, ⟨h0, h1⟩, _⟩⟩ := indices t
  refine congrArg (V m c main_v24) (funext fun a => Fin.ext ?_)
  match a with
  | 0 => show win0_2.index t (0 : Fin 2) * 2 + 1 * k.val = k.val; rw [h0]; omega
  | 1 => show win0_2.index t (1 : Fin 2) * 512 + 1 * e.val = 512 * (t.val % 22) + e.val; rw [h1]; omega

theorem gainBlock_apply (t : Fin cfg0.N) (k : Fin 1) (e : Fin 512) :
    gainBlock m c t (ix2 k e) = gainArr m c (ix2 k (col (part t) e)) := by
  obtain ⟨_, ⟨_, ⟨_, ⟨h0, h1⟩, _⟩⟩⟩ := indices t
  refine congrArg (V m c main_v39) (funext fun a => Fin.ext ?_)
  match a with
  | 0 => show win0_3.index t (0 : Fin 2) * 1 + 1 * k.val = k.val; rw [h0]; omega
  | 1 => show win0_3.index t (1 : Fin 2) * 512 + 1 * e.val = 512 * (t.val % 22) + e.val; rw [h1]; omega

theorem cosBlock_spread (t : Fin cfg0.N) : Spread (cosBlock m c t) (fun i p => cosArr m c (ix2 i p)) := by
  intro i l
  obtain ⟨_, ⟨_, ⟨_, ⟨_, ⟨h0, h1⟩, _⟩⟩⟩⟩ := indices t
  refine Eq.trans ?_ ((congrFun (cosTable m c) (ix2 i l)).trans (table_spread _ i l))
  refine congrArg (V m c main_v66) (funext fun a => Fin.ext ?_)
  match a with
  | 0 => show win0_4.index t (0 : Fin 2) * 2048 + 1 * i.val = i.val; rw [h0]; omega
  | 1 => show win0_4.index t (1 : Fin 2) * 256 + 1 * l.val = l.val; rw [h1]; omega

theorem sinBlock_spread (t : Fin cfg0.N) : Spread (sinBlock m c t) (fun i p => sinArr m c (ix2 i p)) := by
  intro i l
  obtain ⟨_, ⟨_, ⟨_, ⟨_, ⟨_, h0, h1⟩⟩⟩⟩⟩ := indices t
  refine Eq.trans ?_ ((congrFun (sinTable m c) (ix2 i l)).trans (table_spread _ i l))
  refine congrArg (V m c main_v72) (funext fun a => Fin.ext ?_)
  match a with
  | 0 => show win0_5.index t (0 : Fin 2) * 2048 + 1 * i.val = i.val; rw [h0]; omega
  | 1 => show win0_5.index t (1 : Fin 2) * 256 + 1 * l.val = l.val; rw [h1]; omega

theorem point_reads (t : Fin cfg0.N) : Reads (part t) (fun i k => rowArr m c (ix3 (batch t) i k)) (fun k e => colArr m c (ix2 k e))
    (fun a e => muArr m c (ix2 a e)) (fun e => gainArr m c (ix2 0 e)) (fun i p => cosArr m c (ix2 i p))
    (fun i p => sinArr m c (ix2 i p)) (rowBlock m c t) (colBlock m c t) (muBlock m c t) (gainBlock m c t) (cosBlock m c t)
    (sinBlock m c t) :=
  ⟨rowBlock_apply m c t, colBlock_apply m c t, muBlock_apply m c t, gainBlock_apply m c t 0, cosBlock_spread m c t,
    sinBlock_spread m c t⟩

/-! ## The arrays after the grid -/

/-- One entry of the projection of the arguments. -/
def projAt (b : Fin 16) (i : Fin 2048) (e : Fin 11264) : EReal :=
  entry (mul (fun i k => rowArr m c (ix3 b i k)) (fun k e => colArr m c (ix2 k e))) (fun a e => muArr m c (ix2 a e))
    (fun e => gainArr m c (ix2 0 e)) (fun i p => cosArr m c (ix2 i p)) (fun i p => sinArr m c (ix2 i p)) i e

/-- One entry of the kept columns. -/
def keptEntry (b : Fin 16) (i : Fin 2048) (e : Fin 256) : EReal :=
  shiftedAt (mul (fun i k => rowArr m c (ix3 b i k)) (fun k e => colArr m c (ix2 k e))) (fun a e => muArr m c (ix2 a e)) i
    ⟨10752 + e.val, by omega⟩

/-- The products whose heads are normed are real numbers. -/
def RealHeads : Prop := ∀ (b : Fin 16) (i : Fin 2048) (e : Fin 11264), IsHead e →
  ∃ x : ℝ, mul (fun i k => rowArr m c (ix3 b i k)) (fun k e => colArr m c (ix2 k e)) i e = (x : EReal)

theorem flushed_proj (hr : RealHeads m c) (t : Fin cfg0.N) (r : Fin 2048) (e : Fin 512) :
    (dats m 0 c).flushed 6 t (ix3 0 r e : S1x2048x512.Idx) = projAt m c (batch t) r (col (part t) e) := by
  have hj : (part t).val = t.val % 22 := rfl
  have H := point_reads m c t
  have hm : t.val % 22 < 22 := Nat.mod_lt _ (by decide)
  have hr' := hr (batch t)
  by_cases h3 : t.val % 22 ≤ 5
  · exact (congrFun (Cert.Kernel2Ideal.Value.flushed6_A m c t (by omega) (by omega) (by omega) h3 (by omega)) _).trans
      (pointA (H := H) (hj := by omega) ..)
  by_cases h2 : 8 ≤ t.val % 22 ∧ t.val % 22 ≤ 9
  · exact (congrFun (Cert.Kernel2Ideal.Value.flushed6_C m c t (by omega) (by omega) h2 h3 (by omega)) _).trans
      (pointC (H := H) (hj := by omega) (hr := hr') ..)
  by_cases h1 : t.val % 22 = 20
  · exact (congrFun (Cert.Kernel2Ideal.Value.flushed6_D m c t (by omega) h1 h2 h3 (by omega)) _).trans
      (pointD (H := H) (hj := by omega) (hr := hr') ..)
  by_cases h4 : t.val % 22 = 21
  · exact (congrFun (Cert.Kernel2Ideal.Value.flushed6_E m c t (by omega) h1 h2 h3 h4) _).trans
      (pointE (H := H) (hj := by omega) ..)
  · exact (congrFun (Cert.Kernel2Ideal.Value.flushed6_B m c t (by omega) h1 h2 h3 h4) _).trans
      (pointB (H := H) (hj := by omega) ..)

theorem flushed_kept (t : Fin cfg0.N) (h4 : t.val % 22 = 21) (r : Fin 2048) (e : Fin 256) :
    (dats m 0 c).flushed 7 t (ix3 0 r e : S1x2048x256.Idx) = keptEntry m c (batch t) r e := by
  have H := point_reads m c t
  refine (congrFun (Cert.Kernel2Ideal.Value.flushed7_E m c t (by omega) (by omega) (by omega) (by omega) h4) _).trans
    ((keptPoint (H := H) ..).trans ?_)
  refine congrArg (shiftedAt _ _ r) (Fin.ext ?_)
  show 512 * (t.val % 22) + e.val = 10752 + e.val
  omega

/-- The whole projection. -/
def projArr : S16x2048x11264.Idx → EReal := fun y => projAt m c (y 0) (y 1) (y 2)

/-- The whole of the kept columns. -/
def keptArr : S16x2048x256.Idx → EReal := fun y => keptEntry m c (y 0) (y 1) (y 2)

theorem proj_array (hr : RealHeads m c) : (dats m 0 c).arrAt 6 cfg0.N = projArr m c := by
  refine (dats m 0 c).arrAt_eq_of_covers 6 (projArr m c) (by decide +kernel) fun t _ (y : S1x2048x512.Idx) => ?_
  have h0 : y 0 = (0 : Fin 1) := Subsingleton.elim (α := Fin 1) _ _
  have hy : y = ix3 0 (y 1) (y 2) := (triple_eq y).trans (congrArg (fun z : Fin 1 => ix3 z (y 1) (y 2)) h0)
  obtain ⟨⟨i0, i1, i2⟩, _⟩ := outIndices t
  rw [hy]
  refine (flushed_proj m c hr t (y 1) (y 2)).trans ?_
  refine congrArg (projArr m c) (a₁ := ix3 (batch t) (y 1) (col (part t) (y 2))) (funext fun a => Fin.ext ?_)
  match a with
  | 0 => show t.val / 22 = win0_6.index t (0 : Fin 3) * 1 + 1 * 0; rw [i0]; omega
  | 1 => show (y 1).val = win0_6.index t (1 : Fin 3) * 2048 + 1 * (y 1).val; rw [i1]; omega
  | 2 => show 512 * (t.val % 22) + (y 2).val = win0_6.index t (2 : Fin 3) * 512 + 1 * (y 2).val; rw [i2]; omega

theorem kept_array : (dats m 0 c).arrAt 7 cfg0.N = keptArr m c := by
  refine (dats m 0 c).arrAt_eq_of_covers 7 (keptArr m c) (by decide +kernel) fun t hf (y : S1x2048x256.Idx) => ?_
  have h0 : y 0 = (0 : Fin 1) := Subsingleton.elim (α := Fin 1) _ _
  have hy : y = ix3 0 (y 1) (y 2) := (triple_eq y).trans (congrArg (fun z : Fin 1 => ix3 z (y 1) (y 2)) h0)
  obtain ⟨_, i0, i1, i2⟩ := outIndices t
  rw [hy]
  refine (flushed_kept m c t ((flush0_7 t).mp hf) (y 1) (y 2)).trans ?_
  refine congrArg (keptArr m c) (a₁ := ix3 (batch t) (y 1) (y 2)) (funext fun a => Fin.ext ?_)
  match a with
  | 0 => show t.val / 22 = win0_7.index t (0 : Fin 3) * 1 + 1 * 0; rw [i0]; omega
  | 1 => show (y 1).val = win0_7.index t (1 : Fin 3) * 2048 + 1 * (y 1).val; rw [i1]; omega
  | 2 => show (y 2).val = win0_7.index t (2 : Fin 3) * 256 + 1 * (y 2).val; rw [i2]; omega

end Cert.Proj

end
-- ==== Proof.ProjCols.lean ====
module

public import proofs.«01_k».proof.Proof.ProjSpec
public import Idealize.ShloMosaic.Lib.Pointwise
public import Idealize.ShloMosaic.Lib.KernelVsHost
public import Idealize.ShloMosaic.Lib.Routing.OpsOne

@[expose] public section

set_option maxRecDepth 16384

noncomputable section

/-! Where the columns of the projection come from: the order of the columns of the weights, of the shift weights and of the
gains, and a part of a row written into a table of one row. -/

namespace Cert.Proj

open Idealize.ShloMosaic Idealize.ShloMosaic.Routing

/-- Which column of the weights a column of the projection comes from. -/
def sourceVal (e : ℕ) : ℕ :=
  if e < 3072 then e else if e < 5120 then e + 256 else if e < 10240 then e + 768 else if e < 10752 then e - 4864
  else e - 7680

theorem sourceVal_lt (e : ℕ) (h : e < 11008) : sourceVal e < 11008 := by
  unfold sourceVal
  split_ifs <;> omega

def source (e : Fin 11264) (h : e.val < 11008) : Fin 11008 := ⟨sourceVal e.val, sourceVal_lt _ h⟩

/-- A row of the weights' columns put in the order of the projection, zeros behind them. -/
def placed (f : Fin 11008 → EReal) (e : Fin 11264) : EReal := if h : e.val < 11008 then f (source e h) else 0

/-- Columns behind the given ones are zeros. -/
def zeroBehind (f : Fin 3328 → EReal) (c : Fin 11008) : EReal := if h : c.val < 3328 then f ⟨c.val, h⟩ else 0

/-- The gains of the heads in the order of the projection. -/
def gainsAt (q k : Fin 64 → EReal) (e : Fin 11264) : EReal :=
  if 4096 ≤ e.val ∧ e.val < 5120 then q ⟨e.val % 64, by omega⟩
  else if 10240 ≤ e.val ∧ e.val < 10496 then k ⟨e.val % 64, by omega⟩ else 0

/-! ## The nine ranges of columns in their new order -/

section Reordered

variable {R : ℕ} (x : (⟨2, ![R, 11008]⟩ : Shape).Idx → EReal)
  (s0 : (⟨2, ![R, 11008]⟩ : Shape).Slices ![0, 0] ⟨2, ![R, 3072]⟩)
  (s1 : (⟨2, ![R, 11008]⟩ : Shape).Slices ![0, 3328] ⟨2, ![R, 1024]⟩)
  (s2 : (⟨2, ![R, 11008]⟩ : Shape).Slices ![0, 4352] ⟨2, ![R, 1024]⟩)
  (s3 : (⟨2, ![R, 11008]⟩ : Shape).Slices ![0, 5888] ⟨2, ![R, 1024]⟩)
  (s4 : (⟨2, ![R, 11008]⟩ : Shape).Slices ![0, 6912] ⟨2, ![R, 4096]⟩)
  (s5 : (⟨2, ![R, 11008]⟩ : Shape).Slices ![0, 5376] ⟨2, ![R, 256]⟩)
  (s6 : (⟨2, ![R, 11008]⟩ : Shape).Slices ![0, 5632] ⟨2, ![R, 256]⟩)
  (s7 : (⟨2, ![R, 11008]⟩ : Shape).Slices ![0, 3072] ⟨2, ![R, 128]⟩)
  (s8 : (⟨2, ![R, 11008]⟩ : Shape).Slices ![0, 3200] ⟨2, ![R, 128]⟩)

/-- The nine ranges. -/
def nine : List ((s : Shape) × (s.Idx → EReal)) :=
  [⟨⟨2, ![R, 3072]⟩, extractStridedSlice ⟨2, ![R, 3072]⟩ ![0, 0] x s0⟩,
    ⟨⟨2, ![R, 1024]⟩, extractStridedSlice ⟨2, ![R, 1024]⟩ ![0, 3328] x s1⟩,
    ⟨⟨2, ![R, 1024]⟩, extractStridedSlice ⟨2, ![R, 1024]⟩ ![0, 4352] x s2⟩,
    ⟨⟨2, ![R, 1024]⟩, extractStridedSlice ⟨2, ![R, 1024]⟩ ![0, 5888] x s3⟩,
    ⟨⟨2, ![R, 4096]⟩, extractStridedSlice ⟨2, ![R, 4096]⟩ ![0, 6912] x s4⟩,
    ⟨⟨2, ![R, 256]⟩, extractStridedSlice ⟨2, ![R, 256]⟩ ![0, 5376] x s5⟩,
    ⟨⟨2, ![R, 256]⟩, extractStridedSlice ⟨2, ![R, 256]⟩ ![0, 5632] x s6⟩,
    ⟨⟨2, ![R, 128]⟩, extractStridedSlice ⟨2, ![R, 128]⟩ ![0, 3072] x s7⟩,
    ⟨⟨2, ![R, 128]⟩, extractStridedSlice ⟨2, ![R, 128]⟩ ![0, 3200] x s8⟩]

variable (hc : Shape.Concatenates ((nine x s0 s1 s2 s3 s4 s5 s6 s7 s8).map (·.1)) (⟨2, ![R, 11008]⟩ : Shape) 1)

theorem piece_of (a : Fin R) (c : Fin 11008) (k n pre off : ℕ) (hk : k < (nine x s0 s1 s2 s3 s4 s5 s6 s7 s8).length)
    (hs : (⟨2, ![R, 11008]⟩ : Shape).Slices ![0, off] ⟨2, ![R, n]⟩)
    (hz : (nine x s0 s1 s2 s3 s4 s5 s6 s7 s8)[k] = ⟨⟨2, ![R, n]⟩, extractStridedSlice ⟨2, ![R, n]⟩ ![0, off] x hs⟩)
    (hpre : ((((nine x s0 s1 s2 s3 s4 s5 s6 s7 s8).take k).map (·.1)).map fun s => if h : s.rank = 2 then s.size ((1 : Fin 2).cast h.symm) else 0).sum = pre)
    (hj : pre ≤ c.val ∧ c.val < pre + n) (ho : off + (c.val - pre) = sourceVal c.val) :
    concatenate (⟨2, ![R, 11008]⟩ : Shape) 1 (nine x s0 s1 s2 s3 s4 s5 s6 s7 s8) hc (ix2 a c) = x (ix2 a ⟨sourceVal c.val, sourceVal_lt _ c.isLt⟩) := by
  refine (concatenate_apply_piece (t := (⟨2, ![R, 11008]⟩ : Shape)) (1 : Fin 2) (nine x s0 s1 s2 s3 s4 s5 s6 s7 s8) hc (ix2 a c) k hk _ _ hz rfl pre hpre
    (ix2 a (⟨c.val - pre, by omega⟩ : Fin n)) (fun b hb => ?_) (by show pre + (c.val - pre) = c.val; omega)).trans
    (congrArg x (funext fun b => Fin.ext ?_))
  · match b with
    | 0 => rfl
    | 1 => exact absurd rfl hb
  · match b with
    | 0 => show 0 + a.val = a.val; omega
    | 1 => exact ho

set_option maxHeartbeats 2000000 in
theorem reordered (a : Fin R) (c : Fin 11008) :
    concatenate (⟨2, ![R, 11008]⟩ : Shape) 1 (nine x s0 s1 s2 s3 s4 s5 s6 s7 s8) hc (ix2 a c) = x (ix2 a ⟨sourceVal c.val, sourceVal_lt _ c.isLt⟩) := by
  have hlt := c.isLt
  have H := piece_of x s0 s1 s2 s3 s4 s5 s6 s7 s8 hc a c
  by_cases h0 : c.val < 3072
  · exact H 0 3072 0 0 (show 0 < 9 by decide) s0 rfl rfl (by omega) (by unfold sourceVal; split_ifs <;> omega)
  by_cases h1 : c.val < 4096
  · exact H 1 1024 3072 3328 (show 1 < 9 by decide) s1 rfl rfl (by omega) (by unfold sourceVal; split_ifs <;> omega)
  by_cases h2 : c.val < 5120
  · exact H 2 1024 4096 4352 (show 2 < 9 by decide) s2 rfl rfl (by omega) (by unfold sourceVal; split_ifs <;> omega)
  by_cases h3 : c.val < 6144
  · exact H 3 1024 5120 5888 (show 3 < 9 by decide) s3 rfl rfl (by omega) (by unfold sourceVal; split_ifs <;> omega)
  by_cases h4 : c.val < 10240
  · exact H 4 4096 6144 6912 (show 4 < 9 by decide) s4 rfl rfl (by omega) (by unfold sourceVal; split_ifs <;> omega)
  by_cases h5 : c.val < 10496
  · exact H 5 256 10240 5376 (show 5 < 9 by decide) s5 rfl rfl (by omega) (by unfold sourceVal; split_ifs <;> omega)
  by_cases h6 : c.val < 10752
  · exact H 6 256 10496 5632 (show 6 < 9 by decide) s6 rfl rfl (by omega) (by unfold sourceVal; split_ifs <;> omega)
  by_cases h7 : c.val < 10880
  · exact H 7 128 10752 3072 (show 7 < 9 by decide) s7 rfl rfl (by omega) (by unfold sourceVal; split_ifs <;> omega)
  exact H 8 128 10880 3200 (show 8 < 9 by decide) s8 rfl rfl (by omega) (by unfold sourceVal; split_ifs <;> omega)

end Reordered

/-- 256 columns of one value behind the others. -/
theorem padded {R : ℕ} (x : (⟨2, ![R, 11008]⟩ : Shape).Idx → EReal) {u : Shape} (v : u.Idx → EReal)
    (h : (⟨2, ![R, 11008]⟩ : Shape).Pads (![0, 0] : Fin 2 → ℕ) ![0, 256] ![0, 0] ⟨2, ![R, 11264]⟩) (hu : 0 < u.numel)
    (hv : v (Shape.Idx.first hu) = 0) (a : Fin R) (e : Fin 11264) :
    pad ⟨2, ![R, 11264]⟩ ![0, 0] ![0, 256] ![0, 0] x v h hu (ix2 a e) = if he : e.val < 11008 then x (ix2 a ⟨e.val, he⟩) else 0 := by
  by_cases he : e.val < 11008
  · rw [dif_pos he]
    refine pad_apply_of_inside _ _ _ _ _ _ _ _ (ix2 a (⟨e.val, he⟩ : Fin 11008)) (fun b => ?_)
    match b with
    | 0 => show a.val = 0 + a.val * (0 + 1); omega
    | 1 => show e.val = 0 + e.val * (0 + 1); omega
  · rw [dif_neg he]
    refine (pad_apply_of_not_inside _ _ _ _ _ _ _ _ (1 : Fin 2) ?_).trans hv
    rintro ⟨-, -, h1⟩
    replace h1 : (e.val - 0) / (0 + 1) < 11008 := h1
    omega

/-- A row written at a position of a table of one row, read at a column: the row inside, the table outside. -/
theorem row_written {C U w : Nat} (d : ScatterDims (⟨2, ![1, C]⟩ : Shape) (⟨1, ![2]⟩ : Shape) (⟨1, ![U]⟩ : Shape))
    (h0 : d.insertedWindowDims = [0]) (h1 : d.scatterDimsToOperandDims = [0, 1]) (h2 : d.indexVectorDim = 0)
    (x : (⟨2, ![1, C]⟩ : Shape).Idx → EReal) (idx : IVec (⟨1, ![2]⟩ : Shape) w) (u : (⟨1, ![U]⟩ : Shape).Idx → EReal) (p : ℕ)
    (hr : (idx (ix1 (0 : Fin 2))).toInt = 0) (hp : (idx (ix1 (1 : Fin 2))).toInt = p) (e : Fin C) :
    Host.scatter d (fun _ b => b) x idx u (ix2 0 e)
      = if h : p ≤ e.val ∧ e.val < p + U then u (ix1 ⟨e.val - p, by omega⟩) else x (ix2 0 e) := by
  have kept : d.sKept = [1] := by
    show Shape.kept _ d.insertedWindowDims = _
    rw [h0]
    rfl
  have w0 : ∀ k : Fin U, d.window (ix1 k) 0 = 0 := fun k => by
    unfold ScatterDims.window
    rw [dif_neg (by rw [kept]; simp)]
  have w1 : ∀ k : Fin U, d.window (ix1 k) 1 = k.val := fun k => by
    unfold ScatterDims.window
    rw [dif_pos (by rw [kept]; simp)]
    exact congrArg (fun a => ((ix1 k : (⟨1, ![U]⟩ : Shape).Idx) a).val) (Subsingleton.elim (α := Fin 1) _ 0)
  have lands : ∀ k : Fin U, d.resultIdx? (ix1 k) idx = some (ix2 0 e) ↔ p + k.val = e.val := fun k => by
    refine (resultIdx?_ix2 d (ix1 k) idx 0 e).trans ?_
    have s0 := (start_pair d h1 h2 idx (ix1 k) 0).trans hr
    have s1 := (start_pair d h1 h2 idx (ix1 k) 1).trans hp
    rw [s0, s1, w0, w1]
    constructor
    · rintro ⟨-, h⟩; omega
    · intro h; exact ⟨by rfl, by omega⟩
  by_cases h : p ≤ e.val ∧ e.val < p + U
  · rw [dif_pos h]
    refine scatter_set_hit d x idx u _ _ (fun k hk => ?_) (ix1 ⟨e.val - p, by omega⟩) ((lands _).2 (by dsimp only; omega))
    obtain ⟨j, rfl⟩ : ∃ j : Fin U, k = ix1 j := ⟨k 0, eq_ix1 k⟩
    have := (lands j).1 hk
    exact congrArg (fun t => u (ix1 t)) (Fin.ext (by dsimp only; omega))
  · rw [dif_neg h]
    refine scatter_set_miss d x idx u _ fun k hk => ?_
    obtain ⟨j, rfl⟩ : ∃ j : Fin U, k = ix1 j := ⟨k 0, eq_ix1 k⟩
    have := (lands j).1 hk
    have := j.isLt
    omega

/-- The bits of a small natural number. -/
def numBits (n : ℕ) : BitVec 32 :=
  if n = 0 then 0 else BitVec.ofNat 32 ((127 + Nat.log2 n) * 2 ^ 23 + (n * 2 ^ (23 - Nat.log2 n) - 2 ^ 23))

theorem numBits_value (n : Fin 64) : Ideal.ofBits .f32 (numBits n.val) = (((n.val : ℤ) : ℝ) : EReal) := by
  show Ideal.ieee 8 23 (numBits n.val) = _
  have key : ∀ n : Fin 64, 0 < n.val → ((numBits n.val).extractLsb' 31 1 == 1#1) = false
      ∧ ((numBits n.val).extractLsb' 23 8).toNat = 127 + Nat.log2 n.val
      ∧ 2 ^ 23 + ((numBits n.val).extractLsb' 0 23).toNat = n.val * 2 ^ (23 - Nat.log2 n.val) ∧ Nat.log2 n.val ≤ 6 := by
    decide +kernel
  by_cases h : n.val = 0
  · rw [h]
    simp [numBits, Ideal.ieee]
  · obtain ⟨k0, k1, k2, k3⟩ := key n (by omega)
    unfold Ideal.ieee
    dsimp only
    rw [k0, k1, k2, if_neg (by norm_num; omega), if_neg (by omega)]
    refine congrArg (fun x : ℝ => (x : EReal)) ?_
    push_cast
    rw [← zpow_natCast (2 : ℝ) (23 - Nat.log2 n.val), Nat.cast_sub (by omega), one_mul, mul_assoc, ← zpow_add₀ (by norm_num)]
    have h0 : ((23 : ℕ) : ℤ) - (Nat.log2 n.val : ℤ) + (127 + (Nat.log2 n.val : ℤ) - 127 - 23) = 0 := by push_cast; ring
    norm_num [h0]

end Cert.Proj

end
-- ==== Proof.ProjRefShift.lean ====
module

public import proofs.«01_k».proof.Proof.ProjSpec
public import proofs.«01_k».proof.Proof.Gen.Reference2Ideal.Run
public import Idealize.ShloMosaic.Lib.Pointwise
public import Idealize.ShloMosaic.Lib.IdealHost
public import Idealize.ShloMosaic.Lib.KernelVsHost

@[expose] public section

set_option maxRecDepth 16384

noncomputable section

/-! The reference's centred shifts read at an index over the extended reals. -/

namespace Cert.ProjRef

open Idealize.ShloMosaic Cert.Reference2Ideal Cert.Reference2Ideal.Facts₀ Cert.Proj

theorem int_zero : (FloatOps.sitofp .f32 (0#32) : Ideal .f32) = (0 : EReal) := by
  show (((0#32 : BitVec 32).toInt : ℝ) : EReal) = 0
  norm_num

/-- The row before, 3328 columns. -/
def movedBefore (y : FVec Ideal S16x2048x3328 .f32) : FVec Ideal S16x2048x3328 .f32 :=
  pad S16x2048x3328 ![0, 1, 0] ![0, 0, 0] ![0, 0, 0] (extractStridedSlice S16x2047x3328 ![0, 0, 0] y slices_S16x2048x3328_S16x2047x3328_0_0_0) (sitofp .f32 (constantI S_ 32 0#32)) pads_S16x2047x3328_S16x2048x3328_000_100_000 h_S_

/-- The row after, 3328 columns. -/
def movedAfter (y : FVec Ideal S16x2048x3328 .f32) : FVec Ideal S16x2048x3328 .f32 :=
  pad S16x2048x3328 ![0, 0, 0] ![0, 1, 0] ![0, 0, 0] (extractStridedSlice S16x2047x3328 ![0, 1, 0] y slices_S16x2048x3328_S16x2047x3328_0_1_0) (sitofp .f32 (constantI S_ 32 0#32)) pads_S16x2047x3328_S16x2048x3328_000_010_000 h_S_

/-- The centred shift of 3328 columns. -/
def moved (y : FVec Ideal S16x2048x3328 .f32) (mu : FVec Ideal S2x3328 .f32) : FVec Ideal S16x2048x3328 .f32 :=
  addf (addf y (mulf (broadcastInDim S16x2048x3328 ![0, 1, 2] bcast_S1x1x3328_S16x2048x3328_0_1_2 (broadcastInDim S1x1x3328 ![2] bcast_S3328_S1x1x3328_2 (shapeCast _ (extractStridedSlice S1x3328 ![0, 0] mu slices_S2x3328_S1x3328_0_0) shapeCasts_S1x3328_S3328))) (subf (movedBefore y) y))) (mulf (broadcastInDim S16x2048x3328 ![0, 1, 2] bcast_S1x1x3328_S16x2048x3328_0_1_2 (broadcastInDim S1x1x3328 ![2] bcast_S3328_S1x1x3328_2 (shapeCast _ (extractStridedSlice S1x3328 ![1, 0] mu slices_S2x3328_S1x3328_1_0) shapeCasts_S1x3328_S3328))) (subf (movedAfter y) y))

theorem movedBefore_apply (y : FVec Ideal S16x2048x3328 .f32) (b : Fin 16) (i : Fin 2048) (j : Fin 3328) :
    movedBefore y (ix3 b i j) = before (fun r => y (ix3 b r j)) i := by
  unfold movedBefore before
  by_cases h : i.val = 0
  · rw [dif_pos h, pad_apply_of_not_inside _ _ _ _ _ _ _ _ (1 : Fin 3) (by
      rintro ⟨h1, -⟩
      replace h1 : 1 ≤ i.val := h1
      omega)]
    pointwise []
    exact int_zero
  · rw [dif_neg h, pad_apply_of_inside _ _ _ _ _ _ _ _ (ix3 b (⟨i.val - 1, by omega⟩ : Fin 2047) j) (fun a => by
      match a with
      | 0 => show b.val = 0 + b.val * (0 + 1); omega
      | 1 => show i.val = 1 + (i.val - 1) * (0 + 1); omega
      | 2 => show j.val = 0 + j.val * (0 + 1); omega)]
    pointwise []

theorem movedAfter_apply (y : FVec Ideal S16x2048x3328 .f32) (b : Fin 16) (i : Fin 2048) (j : Fin 3328) :
    movedAfter y (ix3 b i j) = after (fun r => y (ix3 b r j)) i := by
  unfold movedAfter after
  by_cases h : i.val = 2047
  · rw [dif_pos h, pad_apply_of_not_inside _ _ _ _ _ _ _ _ (1 : Fin 3) (by
      rintro ⟨-, -, h1⟩
      replace h1 : (i.val - 0) / (0 + 1) < 2047 := h1
      omega)]
    pointwise []
    exact int_zero
  · rw [dif_neg h, pad_apply_of_inside _ _ _ _ _ _ _ _ (ix3 b (⟨i.val, by omega⟩ : Fin 2047) j) (fun a => by
      match a with
      | 0 => show b.val = 0 + b.val * (0 + 1); omega
      | 1 => show i.val = 0 + i.val * (0 + 1); omega
      | 2 => show j.val = 0 + j.val * (0 + 1); omega)]
    pointwise []
    exact congrArg y (congrArg (ix3 b · j) (Fin.ext (by show 1 + i.val = i.val + 1; omega)))

theorem moved_apply (y : FVec Ideal S16x2048x3328 .f32) (mu : FVec Ideal S2x3328 .f32) (b : Fin 16) (i : Fin 2048) (j : Fin 3328) :
    moved y mu (ix3 b i j) = shifted (fun r => y (ix3 b r j)) (mu (ix2 0 j)) (mu (ix2 1 j)) i := by
  pointwise [moved]
  rw [movedBefore_apply, movedAfter_apply]
  rfl

end Cert.ProjRef

end
-- ==== Proof.ProjRefHeads.lean ====
module

public import proofs.«01_k».proof.Proof.ProjSpec
public import proofs.«01_k».proof.Proof.Gen.Reference2Ideal.Run
public import Idealize.ShloMosaic.Lib.Pointwise
public import Idealize.ShloMosaic.Lib.IdealHost
public import Idealize.ShloMosaic.Lib.KernelVsHost

@[expose] public section

set_option maxRecDepth 16384

noncomputable section

/-! The reference's normed and rotated heads read at an index over the extended reals. -/

namespace Cert.ProjRef

open Idealize.ShloMosaic Cert.Reference2Ideal Cert.Reference2Ideal.Facts₀ Cert.Proj

/-- Division by 64 is a multiplication. -/
theorem over_64 (x : EReal) : Ideal.div x (Ideal.ofBits .f32 0x42800000#32) = x * (((1 : ℝ) / 64 : ℝ) : EReal) := by
  have e : Ideal.ofBits .f32 0x42800000#32 = ((64 : ℝ) : EReal) := by
    simp [Ideal.ofBits, Ideal.ieee, -EReal.coe_mul]; norm_num
  rw [e]
  unfold Ideal.div
  rw [if_neg (by norm_num), ← EReal.coe_inv, one_div]

/-- The sums of squares of 20 heads. -/
def headsSquares (y : FVec Ideal S16x2048x20x64 .f32) : FVec Ideal S16x2048x20 .f32 :=
  Host.reduceAdd (mulf y y) (constant S_ .f32 0x00000000#32) reducesTo_S16x2048x20x64_S16x2048x20_d3 h_S_

/-- 20 heads brought to unit mean square, with their sums of squares given. -/
def headsNormed (y : FVec Ideal S16x2048x20x64 .f32) (s : FVec Ideal S16x2048x20 .f32) (g : FVec Ideal S20x64 .f32) : FVec Ideal S16x2048x20x64 .f32 :=
  mulf (mulf y (broadcastInDim S16x2048x20x64 ![0, 1, 2, 3] bcast_S16x2048x20x1_S16x2048x20x64_0_1_2_3 (Host.rsqrt (addf (Host.divf (broadcastInDim S16x2048x20x1 ![0, 1, 2] bcast_S16x2048x20_S16x2048x20x1_0_1_2 s) (broadcastInDim S16x2048x20x1 ![] bcast_S_S16x2048x20x1 (constant S_ .f32 0x42800000#32))) (broadcastInDim S16x2048x20x1 ![] bcast_S_S16x2048x20x1 (constant S_ .f32 0x358637BD#32)))))) (broadcastInDim S16x2048x20x64 ![0, 1, 2, 3] bcast_S1x1x20x64_S16x2048x20x64_0_1_2_3 (broadcastInDim S1x1x20x64 ![2, 3] bcast_S20x64_S1x1x20x64_2_3 g))

/-- The even lanes of 20 rotated heads. -/
def headsEven (n : FVec Ideal S16x2048x20x64 .f32) (co si : FVec Ideal S2048x32 .f32) : FVec Ideal S16x2048x20x32 .f32 :=
  subf (mulf (shapeCast _ (extractStridedSlice S16x2048x20x32x1 ![0, 0, 0, 0, 0] (shapeCast _ n shapeCasts_S16x2048x20x64_S16x2048x20x32x2) slices_S16x2048x20x32x2_S16x2048x20x32x1_0_0_0_0_0) shapeCasts_S16x2048x20x32x1_S16x2048x20x32) (broadcastInDim S16x2048x20x32 ![0, 1, 2, 3] bcast_S1x2048x1x32_S16x2048x20x32_0_1_2_3 (broadcastInDim S1x2048x1x32 ![1, 3] bcast_S2048x32_S1x2048x1x32_1_3 co))) (mulf (shapeCast _ (extractStridedSlice S16x2048x20x32x1 ![0, 0, 0, 0, 1] (shapeCast _ n shapeCasts_S16x2048x20x64_S16x2048x20x32x2) slices_S16x2048x20x32x2_S16x2048x20x32x1_0_0_0_0_1) shapeCasts_S16x2048x20x32x1_S16x2048x20x32) (broadcastInDim S16x2048x20x32 ![0, 1, 2, 3] bcast_S1x2048x1x32_S16x2048x20x32_0_1_2_3 (broadcastInDim S1x2048x1x32 ![1, 3] bcast_S2048x32_S1x2048x1x32_1_3 si)))

/-- The odd lanes of 20 rotated heads. -/
def headsOdd (n : FVec Ideal S16x2048x20x64 .f32) (co si : FVec Ideal S2048x32 .f32) : FVec Ideal S16x2048x20x32 .f32 :=
  addf (mulf (shapeCast _ (extractStridedSlice S16x2048x20x32x1 ![0, 0, 0, 0, 0] (shapeCast _ n shapeCasts_S16x2048x20x64_S16x2048x20x32x2) slices_S16x2048x20x32x2_S16x2048x20x32x1_0_0_0_0_0) shapeCasts_S16x2048x20x32x1_S16x2048x20x32) (broadcastInDim S16x2048x20x32 ![0, 1, 2, 3] bcast_S1x2048x1x32_S16x2048x20x32_0_1_2_3 (broadcastInDim S1x2048x1x32 ![1, 3] bcast_S2048x32_S1x2048x1x32_1_3 si))) (mulf (shapeCast _ (extractStridedSlice S16x2048x20x32x1 ![0, 0, 0, 0, 1] (shapeCast _ n shapeCasts_S16x2048x20x64_S16x2048x20x32x2) slices_S16x2048x20x32x2_S16x2048x20x32x1_0_0_0_0_1) shapeCasts_S16x2048x20x32x1_S16x2048x20x32) (broadcastInDim S16x2048x20x32 ![0, 1, 2, 3] bcast_S1x2048x1x32_S16x2048x20x32_0_1_2_3 (broadcastInDim S1x2048x1x32 ![1, 3] bcast_S2048x32_S1x2048x1x32_1_3 co)))

/-- 20 heads from their even and odd lanes. -/
def headsJoined (p q : FVec Ideal S16x2048x20x32 .f32) : FVec Ideal S16x2048x1280 .f32 :=
  shapeCast _ (shapeCast _ (concatenate S16x2048x20x32x2 4 [⟨S16x2048x20x32x1, (broadcastInDim S16x2048x20x32x1 ![0, 1, 2, 3] bcast_S16x2048x20x32_S16x2048x20x32x1_0_1_2_3 p)⟩, ⟨S16x2048x20x32x1, (broadcastInDim S16x2048x20x32x1 ![0, 1, 2, 3] bcast_S16x2048x20x32_S16x2048x20x32x1_0_1_2_3 q)⟩] concatenates_S16x2048x20x32x1_S16x2048x20x32x1_S16x2048x20x32x2_d4) shapeCasts_S16x2048x20x32x2_S16x2048x20x64) shapeCasts_S16x2048x20x64_S16x2048x1280

/-- 20 heads normed and rotated. -/
def heads (y : FVec Ideal S16x2048x1280 .f32) (g : FVec Ideal S20x64 .f32) (co si : FVec Ideal S2048x32 .f32) : FVec Ideal S16x2048x1280 .f32 :=
  headsJoined
    (headsEven (headsNormed (shapeCast _ y shapeCasts_S16x2048x1280_S16x2048x20x64) (headsSquares (shapeCast _ y shapeCasts_S16x2048x1280_S16x2048x20x64)) g) co si)
    (headsOdd (headsNormed (shapeCast _ y shapeCasts_S16x2048x1280_S16x2048x20x64) (headsSquares (shapeCast _ y shapeCasts_S16x2048x1280_S16x2048x20x64)) g) co si)

theorem headsSquares_apply (y : FVec Ideal S16x2048x20x64 .f32) (b : Fin 16) (i : Fin 2048) (h : Fin 20) :
    headsSquares y (ix3 b i h) = ∑ d : Fin 64, y (ix4 b i h d) * y (ix4 b i h d) := by
  pointwise [headsSquares]

theorem headsNormed_apply (y : FVec Ideal S16x2048x20x64 .f32) (g : FVec Ideal S20x64 .f32) (b : Fin 16) (i : Fin 2048)
    (h : Fin 20) (d : Fin 64) :
    headsNormed y (headsSquares y) g (ix4 b i h d)
      = normed (fun d => y (ix4 b i h d)) (fun d => g (ix2 h d)) d := by
  pointwise [headsNormed]
  rw [headsSquares_apply, over_64]
  rfl

theorem headsEven_apply (n : FVec Ideal S16x2048x20x64 .f32) (co si : FVec Ideal S2048x32 .f32) (b : Fin 16) (i : Fin 2048)
    (h : Fin 20) (p : Fin 32) :
    headsEven n co si (ix4 b i h p) = n (ix4 b i h ⟨2 * p.val, by omega⟩) * co (ix2 i p)
      - n (ix4 b i h ⟨2 * p.val + 1, by omega⟩) * si (ix2 i p) := by
  pointwise [headsEven]
  refine congrArg₂ (fun s t : EReal => s * _ - t * _) (congrArg n (congrArg (ix4 b i h) (Fin.ext ?_)))
    (congrArg n (congrArg (ix4 b i h) (Fin.ext ?_)))
  · show p.val * 2 = 2 * p.val; omega
  · show p.val * 2 + 1 = 2 * p.val + 1; omega

theorem headsOdd_apply (n : FVec Ideal S16x2048x20x64 .f32) (co si : FVec Ideal S2048x32 .f32) (b : Fin 16) (i : Fin 2048)
    (h : Fin 20) (p : Fin 32) :
    headsOdd n co si (ix4 b i h p) = n (ix4 b i h ⟨2 * p.val, by omega⟩) * si (ix2 i p)
      + n (ix4 b i h ⟨2 * p.val + 1, by omega⟩) * co (ix2 i p) := by
  pointwise [headsOdd]
  refine congrArg₂ (fun s t : EReal => s * _ + t * _) (congrArg n (congrArg (ix4 b i h) (Fin.ext ?_)))
    (congrArg n (congrArg (ix4 b i h) (Fin.ext ?_)))
  · show p.val * 2 = 2 * p.val; omega
  · show p.val * 2 + 1 = 2 * p.val + 1; omega

theorem headsJoined_apply (p q : FVec Ideal S16x2048x20x32 .f32) (b : Fin 16) (i : Fin 2048) (j : Fin 1280) :
    headsJoined p q (ix3 b i j) = if j.val % 2 = 0 then p (ix4 b i ⟨j.val / 64, by omega⟩ ⟨j.val % 64 / 2, by omega⟩)
      else q (ix4 b i ⟨j.val / 64, by omega⟩ ⟨j.val % 64 / 2, by omega⟩) := by
  pointwise [headsJoined]
  have e : j.val / 2 % 32 = j.val % 64 / 2 := by omega
  simp only [e]
  by_cases h : j.val % 2 = 0
  · rw [dif_pos (by omega), if_pos h]
  · rw [dif_neg (by omega), if_neg h]

theorem heads_apply (y : FVec Ideal S16x2048x1280 .f32) (g : FVec Ideal S20x64 .f32) (co si : FVec Ideal S2048x32 .f32) (b : Fin 16)
    (i : Fin 2048) (j : Fin 1280) :
    heads y g co si (ix3 b i j) = turned (normed (fun d => y (ix3 b i ⟨64 * (j.val / 64) + d.val, by omega⟩))
      (fun d => g (ix2 ⟨j.val / 64, by omega⟩ d))) (fun p => co (ix2 i p)) (fun p => si (ix2 i p))
      ⟨j.val % 64, by omega⟩ := by
  have hy : ∀ d : Fin 64, shapeCast S16x2048x20x64 y shapeCasts_S16x2048x1280_S16x2048x20x64
      (ix4 b i (⟨j.val / 64, by omega⟩ : Fin 20) d) = y (ix3 b i ⟨64 * (j.val / 64) + d.val, by omega⟩) := by
    intro d
    pointwise []
    exact congrArg y (congrArg (ix3 b i) (Fin.ext (by show j.val / 64 * 64 + d.val = 64 * (j.val / 64) + d.val; omega)))
  unfold heads
  rw [headsJoined_apply, headsEven_apply, headsOdd_apply]
  simp only [headsNormed_apply, hy]
  unfold turned
  by_cases h : j.val % 2 = 0
  · rw [if_pos h, if_pos (show j.val % 64 % 2 = 0 by omega)]
    refine congrArg₂ (fun s t : EReal => s * _ - t * _) (congrArg (normed _ _) (Fin.ext ?_)) (congrArg (normed _ _) (Fin.ext ?_))
    · show 2 * (j.val % 64 / 2) = j.val % 64; omega
    · show 2 * (j.val % 64 / 2) + 1 = (j.val % 64 + 1) % 64; omega
  · rw [if_neg h, if_neg (show ¬ j.val % 64 % 2 = 0 by omega)]
    refine congrArg₂ (fun s t : EReal => s * _ + t * _) (congrArg (normed _ _) (Fin.ext ?_)) (congrArg (normed _ _) (Fin.ext ?_))
    · show 2 * (j.val % 64 / 2) = j.val % 64 - 1; omega
    · show 2 * (j.val % 64 / 2) + 1 = j.val % 64; omega

end Cert.ProjRef

end
-- ==== Proof.ProjRef.lean ====
module

public import proofs.«01_k».proof.Proof.ProjCols
public import proofs.«01_k».proof.Proof.ProjRefShift
public import proofs.«01_k».proof.Proof.ProjRefHeads

@[expose] public section

set_option maxRecDepth 16384

noncomputable section

/-! The reference's two results read at an index over the extended reals. -/

namespace Cert.ProjRef

open Idealize.ShloMosaic Cert.Reference2Ideal Cert.Reference2Ideal.Facts₀ Cert.Proj

/-- The product. -/
def whole (h : FVec Ideal S16x2048x2048 .bf16) (w : FVec Ideal S2048x11008 .f32) : FVec Ideal S16x2048x11008 .f32 :=
  Host.dotGeneral dot_S16x2048x2048_S2048x11008_S16x2048x11008_2_0_01_1_n_n none (extf .f32 h bitsLt_bf16_f32) w

/-- The columns to be shifted. -/
def movedCols (y : FVec Ideal S16x2048x11008 .f32) : FVec Ideal S16x2048x3328 .f32 :=
  extractStridedSlice S16x2048x3328 ![0, 0, 0] y slices_S16x2048x11008_S16x2048x3328_0_0_0

/-- The columns of the heads. -/
def headCols (y : FVec Ideal S16x2048x11008 .f32) : FVec Ideal S16x2048x1280 .f32 :=
  extractStridedSlice S16x2048x1280 ![0, 0, 4352] y slices_S16x2048x11008_S16x2048x1280_0_0_4352

/-- Their gains. -/
def headGains (q k : FVec Ideal S64 .f32) : FVec Ideal S20x64 .f32 :=
  concatenate S20x64 0 [⟨S16x64, broadcastInDim S16x64 ![1] bcast_S64_S16x64_1 q⟩, ⟨S4x64, broadcastInDim S4x64 ![1] bcast_S64_S4x64_1 k⟩] concatenates_S16x64_S4x64_S20x64_d0

/-- The grid row of each position. -/
def gridRow : FVec Ideal S2048 .f32 :=
  shapeCast _ (broadcastInDim S32x64 ![0] bcast_S32_S32x64_0 (sitofp .f32 (iotaInDim S32 32 0))) shapeCasts_S32x64_S2048

/-- The grid column of each position. -/
def gridCol : FVec Ideal S2048 .f32 :=
  shapeCast _ (broadcastInDim S32x64 ![0, 1] bcast_S1x64_S32x64_0_1 (shapeCast _ (sitofp .f32 (iotaInDim S64 32 0) : FVec Ideal S64 .f32) shapeCasts_S64_S1x64)) shapeCasts_S32x64_S2048

/-- The frequencies. -/
def freqs : FVec Ideal S16 .f32 :=
  Host.powf (broadcastInDim S16 ![] bcast_S_S16 (constant S_ .f32 0x461C4000#32)) (Host.divf (Host.negf (addf (broadcastInDim S16 ![] bcast_S_S16 (constant S_ .f32 0x00000000#32)) (mulf (broadcastInDim S16 ![] bcast_S_S16 (constant S_ .f32 0x40000000#32)) (sitofp .f32 (iotaInDim S16 32 0))))) (broadcastInDim S16 ![] bcast_S_S16 (constant S_ .f32 0x42000000#32)))

/-- One half of the angles. -/
def halfAngles (p : FVec Ideal S2048 .f32) : FVec Ideal S2048x16 .f32 :=
  mulf (broadcastInDim S2048x16 ![0, 1] bcast_S2048x1_S2048x16_0_1 (broadcastInDim S2048x1 ![0] bcast_S2048_S2048x1_0 p))
    (broadcastInDim S2048x16 ![0, 1] bcast_S1x16_S2048x16_0_1 (broadcastInDim S1x16 ![1] bcast_S16_S1x16_1 freqs))

/-- The angles. -/
def angles (p q : FVec Ideal S2048 .f32) : FVec Ideal S2048x32 .f32 :=
  concatenate S2048x32 1 [⟨S2048x16, halfAngles p⟩, ⟨S2048x16, halfAngles q⟩] concatenates_S2048x16_S2048x16_S2048x32_d1

/-- The eight ranges of columns, side by side. -/
def joined (y : FVec Ideal S16x2048x11008 .f32) (s : FVec Ideal S16x2048x3328 .f32) (t : FVec Ideal S16x2048x1280 .f32) :
    FVec Ideal S16x2048x11008 .f32 :=
  concatenate S16x2048x11008 2 [⟨S16x2048x3072, extractStridedSlice S16x2048x3072 ![0, 0, 0] s slices_S16x2048x3328_S16x2048x3072_0_0_0⟩, ⟨S16x2048x1024, extractStridedSlice S16x2048x1024 ![0, 0, 3328] y slices_S16x2048x11008_S16x2048x1024_0_0_3328⟩, ⟨S16x2048x1024, extractStridedSlice S16x2048x1024 ![0, 0, 0] t slices_S16x2048x1280_S16x2048x1024_0_0_0⟩, ⟨S16x2048x1024, extractStridedSlice S16x2048x1024 ![0, 0, 5888] y slices_S16x2048x11008_S16x2048x1024_0_0_5888⟩, ⟨S16x2048x4096, extractStridedSlice S16x2048x4096 ![0, 0, 6912] y slices_S16x2048x11008_S16x2048x4096_0_0_6912⟩, ⟨S16x2048x256, extractStridedSlice S16x2048x256 ![0, 0, 1024] t slices_S16x2048x1280_S16x2048x256_0_0_1024⟩, ⟨S16x2048x256, extractStridedSlice S16x2048x256 ![0, 0, 5632] y slices_S16x2048x11008_S16x2048x256_0_0_5632⟩, ⟨S16x2048x256, extractStridedSlice S16x2048x256 ![0, 0, 3072] s slices_S16x2048x3328_S16x2048x256_0_0_3072⟩] concatenates_S16x2048x3072_S16x2048x1024_S16x2048x1024_S16x2048x1024_S16x2048x4096_S16x2048x256_S16x2048x256_S16x2048x256_S16x2048x11008_d2

/-- The ranges with zeros behind them. -/
def packed (z : FVec Ideal S16x2048x11008 .f32) : FVec Ideal S16x2048x11264 .bf16 :=
  truncf .bf16 (pad S16x2048x11264 ![0, 0, 0] ![0, 0, 256] ![0, 0, 0] z (sitofp .f32 (constantI S_ 32 0#32)) pads_S16x2048x11008_S16x2048x11264_000_000_02560 h_S_) bitsLt_bf16_f32

/-- The shifted columns of the second result. -/
def lora (s : FVec Ideal S16x2048x3328 .f32) : FVec Ideal S16x2048x256 .f32 :=
  extractStridedSlice S16x2048x256 ![0, 0, 3072] s slices_S16x2048x3328_S16x2048x256_0_0_3072

theorem result0_eq (m : (ℓ : Loc nD τ sig) → Buf (Elt Ideal) ℓ) (c : Dev nD) :
    Value.res_main_v101 m c = packed (joined (whole (m ((c.tc : Thread nD τ).loc main_arg0)) (m ((c.tc : Thread nD τ).loc main_arg1)))
      (moved (movedCols (whole (m ((c.tc : Thread nD τ).loc main_arg0)) (m ((c.tc : Thread nD τ).loc main_arg1))))
        (m ((c.tc : Thread nD τ).loc main_arg2)))
      (heads (headCols (whole (m ((c.tc : Thread nD τ).loc main_arg0)) (m ((c.tc : Thread nD τ).loc main_arg1))))
        (headGains (m ((c.tc : Thread nD τ).loc main_arg3)) (m ((c.tc : Thread nD τ).loc main_arg4)))
        (Host.cos (angles gridRow gridCol)) (Host.sin (angles gridRow gridCol)))) := by
  rfl

theorem whole_apply (h : FVec Ideal S16x2048x2048 .bf16) (w : FVec Ideal S2048x11008 .f32) (b : Fin 16) (i : Fin 2048)
    (e : Fin 11264) (he : e.val < 11008) :
    whole h w (ix3 b i (source e he)) = product (fun b i k => h (ix3 b i k)) (fun k => placed fun c => w (ix2 k c)) b i e := by
  unfold product placed
  rw [Finset.sum_congr rfl fun k _ => congrArg (fun z : EReal => h (ix3 b i k) * z) (dif_pos he)]
  pointwise [whole]

/-- The columns of a product are those of a table in the order of the projection. -/
def Sees (y : FVec Ideal S16x2048x11008 .f32) (b : Fin 16) (Y : Fin 2048 → Fin 11264 → EReal) : Prop :=
  ∀ (r : Fin 2048) (e : Fin 11264) (h : e.val < 11008), y (ix3 b r (source e h)) = Y r e

theorem Sees.at {y : FVec Ideal S16x2048x11008 .f32} {b : Fin 16} {Y : Fin 2048 → Fin 11264 → EReal} (H : Sees y b Y)
    (r : Fin 2048) (e : Fin 11264) (he : e.val < 11008) (c : Fin 11008) (hc : c.val = sourceVal e.val) : y (ix3 b r c) = Y r e :=
  (congrArg y (congrArg (ix3 b r) (Fin.ext hc))).trans (H r e he)

theorem movedCols_apply (y : FVec Ideal S16x2048x11008 .f32) (b : Fin 16) (i : Fin 2048) (j : Fin 3328) :
    movedCols y (ix3 b i j) = y (ix3 b i ⟨j.val, by omega⟩) := by
  pointwise [movedCols]

theorem headCols_apply (y : FVec Ideal S16x2048x11008 .f32) (b : Fin 16) (i : Fin 2048) (j : Fin 1280) :
    headCols y (ix3 b i j) = y (ix3 b i ⟨4352 + j.val, by omega⟩) := by
  pointwise [headCols]

theorem headGains_apply (q k : FVec Ideal S64 .f32) (h : Fin 20) (d : Fin 64) :
    headGains q k (ix2 h d) = if h.val < 16 then q (ix1 d) else k (ix1 d) := by
  pointwise [headGains]
  split <;> rfl

theorem shifted_at (y : FVec Ideal S16x2048x11008 .f32) (mu : FVec Ideal S2x3328 .f32) (b : Fin 16)
    (Y : Fin 2048 → Fin 11264 → EReal) (H : Sees y b Y) (i : Fin 2048) (j : Fin 3328) (e : Fin 11264)
    (he : j.val < 3072 ∧ e.val = j.val ∨ 3072 ≤ j.val ∧ e.val = 7680 + j.val) :
    moved (movedCols y) mu (ix3 b i j)
      = shiftedAt Y (fun a => placed (zeroBehind fun c => mu (ix2 a c))) i e := by
  have hj := j.isLt
  have hs : j.val = sourceVal e.val := by
    unfold sourceVal
    split_ifs <;> omega
  have hm : ∀ a : Fin 2, mu (ix2 a j) = placed (zeroBehind fun c => mu (ix2 a c)) e := by
    intro a
    unfold placed zeroBehind
    rw [dif_pos (show e.val < 11008 by omega), dif_pos (show (source e (by omega)).val < 3328 by show sourceVal e.val < 3328; omega)]
    exact congrArg mu (congrArg (ix2 a) (Fin.ext hs))
  rw [moved_apply, hm 0, hm 1]
  simp only [movedCols_apply]
  unfold shiftedAt
  exact congrArg (fun z => shifted z _ _ i) (funext fun r => H.at r e (by omega) _ hs)

theorem turned_at (y : FVec Ideal S16x2048x11008 .f32) (q k : FVec Ideal S64 .f32) (co si : FVec Ideal S2048x32 .f32)
    (b : Fin 16) (Y : Fin 2048 → Fin 11264 → EReal) (H : Sees y b Y) (i : Fin 2048) (j : Fin 1280) (e : Fin 11264)
    (he : j.val < 1024 ∧ e.val = 4096 + j.val ∨ 1024 ≤ j.val ∧ e.val = 9216 + j.val) :
    heads (headCols y) (headGains q k) co si (ix3 b i j)
      = turnedAt Y (gainsAt (fun d => q (ix1 d)) (fun d => k (ix1 d))) (fun i p => co (ix2 i p)) (fun i p => si (ix2 i p)) i e := by
  have hj := j.isLt
  have hl : ∀ d : Fin 64, y (ix3 b i ⟨4352 + (64 * (j.val / 64) + d.val), by omega⟩) = Y i (lane e d) := by
    intro d
    refine H.at i (lane e d) (show 64 * (e.val / 64) + d.val < 11008 by omega) _ ?_
    show 4352 + (64 * (j.val / 64) + d.val) = sourceVal (64 * (e.val / 64) + d.val)
    unfold sourceVal
    split_ifs <;> omega
  have hg : ∀ d : Fin 64, (if j.val / 64 < 16 then q (ix1 d) else k (ix1 d))
      = gainsAt (fun d => q (ix1 d)) (fun d => k (ix1 d)) (lane e d) := by
    intro d
    have hd : (⟨(lane e d).val % 64, by omega⟩ : Fin 64) = d :=
      Fin.ext (by show (64 * (e.val / 64) + d.val) % 64 = d.val; omega)
    unfold gainsAt
    rcases he with ⟨h1, h2⟩ | ⟨h1, h2⟩
    · rw [if_pos (by omega), if_pos (by show 4096 ≤ 64 * (e.val / 64) + d.val ∧ 64 * (e.val / 64) + d.val < 5120; omega), hd]
    · rw [if_neg (by omega), if_neg (by show ¬(4096 ≤ 64 * (e.val / 64) + d.val ∧ 64 * (e.val / 64) + d.val < 5120); omega),
        if_pos (by show 10240 ≤ 64 * (e.val / 64) + d.val ∧ 64 * (e.val / 64) + d.val < 10496; omega), hd]
  have hd : (⟨j.val % 64, by omega⟩ : Fin 64) = ⟨e.val % 64, by omega⟩ := Fin.ext (by dsimp only; omega)
  rw [heads_apply, hd]
  simp only [headCols_apply, headGains_apply, hl, hg]
  rfl

/-- The eight ranges of columns. -/
def pieces (y : FVec Ideal S16x2048x11008 .f32) (s : FVec Ideal S16x2048x3328 .f32) (t : FVec Ideal S16x2048x1280 .f32) :
    List ((s : Shape) × (s.Idx → Ideal .f32)) :=
  [⟨S16x2048x3072, extractStridedSlice S16x2048x3072 ![0, 0, 0] s slices_S16x2048x3328_S16x2048x3072_0_0_0⟩, ⟨S16x2048x1024, extractStridedSlice S16x2048x1024 ![0, 0, 3328] y slices_S16x2048x11008_S16x2048x1024_0_0_3328⟩, ⟨S16x2048x1024, extractStridedSlice S16x2048x1024 ![0, 0, 0] t slices_S16x2048x1280_S16x2048x1024_0_0_0⟩, ⟨S16x2048x1024, extractStridedSlice S16x2048x1024 ![0, 0, 5888] y slices_S16x2048x11008_S16x2048x1024_0_0_5888⟩, ⟨S16x2048x4096, extractStridedSlice S16x2048x4096 ![0, 0, 6912] y slices_S16x2048x11008_S16x2048x4096_0_0_6912⟩, ⟨S16x2048x256, extractStridedSlice S16x2048x256 ![0, 0, 1024] t slices_S16x2048x1280_S16x2048x256_0_0_1024⟩, ⟨S16x2048x256, extractStridedSlice S16x2048x256 ![0, 0, 5632] y slices_S16x2048x11008_S16x2048x256_0_0_5632⟩, ⟨S16x2048x256, extractStridedSlice S16x2048x256 ![0, 0, 3072] s slices_S16x2048x3328_S16x2048x256_0_0_3072⟩]

theorem piece_apply (y : FVec Ideal S16x2048x11008 .f32) (s : FVec Ideal S16x2048x3328 .f32) (t : FVec Ideal S16x2048x1280 .f32)
    (b : Fin 16) (i : Fin 2048) (e : Fin 11008) (k n pre : ℕ) (hk : k < (pieces y s t).length)
    (x : FVec Ideal ⟨3, ![16, 2048, n]⟩ .f32) (hx : (pieces y s t)[k] = ⟨⟨3, ![16, 2048, n]⟩, x⟩)
    (hpre : ((((pieces y s t).take k).map (·.1)).map fun s => if h : s.rank = S16x2048x11008.rank then s.size ((2 : Fin 3).cast h.symm) else 0).sum = pre)
    (j : Fin n) (hj : pre + j.val = e.val) :
    joined y s t (ix3 b i e) = x (ix3 b i j) :=
  concatenate_apply_piece (t := S16x2048x11008) (2 : Fin S16x2048x11008.rank) (pieces y s t)
    concatenates_S16x2048x3072_S16x2048x1024_S16x2048x1024_S16x2048x1024_S16x2048x4096_S16x2048x256_S16x2048x256_S16x2048x256_S16x2048x11008_d2 (ix3 b i e) k hk _ x hx rfl pre hpre (ix3 b i j)
    (fun a ha => by
      match a with
      | 0 => rfl
      | 1 => rfl
      | 2 => exact absurd rfl ha) hj

theorem joined_apply (y : FVec Ideal S16x2048x11008 .f32) (s : FVec Ideal S16x2048x3328 .f32) (t : FVec Ideal S16x2048x1280 .f32)
    (b : Fin 16) (i : Fin 2048) (e : Fin 11264) (he : e.val < 11008) (Y : Fin 2048 → Fin 11264 → EReal) (S T : Fin 11264 → EReal)
    (H : Sees y b Y)
    (hs : ∀ j : Fin 3328, (j.val < 3072 ∧ e.val = j.val ∨ 3072 ≤ j.val ∧ e.val = 7680 + j.val) → s (ix3 b i j) = S e)
    (ht : ∀ j : Fin 1280, (j.val < 1024 ∧ e.val = 4096 + j.val ∨ 1024 ≤ j.val ∧ e.val = 9216 + j.val) →
      t (ix3 b i j) = T e) :
    joined y s t (ix3 b i ⟨e.val, he⟩) = if e.val < 3072 then S e else if e.val < 4096 then Y i e else if e.val < 5120 then T e
      else if e.val < 10240 then Y i e else if e.val < 10496 then T e else if e.val < 10752 then Y i e
      else if e.val < 11008 then S e else Y i e := by
  by_cases h0 : e.val < 3072
  · rw [if_pos h0]
    refine (piece_apply y s t b i ⟨e.val, he⟩ 0 3072 0 (show 0 < 8 by decide) _ rfl rfl ⟨e.val - 0, by omega⟩ (by dsimp only; omega)).trans ?_
    pointwise []
    exact hs _ (by dsimp only; omega)
  rw [if_neg h0]
  by_cases h1 : e.val < 4096
  · rw [if_pos h1]
    refine (piece_apply y s t b i ⟨e.val, he⟩ 1 1024 3072 (show 1 < 8 by decide) _ rfl rfl ⟨e.val - 3072, by omega⟩ (by dsimp only; omega)).trans ?_
    pointwise []
    exact H.at i e (by omega) _ (by dsimp only; unfold sourceVal; split_ifs <;> omega)
  rw [if_neg h1]
  by_cases h2 : e.val < 5120
  · rw [if_pos h2]
    refine (piece_apply y s t b i ⟨e.val, he⟩ 2 1024 4096 (show 2 < 8 by decide) _ rfl rfl ⟨e.val - 4096, by omega⟩ (by dsimp only; omega)).trans ?_
    pointwise []
    exact ht _ (by dsimp only; omega)
  rw [if_neg h2]
  by_cases h3 : e.val < 6144
  · rw [if_pos (show e.val < 10240 by omega)]
    refine (piece_apply y s t b i ⟨e.val, he⟩ 3 1024 5120 (show 3 < 8 by decide) _ rfl rfl ⟨e.val - 5120, by omega⟩ (by dsimp only; omega)).trans ?_
    pointwise []
    exact H.at i e (by omega) _ (by dsimp only; unfold sourceVal; split_ifs <;> omega)
  by_cases h4 : e.val < 10240
  · rw [if_pos h4]
    refine (piece_apply y s t b i ⟨e.val, he⟩ 4 4096 6144 (show 4 < 8 by decide) _ rfl rfl ⟨e.val - 6144, by omega⟩ (by dsimp only; omega)).trans ?_
    pointwise []
    exact H.at i e (by omega) _ (by dsimp only; unfold sourceVal; split_ifs <;> omega)
  rw [if_neg h4]
  by_cases h5 : e.val < 10496
  · rw [if_pos h5]
    refine (piece_apply y s t b i ⟨e.val, he⟩ 5 256 10240 (show 5 < 8 by decide) _ rfl rfl ⟨e.val - 10240, by omega⟩ (by dsimp only; omega)).trans ?_
    pointwise []
    exact ht _ (by dsimp only; omega)
  rw [if_neg h5]
  by_cases h6 : e.val < 10752
  · rw [if_pos h6]
    refine (piece_apply y s t b i ⟨e.val, he⟩ 6 256 10496 (show 6 < 8 by decide) _ rfl rfl ⟨e.val - 10496, by omega⟩ (by dsimp only; omega)).trans ?_
    pointwise []
    exact H.at i e (by omega) _ (by dsimp only; unfold sourceVal; split_ifs <;> omega)
  rw [if_neg h6]
  rw [if_pos he]
  refine (piece_apply y s t b i ⟨e.val, he⟩ 7 256 10752 (show 7 < 8 by decide) _ rfl rfl ⟨e.val - 10752, by omega⟩ (by dsimp only; omega)).trans ?_
  pointwise []
  exact hs _ (by dsimp only; omega)

theorem packed_apply (z : FVec Ideal S16x2048x11008 .f32) (b : Fin 16) (i : Fin 2048) (e : Fin 11264) :
    packed z (ix3 b i e) = if h : e.val < 11008 then z (ix3 b i ⟨e.val, h⟩) else 0 := by
  unfold packed
  by_cases h : e.val < 11008
  · rw [dif_pos h]
    refine pad_apply_of_inside _ _ _ z _ pads_S16x2048x11008_S16x2048x11264_000_000_02560 h_S_ _ (ix3 b i (⟨e.val, h⟩ : Fin 11008)) (fun a => ?_)
    match a with
    | 0 => show b.val = 0 + b.val * (0 + 1); omega
    | 1 => show i.val = 0 + i.val * (0 + 1); omega
    | 2 => show e.val = 0 + e.val * (0 + 1); omega
  · rw [dif_neg h]
    refine (pad_apply_of_not_inside _ _ _ z _ pads_S16x2048x11008_S16x2048x11264_000_000_02560 h_S_ _ (2 : Fin 3) ?_).trans int_zero
    rintro ⟨-, -, h1⟩
    replace h1 : (e.val - 0) / (0 + 1) < 11008 := h1
    omega

theorem all_apply (y : FVec Ideal S16x2048x11008 .f32) (mu : FVec Ideal S2x3328 .f32) (q k : FVec Ideal S64 .f32)
    (co si : FVec Ideal S2048x32 .f32) (b : Fin 16) (i : Fin 2048) (e : Fin 11264) (Y : Fin 2048 → Fin 11264 → EReal)
    (H : Sees y b Y) (hz : 11008 ≤ e.val → Y i e = 0) :
    packed (joined y (moved (movedCols y) mu) (heads (headCols y) (headGains q k) co si)) (ix3 b i e)
      = entry Y (fun a => placed (zeroBehind fun c => mu (ix2 a c))) (gainsAt (fun d => q (ix1 d)) (fun d => k (ix1 d)))
        (fun i p => co (ix2 i p)) (fun i p => si (ix2 i p)) i e := by
  rw [packed_apply]
  by_cases h : e.val < 11008
  · rw [dif_pos h]
    exact joined_apply y _ _ b i e h Y _ _ H (fun j hj => shifted_at y mu b Y H i j e hj)
      (fun j hj => turned_at y q k co si b Y H i j e hj)
  · rw [dif_neg h]
    unfold entry
    rw [if_neg (by omega), if_neg (by omega), if_neg (by omega), if_neg (by omega), if_neg (by omega), if_neg (by omega),
      if_neg (by omega), hz (by omega)]

theorem lora_apply (y : FVec Ideal S16x2048x11008 .f32) (mu : FVec Ideal S2x3328 .f32) (b : Fin 16)
    (Y : Fin 2048 → Fin 11264 → EReal) (H : Sees y b Y) (i : Fin 2048) (j : Fin 256) (e : Fin 11264) (he : e.val = 10752 + j.val) :
    lora (moved (movedCols y) mu) (ix3 b i j)
      = shiftedAt Y (fun a => placed (zeroBehind fun c => mu (ix2 a c))) i e := by
  pointwise [lora]
  exact shifted_at _ _ _ _ H _ _ _ (by dsimp only; omega)

end Cert.ProjRef

end
-- ==== Proof.ProjPrep.lean ====
module

public import proofs.«01_k».proof.Proof.ProjArrays
public import proofs.«01_k».proof.Proof.ProjRef

@[expose] public section

set_option maxRecDepth 16384

noncomputable section

/-! The arrays that the host code lays out for the projection, read entry by entry: the weights and the shift weights
in the order of the projection, the gains of the heads and the angles. -/

namespace Cert.Proj

open Idealize.ShloMosaic Cert.Kernel2Ideal Cert.Kernel2Ideal.Gen

variable (m : (ℓ : Loc nD τ sig) → Buf (Elt Ideal) ℓ) (c : Dev nD)

abbrev weightArg : S2048x11008.Idx → EReal := m ((c.tc : Thread nD τ).loc main_arg1)
abbrev shiftArg : S2x3328.Idx → EReal := m ((c.tc : Thread nD τ).loc main_arg2)
abbrev qArg : S64.Idx → EReal := m ((c.tc : Thread nD τ).loc main_arg3)
abbrev kArg : S64.Idx → EReal := m ((c.tc : Thread nD τ).loc main_arg4)

/-! ## Columns in the order of the projection -/

def orderedWeights (x : S2048x11008.Idx → EReal) : S2048x11008.Idx → EReal :=
  concatenate S2048x11008 1 (nine (R := 2048) x slices_S2048x11008_S2048x3072_0_0 slices_S2048x11008_S2048x1024_0_3328
    slices_S2048x11008_S2048x1024_0_4352 slices_S2048x11008_S2048x1024_0_5888 slices_S2048x11008_S2048x4096_0_6912
    slices_S2048x11008_S2048x256_0_5376 slices_S2048x11008_S2048x256_0_5632 slices_S2048x11008_S2048x128_0_3072
    slices_S2048x11008_S2048x128_0_3200)
    concatenates_S2048x3072_S2048x1024_S2048x1024_S2048x1024_S2048x4096_S2048x256_S2048x256_S2048x128_S2048x128_S2048x11008_d1

def orderedShifts (x : S2x11008.Idx → EReal) : S2x11008.Idx → EReal :=
  concatenate S2x11008 1 (nine (R := 2) x slices_S2x11008_S2x3072_0_0 slices_S2x11008_S2x1024_0_3328
    slices_S2x11008_S2x1024_0_4352 slices_S2x11008_S2x1024_0_5888 slices_S2x11008_S2x4096_0_6912
    slices_S2x11008_S2x256_0_5376 slices_S2x11008_S2x256_0_5632 slices_S2x11008_S2x128_0_3072
    slices_S2x11008_S2x128_0_3200)
    concatenates_S2x3072_S2x1024_S2x1024_S2x1024_S2x4096_S2x256_S2x256_S2x128_S2x128_S2x11008_d1

/-- The shift weights with zeros behind them. -/
def fullShifts (x : S2x3328.Idx → EReal) : S2x11008.Idx → EReal :=
  concatenate S2x11008 1 [⟨S2x3328, x⟩, ⟨S2x7680, broadcastInDim S2x7680 ![] bcast_S_S2x7680 (constant (F := Ideal) S_ .f32 0x00000000#32)⟩]
    concatenates_S2x3328_S2x7680_S2x11008_d1

theorem colArr_eq : colArr m c = pad S2048x11264 ![0, 0] ![0, 256] ![0, 0] (orderedWeights (weightArg m c))
    (sitofp (F := Ideal) .bf16 (constantI S_ 32 0#32)) pads_S2048x11008_S2048x11264_000_02560 h_S_ := by rfl

set_option maxHeartbeats 4000000 in
theorem muArr_eq : muArr m c = pad S2x11264 ![0, 0] ![0, 256] ![0, 0] (orderedShifts (fullShifts (shiftArg m c)))
    (sitofp (F := Ideal) .f32 (constantI S_ 32 0#32)) pads_S2x11008_S2x11264_000_02560 h_S_ := by rfl

theorem colArr_apply (k : Fin 2048) (e : Fin 11264) :
    colArr m c (ix2 k e) = placed (fun j => weightArg m c (ix2 k j)) e := by
  rw [colArr_eq]
  refine (padded _ _ _ _ ProjRef.int_zero k e).trans ?_
  unfold placed
  refine dite_congr rfl (fun h => ?_) fun _ => rfl
  exact reordered (R := 2048) _ _ _ _ _ _ _ _ _ _ _ k ⟨e.val, h⟩

theorem fullShifts_apply (x : S2x3328.Idx → EReal) (a : Fin 2) (j : Fin 11008) :
    fullShifts x (ix2 a j) = zeroBehind (fun i => x (ix2 a i)) j := by
  unfold zeroBehind
  pointwise [fullShifts]

theorem muArr_apply (a : Fin 2) (e : Fin 11264) :
    muArr m c (ix2 a e) = placed (zeroBehind fun j => shiftArg m c (ix2 a j)) e := by
  rw [muArr_eq]
  refine (padded _ _ _ _ ProjRef.int_zero a e).trans ?_
  unfold placed
  refine dite_congr rfl (fun h => ?_) fun _ => rfl
  exact (reordered (R := 2) _ _ _ _ _ _ _ _ _ _ _ a ⟨e.val, h⟩).trans (fullShifts_apply _ a _)

/-! ## Gains of the heads -/

def place (p : BitVec 32) : IVec S2 32 :=
  concatenate S2 0 [⟨S1, broadcastInDim S1 ![] bcast_S_S1 (constantI S_ 32 0#32)⟩, ⟨S1, broadcastInDim S1 ![] bcast_S_S1 (constantI S_ 32 p)⟩]
    concatenates_S1_S1_S2_d0

theorem place_row (p : BitVec 32) : place p (ix1 (0 : Fin 2)) = 0#32 := by
  pointwise [place]

theorem place_column (p : BitVec 32) : place p (ix1 (1 : Fin 2)) = p := by
  pointwise [place]

/-- A gain for each of sixteen heads, side by side. -/
def tile16 (x : FVec Ideal S64 .f32) : FVec Ideal S1024 .f32 :=
  shapeCast _ (broadcastInDim S16x64 ![0, 1] bcast_S1x64_S16x64_0_1 (shapeCast _ x shapeCasts_S64_S1x64)) shapeCasts_S16x64_S1024

/-- The same for four heads. -/
def tile4 (x : FVec Ideal S64 .f32) : FVec Ideal S256 .f32 :=
  shapeCast _ (broadcastInDim S4x64 ![0, 1] bcast_S1x64_S4x64_0_1 (shapeCast _ x shapeCasts_S64_S1x64)) shapeCasts_S4x64_S256

theorem tile16_apply (x : FVec Ideal S64 .f32) (i : Fin 1024) : tile16 x (ix1 i) = x (ix1 ⟨i.val % 64, by omega⟩) := by
  pointwise [tile16]

theorem tile4_apply (x : FVec Ideal S64 .f32) (i : Fin 256) : tile4 x (ix1 i) = x (ix1 ⟨i.val % 64, by omega⟩) := by
  pointwise [tile4]

def zeroRow : FVec Ideal S1x11264 .f32 := broadcastInDim S1x11264 ![] bcast_S_S1x11264 (constant S_ .f32 0x00000000#32)

theorem zeroRow_apply (e : Fin 11264) : zeroRow (ix2 0 e) = 0 := by
  pointwise [zeroRow]

set_option maxHeartbeats 4000000 in
theorem gainArr_eq : gainArr m c = Host.scatter scatter_S1x11264_S2_S256_0_0_01_0 (fun _ b => b)
    (Host.scatter scatter_S1x11264_S2_S1024_0_0_01_0 (fun _ b => b) zeroRow (place 4096#32) (tile16 (qArg m c)))
    (place 10240#32) (tile4 (kArg m c)) := by
  simp only [gainArr, V, hostOps0, hostOps0_1, hostOps0_2, hostOps0_3, hostOps0_4, List.flatten_cons, List.flatten_nil,
    List.append_nil, List.cons_append, List.nil_append]
  after_results_simp
  rfl

theorem gainArr_apply (e : Fin 11264) :
    gainArr m c (ix2 0 e) = gainsAt (fun d => qArg m c (ix1 d)) (fun d => kArg m c (ix1 d)) e := by
  rw [gainArr_eq]
  refine (row_written (C := 11264) (U := 256) scatter_S1x11264_S2_S256_0_0_01_0 rfl rfl rfl _ _ _ 10240
    (by rw [place_row]; rfl) (by rw [place_column]; rfl) e).trans ?_
  unfold gainsAt
  by_cases h1 : 10240 ≤ e.val ∧ e.val < 10240 + 256
  · rw [dif_pos h1, if_neg (by omega), if_pos (by omega), tile4_apply]
    exact congrArg (kArg m c) (congrArg ix1 (Fin.ext (by dsimp only; omega)))
  rw [dif_neg h1]
  refine (row_written (C := 11264) (U := 1024) scatter_S1x11264_S2_S1024_0_0_01_0 rfl rfl rfl _ _ _ 4096
    (by rw [place_row]; rfl) (by rw [place_column]; rfl) e).trans ?_
  by_cases h0 : 4096 ≤ e.val ∧ e.val < 4096 + 1024
  · rw [dif_pos h0, if_pos (by omega), tile16_apply]
    exact congrArg (qArg m c) (congrArg ix1 (Fin.ext (by dsimp only; omega)))
  · rw [dif_neg h0, if_neg (by omega), if_neg (by omega), zeroRow_apply]

/-! ## Angles -/

theorem rows_listed : ∀ i : Fin 2048, lit0 i = numBits (i.val / 64) := by decide +kernel

theorem columns_listed : ∀ i : Fin 2048, lit1 i = numBits (i.val % 64) := by decide +kernel

def listedRows : FVec Ideal S2048 .f32 := fun i => FloatOps.ofBits .f32 (lit0 (S2048.rowMajor i))

def listedColumns : FVec Ideal S2048 .f32 := fun i => FloatOps.ofBits .f32 (lit1 (S2048.rowMajor i))

theorem rowMajor_at (i : Fin 2048) : S2048.rowMajor (ix1 i) = i := by
  exact Fin.ext (Shape.rowMajor_val_one _)

/-- An index below 2048 read back as a number. -/
theorem back (n : ℕ) (h : n < 2048) : (FloatOps.sitofp .f32 (BitVec.ofNat 32 n) : Ideal .f32) = (((n : ℤ) : ℝ) : EReal) := by
  show (((BitVec.ofNat 32 n).toInt : ℝ) : EReal) = _
  have e : (BitVec.ofNat 32 n).toInt = n := by
    rw [BitVec.toInt_eq_toNat_of_lt]
    · simp only [BitVec.toNat_ofNat, Nat.mod_eq_of_lt (show n < 2 ^ 32 by omega)]
    · simp only [BitVec.toNat_ofNat, Nat.mod_eq_of_lt (show n < 2 ^ 32 by omega)]; omega
  rw [e]

theorem gridRow_apply (i : Fin 2048) : ProjRef.gridRow (ix1 i) = (((i.val / 64 : ℕ) : ℤ) : ℝ) := by
  pointwise [ProjRef.gridRow]
  exact back _ (by omega)

theorem gridCol_apply (i : Fin 2048) : ProjRef.gridCol (ix1 i) = (((i.val % 64 : ℕ) : ℤ) : ℝ) := by
  pointwise [ProjRef.gridCol]
  exact back _ (by omega)

theorem listedRows_eq : listedRows = ProjRef.gridRow := by
  refine funext fun (y : S2048.Idx) => ?_
  obtain ⟨i, rfl⟩ : ∃ i : Fin 2048, y = ix1 i := ⟨y 0, funext fun a => match a with | 0 => rfl⟩
  rw [gridRow_apply]
  show Ideal.ofBits .f32 (lit0 (S2048.rowMajor (ix1 i))) = _
  rw [rowMajor_at, rows_listed]
  exact numBits_value ⟨i.val / 64, by omega⟩

theorem listedColumns_eq : listedColumns = ProjRef.gridCol := by
  refine funext fun (y : S2048.Idx) => ?_
  obtain ⟨i, rfl⟩ : ∃ i : Fin 2048, y = ix1 i := ⟨y 0, funext fun a => match a with | 0 => rfl⟩
  rw [gridCol_apply]
  show Ideal.ofBits .f32 (lit1 (S2048.rowMajor (ix1 i))) = _
  rw [rowMajor_at, columns_listed]
  exact numBits_value ⟨i.val % 64, by omega⟩

theorem angles_listed : V m c main_v60 = ProjRef.angles listedRows listedColumns := by rfl

theorem cosArr_eq : cosArr m c = Host.cos (ProjRef.angles ProjRef.gridRow ProjRef.gridCol) := by
  rw [← listedRows_eq, ← listedColumns_eq]
  exact congrArg Host.cos (angles_listed m c)

theorem sinArr_eq : sinArr m c = Host.sin (ProjRef.angles ProjRef.gridRow ProjRef.gridCol) := by
  rw [← listedRows_eq, ← listedColumns_eq]
  exact congrArg Host.sin (angles_listed m c)

end Cert.Proj

end
-- ==== Proof.Finite.lean ====
module

public import proofs.«01_k».proof.Pre_queries_and_keys_finite
public import Idealize.ShloMosaic.Lib.Pointwise
public import Idealize.ShloMosaic.Lib.IdealHost

@[expose] public section

set_option maxRecDepth 16384

noncomputable section

/-! The condition on the columns, read over the extended reals. -/

namespace Cert.Attn

open Idealize.ShloMosaic Cert.Pre_queries_and_keys_finite

theorem pre_facts : Cert.Pre_queries_and_keys_finite.Facts where
  bcast_S_S1x1x11264 := by decide
  bitsLt_bf16_f32 := by decide
  bcast_S_S16x2048x11264 := by decide
  bcast_S1x1x11264_S16x2048x11264_0_1_2 := by decide

theorem sge_ofNat (n k : ℕ) (hn : n < 2 ^ 31) (hk : k < 2 ^ 31) :
    IntOp.cmpi .sge (BitVec.ofNat 32 n) (BitVec.ofNat 32 k) = BitVec.ofBool (decide (k ≤ n)) := by
  have e : (BitVec.ofNat 32 k).sle (BitVec.ofNat 32 n) = decide (k ≤ n) := by
    rw [BitVec.sle_eq_decide, BitVec.toInt_eq_toNat_of_lt, BitVec.toInt_eq_toNat_of_lt]
    · simp only [BitVec.toNat_ofNat, Nat.mod_eq_of_lt (show n < 2 ^ 32 by omega), Nat.mod_eq_of_lt (show k < 2 ^ 32 by omega)]
      simp
    · simp only [BitVec.toNat_ofNat, Nat.mod_eq_of_lt (show n < 2 ^ 32 by omega)]; omega
    · simp only [BitVec.toNat_ofNat, Nat.mod_eq_of_lt (show k < 2 ^ 32 by omega)]; omega
  exact congrArg BitVec.ofBool e

theorem slt_ofNat (n k : ℕ) (hn : n < 2 ^ 31) (hk : k < 2 ^ 31) :
    IntOp.cmpi .slt (BitVec.ofNat 32 n) (BitVec.ofNat 32 k) = BitVec.ofBool (decide (n < k)) := by
  have e : (BitVec.ofNat 32 n).slt (BitVec.ofNat 32 k) = decide (n < k) := by
    rw [BitVec.slt_eq_decide, BitVec.toInt_eq_toNat_of_lt, BitVec.toInt_eq_toNat_of_lt]
    · simp only [BitVec.toNat_ofNat, Nat.mod_eq_of_lt (show n < 2 ^ 32 by omega), Nat.mod_eq_of_lt (show k < 2 ^ 32 by omega)]
      simp
    · simp only [BitVec.toNat_ofNat, Nat.mod_eq_of_lt (show k < 2 ^ 32 by omega)]; omega
    · simp only [BitVec.toNat_ofNat, Nat.mod_eq_of_lt (show n < 2 ^ 32 by omega)]; omega
  exact congrArg BitVec.ofBool e

/-- Below infinity in absolute value is a real number. -/
theorem real_of_abs_lt (x : EReal) (h : max x (-x) < ⊤) : ∃ r : ℝ, x = (r : EReal) := by
  induction x with
  | bot => exact absurd h (by simp)
  | coe r => exact ⟨r, rfl⟩
  | top => exact absurd h (by simp)

theorem of_ori (p : Prop) {dp : Decidable p} (h : IntOp.ori (BitVec.ofBool (@decide p dp)) (~~~1#1) = 1#1) : p := by
  by_contra hn
  rw [decide_eq_false hn] at h
  exact absurd h (by decide)

theorem real_of_fn [Cert.Pre_queries_and_keys_finite.Facts] (a : FVec Ideal S16x2048x11264 .bf16)
    (h : fn (F := Ideal) a = fun _ => 1#1) (b : Fin 16) (i : Fin 2048) (e : Fin 11264)
    (he : (4096 ≤ e.val ∧ e.val < 5120) ∨ (10240 ≤ e.val ∧ e.val < 10496)) :
    ∃ r : ℝ, a (ix3 b i e) = (r : EReal) := by
  have hb := congrFun h (ix3 b i e)
  revert hb
  unfold fn
  pointwise []
  rw [sge_ofNat _ _ (by omega) (by omega), sge_ofNat _ _ (by omega) (by omega), slt_ofNat _ _ (by omega) (by omega),
    slt_ofNat _ _ (by omega) (by omega)]
  have hin : IntOp.ori (IntOp.andi (BitVec.ofBool (decide (4096 ≤ e.val))) (BitVec.ofBool (decide (e.val < 5120))))
      (IntOp.andi (BitVec.ofBool (decide (10240 ≤ e.val))) (BitVec.ofBool (decide (e.val < 10496)))) = 1#1 := by
    rcases he with ⟨h1, h2⟩ | ⟨h1, h2⟩
    · rw [decide_eq_true h1, decide_eq_true h2]
      cases decide (10240 ≤ e.val) <;> cases decide (e.val < 10496) <;> rfl
    · rw [decide_eq_true h1, decide_eq_true h2]
      cases decide (4096 ≤ e.val) <;> cases decide (e.val < 5120) <;> rfl
  rw [hin]
  intro hb
  refine real_of_abs_lt _ ?_
  exact of_ori _ hb

end Cert.Attn

end
-- ==== Proof.ProjFinite.lean ====
module

public import proofs.«01_k».proof.Pre_rotated_products_finite
public import proofs.«01_k».proof.Proof.Finite
public import proofs.«01_k».proof.Proof.Weights

@[expose] public section

set_option maxRecDepth 16384

noncomputable section

/-! The condition on the projection's arguments, read over the extended reals. -/

namespace Cert.Proj

open Idealize.ShloMosaic Cert.Pre_rotated_products_finite

theorem pre_facts : Cert.Pre_rotated_products_finite.Facts where
  bcast_S_S1x11008 := by decide
  bitsLt_bf16_f32 := by decide
  bcast_S_S16x2048x2048 := by decide
  bcast_S_S2048x11008 := by decide
  bcast_S1x11008_S2048x11008_0_1 := by decide

theorem of_bool (p : Prop) {dp : Decidable p} (h : BitVec.ofBool (@decide p dp) = 1#1) : p := by
  by_contra hn
  rw [decide_eq_false hn] at h
  exact absurd h (by decide)

variable [Cert.Pre_rotated_products_finite.Facts] (a0 : FVec Ideal S16x2048x2048 .bf16) (a1 : FVec Ideal S2048x11008 .f32)
  (a2 : FVec Ideal S2x3328 .f32) (a3 a4 : FVec Ideal S64 .f32)

theorem real_rows (h : (fn (F := Ideal) a0 a1 a2 a3 a4).1 = fun _ => 1#1) (b : Fin 16) (i k : Fin 2048) :
    ∃ r : ℝ, a0 (ix3 b i k) = (r : EReal) := by
  have hb := congrFun h (ix3 b i k)
  revert hb
  unfold fn
  pointwise []
  intro hb
  exact Cert.Attn.real_of_abs_lt _ (of_bool _ hb)

theorem real_columns (h : (fn (F := Ideal) a0 a1 a2 a3 a4).2 = fun _ => 1#1) (k : Fin 2048) (e : Fin 11008)
    (he : 4352 ≤ e.val ∧ e.val < 5632) : ∃ r : ℝ, a1 (ix2 k e) = (r : EReal) := by
  have hb := congrFun h (ix2 k e)
  revert hb
  unfold fn
  pointwise []
  rw [Cert.Attn.sge_ofNat _ _ (by omega) (by omega), Cert.Attn.slt_ofNat _ _ (by omega) (by omega)]
  have hin : IntOp.andi (BitVec.ofBool (decide (4352 ≤ e.val))) (BitVec.ofBool (decide (e.val < 5632))) = 1#1 := by
    rw [decide_eq_true he.1, decide_eq_true he.2]
    rfl
  rw [hin]
  intro hb
  exact Cert.Attn.real_of_abs_lt _ (Cert.Attn.of_ori _ hb)

omit [Cert.Pre_rotated_products_finite.Facts] in
/-- A sum of products of real numbers is a real number. -/
theorem real_sum (x y : Fin 2048 → EReal) (hx : ∀ k, ∃ r : ℝ, x k = (r : EReal)) (hy : ∀ k, ∃ r : ℝ, y k = (r : EReal)) :
    ∃ r : ℝ, ∑ k : Fin 2048, x k * y k = (r : EReal) := by
  choose u hu using hx
  choose v hv using hy
  refine ⟨∑ k, u k * v k, ?_⟩
  rw [← Cert.Attn.sum_real]
  exact Finset.sum_congr rfl fun k _ => by rw [hu, hv, EReal.coe_mul]

end Cert.Proj

end
-- ==== Proof.Project.lean ====
module

public import proofs.«01_k».proof.Defs
public import proofs.«01_k».proof.Proof.ProjPrep
public import proofs.«01_k».proof.Proof.ProjRef
public import proofs.«01_k».proof.Proof.ProjFinite
public import Idealize.ShloMosaic.Lib.Quiescent

@[expose] public section

set_option maxRecDepth 16384

noncomputable section

/-! Kernel and reference give one projection. -/

namespace Cert.Proj

open Idealize.ShloMosaic Idealize.SL.Sem Cert.Kernel2Ideal

theorem reference_run (m : (ℓ : Loc Cert.Reference2Ideal.nD Cert.Reference2Ideal.τ Cert.Reference2Ideal.sig) → Buf (Elt Ideal) ℓ)
    (ρ : Dev Cert.Reference2Ideal.nD → PrngReg) :
    θ_run (Cert.Reference2Ideal.defs (F := Ideal)) (onTc (τ := Cert.Reference2Ideal.τ) (Cert.Reference2Ideal.main (F := Ideal)))
      ⟨m, fun _ => 0, ρ⟩ (fun r => (∀ c : Dev Cert.Reference2Ideal.nD,
        r.2.mem ((c.tc : Thread Cert.Reference2Ideal.nD Cert.Reference2Ideal.τ).loc Cert.Reference2Ideal.main_arg0)
          = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1)
          = m ((c.tc : Thread Cert.Reference2Ideal.nD Cert.Reference2Ideal.τ).loc Cert.Reference2Ideal.main_arg1)
        ∧ r.2.mem ((c.tc : Thread Cert.Reference2Ideal.nD Cert.Reference2Ideal.τ).loc Cert.Reference2Ideal.main_arg2)
          = m ((c.tc : Thread Cert.Reference2Ideal.nD Cert.Reference2Ideal.τ).loc Cert.Reference2Ideal.main_arg2)
        ∧ r.2.mem ((c.tc : Thread Cert.Reference2Ideal.nD Cert.Reference2Ideal.τ).loc Cert.Reference2Ideal.main_arg3)
          = m ((c.tc : Thread Cert.Reference2Ideal.nD Cert.Reference2Ideal.τ).loc Cert.Reference2Ideal.main_arg3)
        ∧ r.2.mem ((c.tc : Thread Cert.Reference2Ideal.nD Cert.Reference2Ideal.τ).loc Cert.Reference2Ideal.main_arg4)
          = m ((c.tc : Thread Cert.Reference2Ideal.nD Cert.Reference2Ideal.τ).loc Cert.Reference2Ideal.main_arg4))
        ∧ r.2.sem = fun _ => 0) :=
  (θ_run Cert.Reference2Ideal.defs _ _).mono (fun r h => ⟨fun c => (h c).2.2, sem_eq_zero_of_no_sems (by decide) r.2⟩)
    (Cert.Reference2Ideal.Value.run (F := Ideal) m ρ)

instance pre : Cert.Pre_rotated_products_finite.Facts := pre_facts

variable (m : (ℓ : Loc nD τ sig) → Buf (Elt Ideal) ℓ) (c : Dev nD)

/-- The product of the weights as they are given. -/
abbrev wholeArr : FVec Ideal Cert.Reference2Ideal.S16x2048x11008 .f32 := ProjRef.whole (rowArr m c) (weightArg m c)

/-- The columns of the product in the order of the projection. -/
abbrev orderedProduct (b : Fin 16) : Fin 2048 → Fin 11264 → EReal :=
  mul (fun i k => rowArr m c (ix3 b i k)) (fun k e => colArr m c (ix2 k e))

theorem sees (b : Fin 16) : ProjRef.Sees (wholeArr m c) b (orderedProduct m c b) := fun r e h =>
  (ProjRef.whole_apply _ _ b r e h).trans
    (Finset.sum_congr rfl fun k _ => congrArg (fun z : EReal => rowArr m c (ix3 b r k) * z) (colArr_apply m c k e).symm)

theorem behind (b : Fin 16) (i : Fin 2048) (e : Fin 11264) (h : 11008 ≤ e.val) : orderedProduct m c b i e = 0 :=
  Finset.sum_eq_zero fun k _ => by
    show rowArr m c (ix3 b i k) * colArr m c (ix2 k e) = 0
    rw [colArr_apply]
    unfold placed
    rw [dif_neg (by omega), mul_zero]

theorem shifts_placed : (fun (a : Fin 2) (e : Fin 11264) => placed (zeroBehind fun j => shiftArg m c (ix2 a j)) e)
    = fun a e => muArr m c (ix2 a e) := funext fun a => funext fun e => (muArr_apply m c a e).symm

theorem gains_placed : gainsAt (fun d => qArg m c (ix1 d)) (fun d => kArg m c (ix1 d))
    = fun e => gainArr m c (ix2 0 e) := funext fun e => (gainArr_apply m c e).symm

theorem reference_all : ProjRef.packed (ProjRef.joined (wholeArr m c)
      (ProjRef.moved (ProjRef.movedCols (wholeArr m c)) (shiftArg m c))
      (ProjRef.heads (ProjRef.headCols (wholeArr m c)) (ProjRef.headGains (qArg m c) (kArg m c))
        (Host.cos (ProjRef.angles ProjRef.gridRow ProjRef.gridCol)) (Host.sin (ProjRef.angles ProjRef.gridRow ProjRef.gridCol))))
      = projArr m c := by
  refine funext fun (y : S16x2048x11264.Idx) => ?_
  rw [← cosArr_eq m c, ← sinArr_eq m c]
  refine (congrArg _ (triple_eq y)).trans ((ProjRef.all_apply _ _ _ _ _ _ (y 0) (y 1) (y 2) _ (sees m c (y 0))
    (behind m c (y 0) (y 1) (y 2))).trans ?_)
  rw [gains_placed]
  exact congrArg (fun z => entry _ z _ _ _ _ _) (shifts_placed m c)

theorem lora_entry (b : Fin 16) (i : Fin 2048) (j : Fin 256) (e : Fin 11264) (he : e.val = 10752 + j.val) :
    ProjRef.lora (ProjRef.moved (ProjRef.movedCols (wholeArr m c)) (shiftArg m c)) (ix3 b i j)
      = shiftedAt (orderedProduct m c b) (fun a e => muArr m c (ix2 a e)) i e := by
  rw [ProjRef.lora_apply _ _ b _ (sees m c b) i j e he]
  exact congrArg (fun z => shiftedAt (orderedProduct m c b) z i e) (shifts_placed m c)

theorem reference_lora : ProjRef.lora (ProjRef.moved (ProjRef.movedCols (wholeArr m c)) (shiftArg m c)) = keptArr m c :=
  funext fun (y : S16x2048x256.Idx) => (congrArg _ (triple_eq y)).trans (lora_entry m c (y 0) (y 1) (y 2) _ rfl)

theorem real_heads (hpre : (∀ b i k, ∃ r : ℝ, rowArr m c (ix3 b i k) = (r : EReal))
    ∧ ∀ (k : Fin 2048) (e : Fin 11008), 4352 ≤ e.val ∧ e.val < 5632 → ∃ r : ℝ, weightArg m c (ix2 k e) = (r : EReal)) :
    RealHeads m c := fun b i e he => real_sum _ _ (fun k => hpre.1 b i k) fun k => by
  unfold IsHead at he
  show ∃ r : ℝ, colArr m c (ix2 k e) = (r : EReal)
  rw [colArr_apply]
  unfold placed
  rw [dif_pos (by omega)]
  refine hpre.2 k _ ?_
  show 4352 ≤ sourceVal e.val ∧ sourceVal e.val < 5632
  unfold sourceVal
  split_ifs <;> omega

theorem projection : algebraic_Kernel2Ideal_Reference2Ideal_pre_rotated_products_finite := by
  intro m ρ m' ρ' hpre hagree
  refine ⟨_, _, Cert.Kernel2Ideal.Value.run_blocks (F := Ideal) m ρ, ?_⟩
  refine (θ_run Cert.Reference2Ideal.defs _ _).mono (fun _ h c => ⟨?_, ?_, (h c).2.2⟩)
    (Cert.Reference2Ideal.Value.run (F := Ideal) m' ρ')
  · have hr : RealHeads m c := real_heads m c ⟨real_rows _ _ _ _ _ (hpre c).1, real_columns _ _ _ _ _ (hpre c).2⟩
    refine (h c).1.trans ((ProjRef.result0_eq m' c).trans ?_)
    rw [(hagree c).1, (hagree c).2.1, (hagree c).2.2.1, (hagree c).2.2.2.1, (hagree c).2.2.2.2]
    exact (reference_all m c).trans (proj_array m c hr).symm
  · refine (h c).2.1.trans ?_
    rw [(hagree c).1, (hagree c).2.1, (hagree c).2.2.1]
    exact (reference_lora m c).trans (kept_array m c).symm

end Cert.Proj

end
-- ==== Proof.PostDefs.lean ====
module

public import proofs.«01_k».proof.Kernel3Ideal
public import proofs.«01_k».proof.Proof.Gen.Kernel3Ideal.Frame.Runs
public import proofs.«01_k».proof.Proof.ProjDefs

@[expose] public section

set_option maxRecDepth 16384

noncomputable section

/-! The block of rows that one grid point of the merge stores, as an expression of the blocks it loads. -/

namespace Cert.Post

open Idealize.ShloMosaic Cert.Kernel3Ideal Cert.Kernel3Ideal.Facts₀

variable {F : FTy → Type} [FloatOps F]

/-! ## The group norm -/

theorem slicesGroup (q : Fin 4) : S256x1024.Slices ![0, 256 * q.val] S256x256 := by revert q; decide

/-- Four heads out of the sixteen. -/
def group (q : Fin 4) (y : FVec F S256x1024 .f32) : FVec F S256x256 .f32 :=
  extractStridedSlice S256x256 ![0, 256 * q.val] y (slicesGroup q)

/-- The product with the mask of equal heads. -/
def headProduct (s : FVec F S256x256 .bf16) : FVec F S256x256 .f32 :=
  matmul dot_S256x256_S256x256_S256x256_1_0_0_1_n_n none s Cert.Proj.sameHead (constant S256x256 .f32 0x00000000#32)

/-- The mean of each head, from two parts. -/
def means (s : FVec F S256x256 .f32) : FVec F S256x256 .f32 :=
  mulf (addf (headProduct (truncf .bf16 s bitsLt_bf16_f32))
      (headProduct (truncf .bf16 (subf s (extf .f32 (truncf .bf16 s bitsLt_bf16_f32) bitsLt_bf16_f32)) bitsLt_bf16_f32)))
    (broadcast S256x256 (Scalar.ofBits .f32 0x3C800000#32))

def centres (s : FVec F S256x256 .f32) : FVec F S256x256 .f32 := subf s (means s)

def groupNorms (s : FVec F S256x256 .f32) : FVec F S256x256 .f32 :=
  mulf (centres s) (rsqrt (addf (means (mulf (centres s) (centres s))) (broadcast S256x256 (Scalar.ofBits .f32 0x3A27C5AC#32))))

/-- All sixteen heads. -/
def headNorms (y : FVec F S256x1024 .f32) : FVec F S256x1024 .f32 :=
  concatenate S256x1024 1 [⟨S256x256, groupNorms (group 0 y)⟩, ⟨S256x256, groupNorms (group 1 y)⟩,
    ⟨S256x256, groupNorms (group 2 y)⟩, ⟨S256x256, groupNorms (group 3 y)⟩]
    concatenates_S256x256_S256x256_S256x256_S256x256_S256x1024_d1

/-! ## The two branches -/

def wide (v : Vec F S256x1024 .bf16) : FVec F S256x1024 .f32 :=
  extf .f32 (shapeCast S256x1024 v shapeCasts_S256x1024_S256x1024) bitsLt_bf16_f32

def gates (v : Vec F S256x1024 .bf16) : FVec F S256x1024 .f32 := mulf (wide v) (logistic (wide v))

def row1024 (v : Vec F S1x1024 .f32) : FVec F S256x1024 .f32 :=
  broadcastTo S256x1024 (shapeCast S1x1024 v shapeCasts_S1x1024_S1x1024) broadcasts_S1x1024_S256x1024

def recurrences (vf vb vc vz : Vec F S256x1024 .bf16) (gw gb : Vec F S1x1024 .f32) : FVec F S256x1024 .f32 :=
  mulf (addf (addf (mulf (headNorms (addf (wide vf) (wide vb))) (row1024 gw)) (row1024 gb)) (wide vc)) (gates vz)

def attentions (va vz : Vec F S256x1024 .bf16) : FVec F S256x1024 .f32 := mulf (wide va) (gates vz)

/-- A branch under its weights. -/
def branch (y : FVec F S256x1024 .f32) (w : Vec F S1024x2048 .bf16) : FVec F S256x2048 .f32 :=
  matmul dot_S256x1024_S1024x2048_S256x2048_1_0_0_1_n_n none (truncf .bf16 y bitsLt_bf16_f32)
    (shapeCast S1024x2048 w shapeCasts_S1024x2048_S1024x2048) (constant S256x2048 .f32 0x00000000#32)

def gateOf (v : Vec F S256x2048 .bf16) : FVec F S256x2048 .f32 :=
  logistic (extf .f32 (shapeCast S256x2048 v shapeCasts_S256x2048_S256x2048) bitsLt_bf16_f32)

def mergedRows (p q : FVec F S256x2048 .f32) (vr va : Vec F S256x2048 .bf16) : FVec F S256x2048 .f32 :=
  addf (mulf (gateOf vr) p) (mulf (gateOf va) q)

/-! ## The output -/

def summedRows (vx : Vec F S256x2048 .f32) (y : FVec F S256x2048 .f32) (w : Vec F S2048x2048 .bf16) : FVec F S256x2048 .f32 :=
  addf (shapeCast S256x2048 vx shapeCasts_S256x2048_S256x2048)
    (matmul dot_S256x2048_S2048x2048_S256x2048_1_0_0_1_n_n none (truncf .bf16 y bitsLt_bf16_f32)
      (shapeCast S2048x2048 w shapeCasts_S2048x2048_S2048x2048) (constant S256x2048 .f32 0x00000000#32))

def lastScales (y : FVec F S256x2048 .f32) : FVec F S256x1 .f32 :=
  rsqrt (addf (divf (shapeCast S256x1 (multiReduction .add [1] S256 (mulf y y) 0x00000000#32 reduces_S256x2048_S256 (.inl rfl) rfl)
      shapeCasts_S256_S256x1) (broadcast S256x1 (Scalar.ofBits .f32 0x45000000#32)))
    (broadcast S256x1 (Scalar.ofBits .f32 0x358637BD#32)))

def lastRows (y : FVec F S256x2048 .f32) (g : Vec F S1x2048 .f32) : FVec F S256x2048 .f32 :=
  mulf (mulf y (broadcastTo S256x2048 (lastScales y) broadcasts_S256x1_S256x2048))
    (broadcastTo S256x2048 (shapeCast S1x2048 g shapeCasts_S1x2048_S1x2048) broadcasts_S1x2048_S256x2048)

/-- The stored block. -/
def block (x0 : Vec F S256x2048 .f32) (x1 x2 x3 x4 x5 x6 : Vec F S256x1024 .bf16) (x7 x8 : Vec F S256x2048 .bf16)
    (x9 x10 : Vec F S1x1024 .f32) (x11 x12 : Vec F S1024x2048 .bf16) (x13 : Vec F S2048x2048 .bf16) (x14 : Vec F S1x2048 .f32) :
    FVec F S256x2048 .f32 :=
  lastRows (summedRows x0 (mergedRows (branch (recurrences x1 x2 x3 x4 x9 x10) x11) (branch (attentions x5 x6) x12) x7 x8) x13) x14

/-- A block loaded whole. -/
def loaded {n k : ℕ} {e : EltTy} (a : Memref sig .tc .vmem ⟨2, ![n, k]⟩ e) (ha : a.IsWhole) (x : Vec F ⟨2, ![n, k]⟩ e)
    (h : ∀ z, (![0, 0] : Fin 2 → ℕ) z + (![n, k] : Fin 2 → ℕ) z ≤ (![n, k] : Fin 2 → ℕ) z) : Vec F ⟨2, ![n, k]⟩ e :=
  View.readAt (Elt F) a.view (Rect.unit (s := ⟨2, ![n, k]⟩) ![0, 0] ![n, k] h).toLoadRect (ha.unread x)

theorem loaded_eq {n k : ℕ} {e : EltTy} (a : Memref sig .tc .vmem ⟨2, ![n, k]⟩ e) (ha : a.IsWhole) (x : Vec F ⟨2, ![n, k]⟩ e)
    (h : ∀ z, (![0, 0] : Fin 2 → ℕ) z + (![n, k] : Fin 2 → ℕ) z ≤ (![n, k] : Fin 2 → ℕ) z) : loaded a ha x h = x := by
  funext y
  unfold loaded
  rw [View.readAt_apply, ha.read_unread]
  refine congrArg x (funext fun z => Fin.ext ?_)
  match z with
  | 0 => show 0 + 1 * (y 0).val = (y 0).val; omega
  | 1 => show 0 + 1 * (y 1).val = (y 1).val; omega

end Cert.Post

end
-- ==== Proof.PostRun.lean ====
module

public import proofs.«01_k».proof.Proof.PostDefs
public import proofs.«01_k».proof.Proof.Gen.Kernel3Ideal.Frame
public import Idealize.ShloMosaic.Lib.Tactic
public import Idealize.ShloMosaic.Lib.Pipeline.ValueKit.Basic

@[expose] public section

set_option maxRecDepth 16384

noncomputable section

/-! What one grid point of the merge leaves in its block. -/

namespace Cert.Post

open Idealize.ShloMosaic Cert.Kernel3Ideal Cert.Kernel3Ideal.Gen

variable {F : FTy → Type} [FloatOps F] (c : Dev nD) (i : grid0.Coords)
    (arg1 : Memref sig .tc .vmem S256x2048 .f32) (harg1 : arg1.IsWhole)
    (arg2 : Memref sig .tc .vmem S256x1024 .bf16) (harg2 : arg2.IsWhole)
    (arg3 : Memref sig .tc .vmem S256x1024 .bf16) (harg3 : arg3.IsWhole)
    (arg4 : Memref sig .tc .vmem S256x1024 .bf16) (harg4 : arg4.IsWhole)
    (arg5 : Memref sig .tc .vmem S256x1024 .bf16) (harg5 : arg5.IsWhole)
    (arg6 : Memref sig .tc .vmem S256x1024 .bf16) (harg6 : arg6.IsWhole)
    (arg7 : Memref sig .tc .vmem S256x1024 .bf16) (harg7 : arg7.IsWhole)
    (arg8 : Memref sig .tc .vmem S256x2048 .bf16) (harg8 : arg8.IsWhole)
    (arg9 : Memref sig .tc .vmem S256x2048 .bf16) (harg9 : arg9.IsWhole)
    (arg10 : Memref sig .tc .vmem S1x1024 .f32) (harg10 : arg10.IsWhole)
    (arg11 : Memref sig .tc .vmem S1x1024 .f32) (harg11 : arg11.IsWhole)
    (arg12 : Memref sig .tc .vmem S1024x2048 .bf16) (harg12 : arg12.IsWhole)
    (arg13 : Memref sig .tc .vmem S1024x2048 .bf16) (harg13 : arg13.IsWhole)
    (arg14 : Memref sig .tc .vmem S2048x2048 .bf16) (harg14 : arg14.IsWhole)
    (arg15 : Memref sig .tc .vmem S1x2048 .f32) (harg15 : arg15.IsWhole)
    (arg16 : Memref sig .tc .vmem S256x2048 .f32) (harg16 : arg16.IsWhole)
    (x0 : Vec F S256x2048 .f32) (x1 : Vec F S256x1024 .bf16) (x2 : Vec F S256x1024 .bf16) (x3 : Vec F S256x1024 .bf16) (x4 : Vec F S256x1024 .bf16) (x5 : Vec F S256x1024 .bf16) (x6 : Vec F S256x1024 .bf16) (x7 : Vec F S256x2048 .bf16) (x8 : Vec F S256x2048 .bf16) (x9 : Vec F S1x1024 .f32) (x10 : Vec F S1x1024 .f32) (x11 : Vec F S1024x2048 .bf16) (x12 : Vec F S1024x2048 .bf16) (x13 : Vec F S2048x2048 .bf16) (x14 : Vec F S1x2048 .f32)

theorem pieces :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14).1
      = [⟨Rect.unit ![0, 0] S256x2048.size inb_S256x2048_S256x2048_0_0,
          block (loaded arg1 harg1 x0 inb_S256x2048_S256x2048_0_0) (loaded arg2 harg2 x1 inb_S256x1024_S256x1024_0_0) (loaded arg3 harg3 x2 inb_S256x1024_S256x1024_0_0) (loaded arg4 harg4 x3 inb_S256x1024_S256x1024_0_0) (loaded arg5 harg5 x4 inb_S256x1024_S256x1024_0_0) (loaded arg6 harg6 x5 inb_S256x1024_S256x1024_0_0) (loaded arg7 harg7 x6 inb_S256x1024_S256x1024_0_0) (loaded arg8 harg8 x7 inb_S256x2048_S256x2048_0_0) (loaded arg9 harg9 x8 inb_S256x2048_S256x2048_0_0) (loaded arg10 harg10 x9 inb_S1x1024_S1x1024_0_0) (loaded arg11 harg11 x10 inb_S1x1024_S1x1024_0_0) (loaded arg12 harg12 x11 inb_S1024x2048_S1024x2048_0_0) (loaded arg13 harg13 x12 inb_S1024x2048_S1024x2048_0_0) (loaded arg14 harg14 x13 inb_S2048x2048_S2048x2048_0_0) (loaded arg15 harg15 x14 inb_S1x2048_S1x2048_0_0)⟩] := by
  sl_kernel_rfl

theorem out_eq :
    out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14
      = block x0 x1 x2 x3 x4 x5 x6 x7 x8 x9 x10 x11 x12 x13 x14 := by
  refine (View.read_writes_junk_eq_canon _ _).trans ((congrArg View.canon (pieces c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 x12 x13 x14)).trans ?_)
  simp only [loaded_eq]
  exact View.canon_cons_unit_zero (S := S256x2048) (e := .f32) (funext fun z => by
    match z with
    | 0 => rfl
    | 1 => rfl) inb_S256x2048_S256x2048_0_0 _ []

end Cert.Post

end
-- ==== Proof.PostSpec.lean ====
module

public import Idealize.ShloMosaic.PureOps.Ideal.Laws
public import Mathlib.Analysis.SpecialFunctions.Pow.Real

@[expose] public section

noncomputable section

/-! The merge of the two branches over the extended reals, one row at a time: the group norm of the recurrence, the
gates, the branch products, the merge, the output product and the last norm. No program is in it. -/

namespace Cert.Post

open Idealize.ShloMosaic

/-- The small number below the root of the group norm. -/
def groupEps : EReal := Ideal.ofBits .f32 0x3A27C5AC#32

/-- The small number below the root of the last norm. -/
def lastEps : EReal := Ideal.ofBits .f32 0x358637BD#32

/-- A head less its mean. -/
def centred (f : Fin 64 → EReal) (d : Fin 64) : EReal := f d - (∑ c : Fin 64, f c) * (((1 : ℝ) / 64 : ℝ) : EReal)

/-- A head brought to mean zero and unit variance. -/
def groupNormed (f : Fin 64 → EReal) (d : Fin 64) : EReal :=
  centred f d * Ideal.rsqrt ((∑ c : Fin 64, centred f c * centred f c) * (((1 : ℝ) / 64 : ℝ) : EReal) + groupEps)

/-- A number times its own gate. -/
def gated (z : EReal) : EReal := z * Ideal.logistic z

/-- A lane of the head a column lies in. -/
def lane (e : Fin 1024) (d : Fin 64) : Fin 1024 := ⟨64 * (e.val / 64) + d.val, by omega⟩

variable (x : Fin 2048 → EReal) (f b cv zr at' za : Fin 1024 → EReal) (gr ga : Fin 2048 → EReal)
  (gw gb : Fin 1024 → EReal) (wr wa : Fin 1024 → Fin 2048 → EReal) (wo : Fin 2048 → Fin 2048 → EReal)
  (fg : Fin 2048 → EReal)

/-- The two recurrences added, normed by head, with the current value added, gated. -/
def recurrence (e : Fin 1024) : EReal :=
  (groupNormed (fun d => f (lane e d) + b (lane e d)) ⟨e.val % 64, Nat.mod_lt _ (by decide)⟩ * gw e + gb e + cv e) * gated (zr e)

/-- The attention, gated. -/
def attended (e : Fin 1024) : EReal := at' e * gated (za e)

/-- The two branches merged. -/
def merged (k : Fin 2048) : EReal :=
  Ideal.logistic (gr k) * (∑ e : Fin 1024, recurrence f b cv zr gw gb e * wr e k)
    + Ideal.logistic (ga k) * (∑ e : Fin 1024, attended at' za e * wa e k)

/-- The row with the output product added. -/
def summed (j : Fin 2048) : EReal :=
  x j + ∑ k : Fin 2048, merged f b cv zr at' za gr ga gw gb wr wa k * wo k j

/-- A row brought to unit mean square. -/
def lastNormed (y : Fin 2048 → EReal) (j : Fin 2048) : EReal :=
  y j * Ideal.rsqrt (Ideal.div (∑ k : Fin 2048, y k * y k) (Ideal.ofBits .f32 0x45000000#32) + lastEps) * fg j

/-- One entry of the result. -/
def entry (j : Fin 2048) : EReal :=
  lastNormed fg (summed x f b cv zr at' za gr ga gw gb wr wa wo) j

end Cert.Post

end
-- ==== Proof.PostReads.lean ====
module

public import proofs.«01_k».proof.Proof.PostDefs
public import proofs.«01_k».proof.Proof.PostSpec
public import proofs.«01_k».proof.Proof.ProjReads
public import Idealize.ShloMosaic.Lib.Pointwise
public import Idealize.ShloMosaic.Lib.KernelVsHost

@[expose] public section

set_option maxRecDepth 16384

noncomputable section

/-! The stored block of the merge read at an index over the extended reals. -/

namespace Cert.Post

open Idealize.ShloMosaic Cert.Kernel3Ideal Cert.Kernel3Ideal.Facts₀

/-! ## The group norm -/

theorem group_apply (q : Fin 4) (y : FVec Ideal S256x1024 .f32) (i b : Fin 256) :
    group q y (ix2 i b) = y (ix2 i ⟨256 * q.val + b.val, by omega⟩) := by
  pointwise [group]

theorem headProduct_apply (s : FVec Ideal S256x256 .bf16) (i b : Fin 256) :
    headProduct s (ix2 i b) = ∑ d : Fin 64, s (ix2 i ⟨64 * (b.val / 64) + d.val, by omega⟩) := by
  have e1 : headProduct s (ix2 i b)
      = ∑ c : Fin 256, s (ix2 i c) * (Cert.Proj.sameHead : FVec Ideal S256x256 .bf16) (ix2 c b) := by
    pointwise [headProduct]
  rw [e1]
  simp only [Cert.Proj.sameHead_apply]
  exact Cert.Proj.sum_head (fun c => s (ix2 i c)) b

theorem means_apply (s : FVec Ideal S256x256 .f32) (i b : Fin 256) (hs : ∀ c, ∃ r : ℝ, s (ix2 i c) = (r : EReal)) :
    means s (ix2 i b) = (∑ d : Fin 64, s (ix2 i ⟨64 * (b.val / 64) + d.val, by omega⟩)) * (((1 : ℝ) / 64 : ℝ) : EReal) := by
  have e1 : means s (ix2 i b) = (headProduct (truncf .bf16 s bitsLt_bf16_f32) (ix2 i b)
      + headProduct (truncf .bf16 (subf s (extf .f32 (truncf .bf16 s bitsLt_bf16_f32) bitsLt_bf16_f32)) bitsLt_bf16_f32) (ix2 i b))
        * Ideal.ofBits .f32 0x3C800000#32 := by
    pointwise [means]
  have e2 : ∀ c : Fin 256, (truncf .bf16 s bitsLt_bf16_f32) (ix2 i c) = s (ix2 i c) := fun c => by pointwise []
  have e3 : ∀ c : Fin 256, (truncf .bf16 (subf s (extf .f32 (truncf .bf16 s bitsLt_bf16_f32) bitsLt_bf16_f32)) bitsLt_bf16_f32)
      (ix2 i c) = 0 := fun c => by
    obtain ⟨r, hr⟩ := hs c
    pointwise []
    rw [hr, ← EReal.coe_sub, sub_self, EReal.coe_zero]
  rw [e1, headProduct_apply, headProduct_apply, Cert.Proj.sixty_fourth]
  simp only [e2, e3, Finset.sum_const_zero, add_zero]

/-- A sum of real numbers is a real number. -/
theorem sum_is_real (f : Fin 64 → EReal) (hf : ∀ d, ∃ r : ℝ, f d = (r : EReal)) : ∃ r : ℝ, ∑ d : Fin 64, f d = (r : EReal) := by
  choose u hu using hf
  exact ⟨∑ d, u d, by rw [← Cert.Attn.sum_real]; exact Finset.sum_congr rfl fun d _ => hu d⟩

theorem centred_is_real (f : Fin 64 → EReal) (hf : ∀ d, ∃ r : ℝ, f d = (r : EReal)) (d : Fin 64) :
    ∃ r : ℝ, centred f d = (r : EReal) := by
  obtain ⟨u, hu⟩ := sum_is_real f hf
  obtain ⟨v, hv⟩ := hf d
  exact ⟨v - u * (1 / 64), by unfold centred; rw [hu, hv, EReal.coe_sub, EReal.coe_mul]⟩

/-- The head that a column of four heads lies in. -/
def headOf (s : FVec Ideal S256x256 .f32) (i b : Fin 256) (d : Fin 64) : EReal := s (ix2 i ⟨64 * (b.val / 64) + d.val, by omega⟩)

theorem centres_apply (s : FVec Ideal S256x256 .f32) (i b : Fin 256) (hs : ∀ c, ∃ r : ℝ, s (ix2 i c) = (r : EReal)) :
    centres s (ix2 i b) = centred (headOf s i b) ⟨b.val % 64, Nat.mod_lt _ (by decide)⟩ := by
  have e1 : centres s (ix2 i b) = s (ix2 i b) - means s (ix2 i b) := by pointwise [centres]
  have hb : (⟨64 * (b.val / 64) + (⟨b.val % 64, Nat.mod_lt _ (by decide)⟩ : Fin 64).val, by dsimp only; omega⟩ : Fin 256) = b :=
    Fin.ext (by dsimp only; omega)
  rw [e1, means_apply s i b hs]
  unfold centred headOf
  rw [hb]

theorem centres_lane (s : FVec Ideal S256x256 .f32) (i b : Fin 256) (hs : ∀ c, ∃ r : ℝ, s (ix2 i c) = (r : EReal)) (d : Fin 64) :
    centres s (ix2 i ⟨64 * (b.val / 64) + d.val, by omega⟩) = centred (headOf s i b) d := by
  rw [centres_apply s i _ hs]
  refine congrArg₂ centred (funext fun c => congrArg s (congrArg (ix2 i) (Fin.ext ?_))) (Fin.ext ?_)
  · show 64 * ((64 * (b.val / 64) + d.val) / 64) + c.val = 64 * (b.val / 64) + c.val
    omega
  · show (64 * (b.val / 64) + d.val) % 64 = d.val
    omega

theorem groupNorms_apply (s : FVec Ideal S256x256 .f32) (i b : Fin 256) (hs : ∀ c, ∃ r : ℝ, s (ix2 i c) = (r : EReal)) :
    groupNorms s (ix2 i b) = groupNormed (headOf s i b) ⟨b.val % 64, Nat.mod_lt _ (by decide)⟩ := by
  have e1 : groupNorms s (ix2 i b) = centres s (ix2 i b)
      * Ideal.rsqrt (means (mulf (centres s) (centres s)) (ix2 i b) + Ideal.ofBits .f32 0x3A27C5AC#32) := by
    pointwise [groupNorms]
  have e2 : ∀ c : Fin 256, mulf (centres s) (centres s) (ix2 i c) = centres s (ix2 i c) * centres s (ix2 i c) := fun c => by
    pointwise []
  rw [e1, means_apply _ i b]
  · simp only [e2, centres_lane s i b hs]
    rw [centres_apply s i b hs]
    rfl
  · intro c
    obtain ⟨r, hr⟩ := centred_is_real (headOf s i c) (fun d => hs _) ⟨c.val % 64, Nat.mod_lt _ (by decide)⟩
    exact ⟨r * r, by rw [e2, centres_apply s i c hs, hr, EReal.coe_mul]⟩

theorem headNorms_group (y : FVec Ideal S256x1024 .f32) (i : Fin 256) (e : Fin 1024) :
    headNorms y (ix2 i e) = groupNorms (group ⟨e.val / 256, by omega⟩ y) (ix2 i ⟨e.val % 256, Nat.mod_lt _ (by decide)⟩) := by
  have he := e.isLt
  have key : ∀ (q : Fin 4) (b : Fin 256), e.val = 256 * q.val + b.val →
      groupNorms (group q y) (ix2 i b)
        = groupNorms (group ⟨e.val / 256, by omega⟩ y) (ix2 i ⟨e.val % 256, Nat.mod_lt _ (by decide)⟩) := fun q b h => by
    have hq : q = ⟨e.val / 256, by omega⟩ := Fin.ext (by dsimp only; omega)
    have hb : b = ⟨e.val % 256, Nat.mod_lt _ (by decide)⟩ := Fin.ext (by dsimp only; omega)
    exact congrArg₂ (fun q b => groupNorms (group q y) (ix2 i b)) hq hb
  pointwise [headNorms]
  by_cases h0 : e.val < 256
  · rw [dif_pos h0]
    exact key 0 ⟨e.val, by omega⟩ (by show e.val = 256 * 0 + e.val; omega)
  rw [dif_neg h0]
  by_cases h1 : e.val - 256 < 256
  · rw [dif_pos h1]
    exact key 1 ⟨e.val - 256, by omega⟩ (by show e.val = 256 * 1 + (e.val - 256); omega)
  rw [dif_neg h1]
  by_cases h2 : e.val - 256 - 256 < 256
  · rw [dif_pos h2]
    exact key 2 ⟨e.val - 256 - 256, by omega⟩ (by show e.val = 256 * 2 + (e.val - 256 - 256); omega)
  rw [dif_neg h2]
  exact key 3 ⟨e.val - 256 - 256 - 256, by omega⟩ (by show e.val = 256 * 3 + (e.val - 256 - 256 - 256); omega)

theorem headNorms_apply (y : FVec Ideal S256x1024 .f32) (i : Fin 256) (e : Fin 1024)
    (hy : ∀ c, ∃ r : ℝ, y (ix2 i c) = (r : EReal)) :
    headNorms y (ix2 i e) = groupNormed (fun d => y (ix2 i (lane e d))) ⟨e.val % 64, Nat.mod_lt _ (by decide)⟩ := by
  rw [headNorms_group, groupNorms_apply _ i _ (fun c => by rw [group_apply]; exact hy _)]
  refine congrArg₂ groupNormed (funext fun d => ?_) (Fin.ext ?_)
  · unfold headOf
    rw [group_apply]
    refine congrArg y (congrArg (ix2 i) (Fin.ext ?_))
    show 256 * (e.val / 256) + (64 * (e.val % 256 / 64) + d.val) = 64 * (e.val / 64) + d.val
    omega
  · show e.val % 256 % 64 = e.val % 64
    omega

/-! ## The two branches -/

theorem wide_apply (v : Vec Ideal S256x1024 .bf16) (i : Fin 256) (e : Fin 1024) : wide v (ix2 i e) = v (ix2 i e) := by
  pointwise [wide]

theorem gates_apply (v : Vec Ideal S256x1024 .bf16) (i : Fin 256) (e : Fin 1024) : gates v (ix2 i e) = gated (v (ix2 i e)) := by
  have e1 : gates v (ix2 i e) = wide v (ix2 i e) * Ideal.logistic (wide v (ix2 i e)) := by pointwise [gates]
  rw [e1, wide_apply]
  rfl

theorem row1024_apply (v : Vec Ideal S1x1024 .f32) (i : Fin 256) (e : Fin 1024) : row1024 v (ix2 i e) = v (ix2 0 e) := by
  pointwise [row1024]

theorem recurrences_apply (vf vb vc vz : Vec Ideal S256x1024 .bf16) (gw gb : Vec Ideal S1x1024 .f32) (i : Fin 256) (e : Fin 1024)
    (hy : ∀ c, ∃ r : ℝ, vf (ix2 i c) + vb (ix2 i c) = (r : EReal)) :
    recurrences vf vb vc vz gw gb (ix2 i e)
      = recurrence (fun e => vf (ix2 i e)) (fun e => vb (ix2 i e)) (fun e => vc (ix2 i e)) (fun e => vz (ix2 i e))
        (fun e => gw (ix2 0 e)) (fun e => gb (ix2 0 e)) e := by
  have e1 : recurrences vf vb vc vz gw gb (ix2 i e)
      = (headNorms (addf (wide vf) (wide vb)) (ix2 i e) * row1024 gw (ix2 i e) + row1024 gb (ix2 i e) + wide vc (ix2 i e))
        * gates vz (ix2 i e) := by
    pointwise [recurrences]
  have e2 : ∀ c : Fin 1024, addf (wide vf) (wide vb) (ix2 i c) = vf (ix2 i c) + vb (ix2 i c) := fun c => by
    rw [show addf (wide vf) (wide vb) (ix2 i c) = wide vf (ix2 i c) + wide vb (ix2 i c) by pointwise [], wide_apply, wide_apply]
  rw [e1, headNorms_apply _ i e (fun c => by rw [e2]; exact hy c), gates_apply, row1024_apply, row1024_apply, wide_apply]
  simp only [e2]
  rfl

theorem attentions_apply (va vz : Vec Ideal S256x1024 .bf16) (i : Fin 256) (e : Fin 1024) :
    attentions va vz (ix2 i e) = attended (fun e => va (ix2 i e)) (fun e => vz (ix2 i e)) e := by
  have e1 : attentions va vz (ix2 i e) = wide va (ix2 i e) * gates vz (ix2 i e) := by pointwise [attentions]
  rw [e1, gates_apply, wide_apply]
  rfl

theorem branch_apply (y : FVec Ideal S256x1024 .f32) (w : Vec Ideal S1024x2048 .bf16) (i : Fin 256) (k : Fin 2048) :
    branch y w (ix2 i k) = ∑ e : Fin 1024, y (ix2 i e) * w (ix2 e k) := by
  pointwise [branch]

theorem mergedRows_apply (p q : FVec Ideal S256x2048 .f32) (vr va : Vec Ideal S256x2048 .bf16) (i : Fin 256) (k : Fin 2048) :
    mergedRows p q vr va (ix2 i k)
      = Ideal.logistic (vr (ix2 i k)) * p (ix2 i k) + Ideal.logistic (va (ix2 i k)) * q (ix2 i k) := by
  pointwise [mergedRows, gateOf]

/-! ## The output -/

theorem summedRows_apply (vx : Vec Ideal S256x2048 .f32) (y : FVec Ideal S256x2048 .f32) (w : Vec Ideal S2048x2048 .bf16)
    (i : Fin 256) (j : Fin 2048) :
    summedRows vx y w (ix2 i j) = vx (ix2 i j) + ∑ k : Fin 2048, y (ix2 i k) * w (ix2 k j) := by
  pointwise [summedRows]

theorem lastScales_apply (y : FVec Ideal S256x2048 .f32) (i : Fin 256) :
    lastScales y (ix2 i 0)
      = Ideal.rsqrt (Ideal.div (∑ k : Fin 2048, y (ix2 i k) * y (ix2 i k)) (Ideal.ofBits .f32 0x45000000#32)
        + Ideal.ofBits .f32 0x358637BD#32) := by
  pointwise [lastScales]

theorem lastRows_apply (y : FVec Ideal S256x2048 .f32) (g : Vec Ideal S1x2048 .f32) (i : Fin 256) (j : Fin 2048) :
    lastRows y g (ix2 i j) = lastNormed (fun j => g (ix2 0 j)) (fun j => y (ix2 i j)) j := by
  have e1 : lastRows y g (ix2 i j) = y (ix2 i j) * lastScales y (ix2 i 0) * g (ix2 0 j) := by pointwise [lastRows]
  rw [e1, lastScales_apply]
  rfl

theorem block_apply (x0 : Vec Ideal S256x2048 .f32) (x1 x2 x3 x4 x5 x6 : Vec Ideal S256x1024 .bf16)
    (x7 x8 : Vec Ideal S256x2048 .bf16) (x9 x10 : Vec Ideal S1x1024 .f32) (x11 x12 : Vec Ideal S1024x2048 .bf16)
    (x13 : Vec Ideal S2048x2048 .bf16) (x14 : Vec Ideal S1x2048 .f32) (i : Fin 256) (j : Fin 2048)
    (hy : ∀ c, ∃ r : ℝ, x1 (ix2 i c) + x2 (ix2 i c) = (r : EReal)) :
    block x0 x1 x2 x3 x4 x5 x6 x7 x8 x9 x10 x11 x12 x13 x14 (ix2 i j)
      = entry (fun k => x0 (ix2 i k)) (fun e => x1 (ix2 i e)) (fun e => x2 (ix2 i e)) (fun e => x3 (ix2 i e))
        (fun e => x4 (ix2 i e)) (fun e => x5 (ix2 i e)) (fun e => x6 (ix2 i e)) (fun k => x7 (ix2 i k)) (fun k => x8 (ix2 i k))
        (fun e => x9 (ix2 0 e)) (fun e => x10 (ix2 0 e)) (fun e k => x11 (ix2 e k)) (fun e k => x12 (ix2 e k))
        (fun k j => x13 (ix2 k j)) (fun j => x14 (ix2 0 j)) j := by
  unfold block
  rw [lastRows_apply]
  refine congrArg (lastNormed _ · j) (funext fun j => ?_)
  rw [summedRows_apply]
  refine congrArg (x0 (ix2 i j) + ·) (Finset.sum_congr rfl fun k _ => congrArg (· * x13 (ix2 k j)) ?_)
  rw [mergedRows_apply, branch_apply, branch_apply]
  simp only [recurrences_apply x1 x2 x3 x4 x9 x10 i _ hy, attentions_apply]
  rfl

end Cert.Post

end
-- ==== Proof.PostArrays.lean ====
module

public import proofs.«01_k».proof.Proof.PostRun
public import proofs.«01_k».proof.Proof.PostReads
public import proofs.«01_k».proof.Proof.Gen.Kernel3Ideal.Value
public import Idealize.ShloMosaic.Lib.Pipeline.ValueKit.Geometry

@[expose] public section

set_option maxRecDepth 16384

noncomputable section

/-! The merge's arrays: what each grid point reads and what the whole result is after it. -/

namespace Cert.Post

open Idealize.ShloMosaic Cert.Kernel3Ideal Cert.Kernel3Ideal.Gen

variable (m : (ℓ : Loc nD τ sig) → Buf (Elt Ideal) ℓ) (c : Dev nD)

/-- The windows that follow the rows: blocks of 256 rows at one block of columns. -/
theorem rowIndices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 3)
    ∧ (win0_5.index t (0 : Fin 2) = t.val ∧ win0_5.index t (1 : Fin 2) = 0)
    ∧ (win0_6.index t (0 : Fin 2) = t.val ∧ win0_6.index t (1 : Fin 2) = 5)
    ∧ (win0_7.index t (0 : Fin 2) = t.val ∧ win0_7.index t (1 : Fin 2) = 3)
    ∧ (win0_8.index t (0 : Fin 2) = t.val ∧ win0_8.index t (1 : Fin 2) = 4)
    ∧ (win0_15.index t (0 : Fin 2) = t.val ∧ win0_15.index t (1 : Fin 2) = 0) :=
  (by decide +kernel : ∀ t : Fin grid0.N, _)

/-- The windows of the weights: the whole array at each point. -/
theorem weightIndices : ∀ t : Fin cfg0.N, ∀ a : Fin 2,
    win0_9.index t a = 0 ∧ win0_10.index t a = 0 ∧ win0_11.index t a = 0 ∧ win0_12.index t a = 0 ∧ win0_13.index t a = 0
    ∧ win0_14.index t a = 0 :=
  (by decide +kernel : ∀ t : Fin grid0.N, _)

theorem lt_points (t : Fin cfg0.N) : t.val < 128 := lt_of_lt_of_eq t.isLt (show cfg0.N = 128 from N_0)

/-- A row of a point's block among all rows, and its batch and place. -/
def row (t : Fin cfg0.N) (i : Fin 256) : Fin 32768 := ⟨256 * t.val + i.val, by have := lt_points t; omega⟩
def batch (r : Fin 32768) : Fin 16 := ⟨r.val / 2048, by omega⟩
def place (r : Fin 32768) : Fin 2048 := ⟨r.val % 2048, by omega⟩

/-! ## The arrays before the grid -/

abbrev xArr : S16x2048x2048.Idx → EReal := m ((c.tc : Thread nD τ).loc main_arg0)
abbrev fArr : S16x2048x1024.Idx → EReal := m ((c.tc : Thread nD τ).loc main_arg1)
abbrev bArr : S16x2048x1024.Idx → EReal := m ((c.tc : Thread nD τ).loc main_arg2)
abbrev cvArr : S16x2048x1024.Idx → EReal := m ((c.tc : Thread nD τ).loc main_arg3)
abbrev projArr : S16x2048x11264.Idx → EReal := m ((c.tc : Thread nD τ).loc main_arg4)
abbrev attArr : S16x2048x1024.Idx → EReal := m ((c.tc : Thread nD τ).loc main_arg5)
abbrev gwArr : S1024.Idx → EReal := m ((c.tc : Thread nD τ).loc main_arg6)
abbrev gbArr : S1024.Idx → EReal := m ((c.tc : Thread nD τ).loc main_arg7)
abbrev wrArr : S1024x2048.Idx → EReal := m ((c.tc : Thread nD τ).loc main_arg8)
abbrev waArr : S1024x2048.Idx → EReal := m ((c.tc : Thread nD τ).loc main_arg9)
abbrev woArr : S2048x2048.Idx → EReal := m ((c.tc : Thread nD τ).loc main_arg10)
abbrev fgArr : S2048.Idx → EReal := m ((c.tc : Thread nD τ).loc main_arg11)

theorem flat2048 (x : S16x2048x2048.Idx → EReal) (r : Fin 32768) (k : Fin 2048) :
    shapeCast S32768x2048 x shapeCasts_S16x2048x2048_S32768x2048 (ix2 r k) = x (ix3 (batch r) (place r) k) := by
  pointwise []
  rfl

theorem flat1024 (x : S16x2048x1024.Idx → EReal) (r : Fin 32768) (k : Fin 1024) :
    shapeCast S32768x1024 x shapeCasts_S16x2048x1024_S32768x1024 (ix2 r k) = x (ix3 (batch r) (place r) k) := by
  pointwise []
  rfl

theorem flat11264 (x : S16x2048x11264.Idx → EReal) (r : Fin 32768) (k : Fin 11264) :
    shapeCast S32768x11264 x shapeCasts_S16x2048x11264_S32768x11264 (ix2 r k) = x (ix3 (batch r) (place r) k) := by
  pointwise []
  rfl

theorem lifted1024 (x : S1024.Idx → EReal) (k : Fin 1024) : shapeCast S1x1024 x shapeCasts_S1024_S1x1024 (ix2 0 k) = x (ix1 k) := by
  pointwise []

theorem lifted2048 (x : S2048.Idx → EReal) (k : Fin 2048) : shapeCast S1x2048 x shapeCasts_S2048_S1x2048 (ix2 0 k) = x (ix1 k) := by
  pointwise []

/-! ## The blocks of a point -/

def xBlock (t : Fin cfg0.N) : Vec Ideal S256x2048 .f32 := iblk m c 0 t
def fBlock (t : Fin cfg0.N) : Vec Ideal S256x1024 .bf16 := iblk m c 1 t
def bBlock (t : Fin cfg0.N) : Vec Ideal S256x1024 .bf16 := iblk m c 2 t
def cvBlock (t : Fin cfg0.N) : Vec Ideal S256x1024 .bf16 := iblk m c 3 t
def zrBlock (t : Fin cfg0.N) : Vec Ideal S256x1024 .bf16 := iblk m c 4 t
def attBlock (t : Fin cfg0.N) : Vec Ideal S256x1024 .bf16 := iblk m c 5 t
def zaBlock (t : Fin cfg0.N) : Vec Ideal S256x1024 .bf16 := iblk m c 6 t
def grBlock (t : Fin cfg0.N) : Vec Ideal S256x2048 .bf16 := X0_7 m c t
def gaBlock (t : Fin cfg0.N) : Vec Ideal S256x2048 .bf16 := X0_8 m c t
def gwBlock (t : Fin cfg0.N) : Vec Ideal S1x1024 .f32 := iblk m c 9 t
def gbBlock (t : Fin cfg0.N) : Vec Ideal S1x1024 .f32 := iblk m c 10 t
def wrBlock (t : Fin cfg0.N) : Vec Ideal S1024x2048 .bf16 := iblk m c 11 t
def waBlock (t : Fin cfg0.N) : Vec Ideal S1024x2048 .bf16 := iblk m c 12 t
def woBlock (t : Fin cfg0.N) : Vec Ideal S2048x2048 .bf16 := iblk m c 13 t
def fgBlock (t : Fin cfg0.N) : Vec Ideal S1x2048 .f32 := iblk m c 14 t

/-- Two positions with the same row and column are one. -/
theorem pair_ext {n k : ℕ} {u v : (⟨2, ![n, k]⟩ : Shape).Idx} (h0 : (u 0).val = (v 0).val) (h1 : (u 1).val = (v 1).val) : u = v :=
  funext fun a => Fin.ext (match a with
    | 0 => h0
    | 1 => h1)

/-- A row of a block of 256 rows. -/
theorem row_of {s : ℕ} (t : Fin cfg0.N) (i : Fin 256) (h : s = t.val) : s * 256 + 1 * i.val = (row t i).val := by
  show s * 256 + 1 * i.val = 256 * t.val + i.val
  omega

theorem part_of {s n : ℕ} (o q e : ℕ) (h : s = q) (ho : o = q * n) : s * n + 1 * e = o + e := by
  subst h; omega

theorem whole_of {s : ℕ} (n e : ℕ) (h : s = 0) : s * n + 1 * e = e := by
  subst h; omega

theorem xBlock_apply (t : Fin cfg0.N) (i : Fin 256) (k : Fin 2048) :
    xBlock m c t (ix2 i k) = xArr m c (ix3 (batch (row t i)) (place (row t i)) k) :=
  (congrArg (V m c main_v0) (pair_ext (row_of t i (rowIndices t).1.1) (whole_of 2048 k.val (rowIndices t).1.2))).trans
    (flat2048 (xArr m c) (row t i) k)

theorem fBlock_apply (t : Fin cfg0.N) (i : Fin 256) (e : Fin 1024) :
    fBlock m c t (ix2 i e) = fArr m c (ix3 (batch (row t i)) (place (row t i)) e) :=
  (congrArg (V m c main_v1) (pair_ext (row_of t i (rowIndices t).2.1.1) (whole_of 1024 e.val (rowIndices t).2.1.2))).trans
    (flat1024 (fArr m c) (row t i) e)

theorem bBlock_apply (t : Fin cfg0.N) (i : Fin 256) (e : Fin 1024) :
    bBlock m c t (ix2 i e) = bArr m c (ix3 (batch (row t i)) (place (row t i)) e) :=
  (congrArg (V m c main_v2) (pair_ext (row_of t i (rowIndices t).2.2.1.1) (whole_of 1024 e.val (rowIndices t).2.2.1.2))).trans
    (flat1024 (bArr m c) (row t i) e)

theorem cvBlock_apply (t : Fin cfg0.N) (i : Fin 256) (e : Fin 1024) :
    cvBlock m c t (ix2 i e) = cvArr m c (ix3 (batch (row t i)) (place (row t i)) e) :=
  (congrArg (V m c main_v3) (pair_ext (row_of t i (rowIndices t).2.2.2.1.1) (whole_of 1024 e.val (rowIndices t).2.2.2.1.2))).trans
    (flat1024 (cvArr m c) (row t i) e)

theorem zrBlock_apply (t : Fin cfg0.N) (i : Fin 256) (e : Fin 1024) :
    zrBlock m c t (ix2 i e) = projArr m c (ix3 (batch (row t i)) (place (row t i)) ⟨3072 + e.val, by omega⟩) :=
  (congrArg (V m c main_v4) (pair_ext (row_of t i (rowIndices t).2.2.2.2.1.1)
    (part_of 3072 3 e.val (rowIndices t).2.2.2.2.1.2 rfl))).trans (flat11264 (projArr m c) (row t i) ⟨3072 + e.val, by omega⟩)

theorem attBlock_apply (t : Fin cfg0.N) (i : Fin 256) (e : Fin 1024) :
    attBlock m c t (ix2 i e) = attArr m c (ix3 (batch (row t i)) (place (row t i)) e) :=
  (congrArg (V m c main_v5) (pair_ext (row_of t i (rowIndices t).2.2.2.2.2.1.1)
    (whole_of 1024 e.val (rowIndices t).2.2.2.2.2.1.2))).trans (flat1024 (attArr m c) (row t i) e)

theorem zaBlock_apply (t : Fin cfg0.N) (i : Fin 256) (e : Fin 1024) :
    zaBlock m c t (ix2 i e) = projArr m c (ix3 (batch (row t i)) (place (row t i)) ⟨5120 + e.val, by omega⟩) :=
  (congrArg (V m c main_v4) (pair_ext (row_of t i (rowIndices t).2.2.2.2.2.2.1.1)
    (part_of 5120 5 e.val (rowIndices t).2.2.2.2.2.2.1.2 rfl))).trans (flat11264 (projArr m c) (row t i) ⟨5120 + e.val, by omega⟩)

theorem grBlock_apply (t : Fin cfg0.N) (i : Fin 256) (k : Fin 2048) :
    grBlock m c t (ix2 i k) = projArr m c (ix3 (batch (row t i)) (place (row t i)) ⟨6144 + k.val, by omega⟩) :=
  (dif_pos (moved0_7 t (ix2 i k))).trans ((congrArg (V m c main_v4) (pair_ext (row_of t i (rowIndices t).2.2.2.2.2.2.2.1.1)
    (part_of 6144 3 k.val (rowIndices t).2.2.2.2.2.2.2.1.2 rfl))).trans (flat11264 (projArr m c) (row t i) ⟨6144 + k.val, by omega⟩))

theorem gaBlock_apply (t : Fin cfg0.N) (i : Fin 256) (k : Fin 2048) :
    gaBlock m c t (ix2 i k) = projArr m c (ix3 (batch (row t i)) (place (row t i)) ⟨8192 + k.val, by omega⟩) :=
  (dif_pos (moved0_8 t (ix2 i k))).trans ((congrArg (V m c main_v4) (pair_ext (row_of t i (rowIndices t).2.2.2.2.2.2.2.2.1.1)
    (part_of 8192 4 k.val (rowIndices t).2.2.2.2.2.2.2.2.1.2 rfl))).trans (flat11264 (projArr m c) (row t i) ⟨8192 + k.val, by omega⟩))

theorem gwBlock_apply (t : Fin cfg0.N) (e : Fin 1024) : gwBlock m c t (ix2 0 e) = gwArr m c (ix1 e) :=
  (congrArg (V m c main_v9) (pair_ext (whole_of 1 0 (weightIndices t 0).1) (whole_of 1024 e.val (weightIndices t 1).1))).trans
    (lifted1024 (gwArr m c) e)

theorem gbBlock_apply (t : Fin cfg0.N) (e : Fin 1024) : gbBlock m c t (ix2 0 e) = gbArr m c (ix1 e) :=
  (congrArg (V m c main_v10) (pair_ext (whole_of 1 0 (weightIndices t 0).2.1) (whole_of 1024 e.val (weightIndices t 1).2.1))).trans
    (lifted1024 (gbArr m c) e)

theorem wrBlock_apply (t : Fin cfg0.N) (e : Fin 1024) (k : Fin 2048) : wrBlock m c t (ix2 e k) = wrArr m c (ix2 e k) :=
  congrArg (V m c main_v6) (pair_ext (whole_of 1024 e.val (weightIndices t 0).2.2.1) (whole_of 2048 k.val (weightIndices t 1).2.2.1))

theorem waBlock_apply (t : Fin cfg0.N) (e : Fin 1024) (k : Fin 2048) : waBlock m c t (ix2 e k) = waArr m c (ix2 e k) :=
  congrArg (V m c main_v7) (pair_ext (whole_of 1024 e.val (weightIndices t 0).2.2.2.1)
    (whole_of 2048 k.val (weightIndices t 1).2.2.2.1))

theorem woBlock_apply (t : Fin cfg0.N) (k j : Fin 2048) : woBlock m c t (ix2 k j) = woArr m c (ix2 k j) :=
  congrArg (V m c main_v8) (pair_ext (whole_of 2048 k.val (weightIndices t 0).2.2.2.2.1)
    (whole_of 2048 j.val (weightIndices t 1).2.2.2.2.1))

theorem fgBlock_apply (t : Fin cfg0.N) (j : Fin 2048) : fgBlock m c t (ix2 0 j) = fgArr m c (ix1 j) :=
  (congrArg (V m c main_v11) (pair_ext (whole_of 1 0 (weightIndices t 0).2.2.2.2.2)
    (whole_of 2048 j.val (weightIndices t 1).2.2.2.2.2))).trans (lifted2048 (fgArr m c) j)

/-! ## The result after the grid -/

/-- One entry of the merge of the arguments, at a batch and a place. -/
def resultAt (n : Fin 16) (i j : Fin 2048) : EReal :=
  entry (fun k => xArr m c (ix3 n i k)) (fun e => fArr m c (ix3 n i e)) (fun e => bArr m c (ix3 n i e))
    (fun e => cvArr m c (ix3 n i e)) (fun e => projArr m c (ix3 n i ⟨3072 + e.val, by omega⟩)) (fun e => attArr m c (ix3 n i e))
    (fun e => projArr m c (ix3 n i ⟨5120 + e.val, by omega⟩)) (fun k => projArr m c (ix3 n i ⟨6144 + k.val, by omega⟩))
    (fun k => projArr m c (ix3 n i ⟨8192 + k.val, by omega⟩)) (fun e => gwArr m c (ix1 e)) (fun e => gbArr m c (ix1 e))
    (fun e k => wrArr m c (ix2 e k)) (fun e k => waArr m c (ix2 e k)) (fun k j => woArr m c (ix2 k j))
    (fun j => fgArr m c (ix1 j)) j

/-- The sums of the two recurrences are real numbers. -/
def RealSums : Prop := ∀ (n : Fin 16) (i : Fin 2048) (e : Fin 1024),
  ∃ x : ℝ, fArr m c (ix3 n i e) + bArr m c (ix3 n i e) = (x : EReal)

theorem flushed_result (hr : RealSums m c) (t : Fin cfg0.N) (i : Fin 256) (j : Fin 2048) :
    (dats m 0 c).flushed 15 t (ix2 i j : S256x2048.Idx) = resultAt m c (batch (row t i)) (place (row t i)) j := by
  refine (congrFun (Cert.Kernel3Ideal.Value.flushed15_A m c t) _).trans ((congrFun (out_eq (F := Ideal) c ..) (ix2 i j)).trans
    ((block_apply (xBlock m c t) (fBlock m c t) (bBlock m c t) (cvBlock m c t) (zrBlock m c t) (attBlock m c t) (zaBlock m c t)
      (grBlock m c t) (gaBlock m c t) (gwBlock m c t) (gbBlock m c t) (wrBlock m c t) (waBlock m c t) (woBlock m c t)
      (fgBlock m c t) i j fun e => ?_).trans ?_))
  · rw [fBlock_apply, bBlock_apply]
    exact hr _ _ _
  · simp only [xBlock_apply, fBlock_apply, bBlock_apply, cvBlock_apply, zrBlock_apply, attBlock_apply, zaBlock_apply,
      grBlock_apply, gaBlock_apply, gwBlock_apply, gbBlock_apply, wrBlock_apply, waBlock_apply, woBlock_apply, fgBlock_apply]
    rfl

/-- The whole result. -/
def resultArr : S32768x2048.Idx → EReal := fun y => resultAt m c (batch (y 0)) (place (y 0)) (y 1)

theorem result_array (hr : RealSums m c) : (dats m 0 c).arrAt 15 cfg0.N = resultArr m c := by
  refine (dats m 0 c).arrAt_eq_of_covers 15 (resultArr m c) (by decide +kernel) fun t _ (y : S256x2048.Idx) => ?_
  have hy : y = ix2 (y 0) (y 1) := pair_ext rfl rfl
  have hi := (rowIndices t).2.2.2.2.2.2.2.2.2
  rw [hy]
  refine (flushed_result m c hr t (y 0) (y 1)).trans ?_
  exact congrArg (resultArr m c) (a₁ := ix2 (row t (y 0)) (y 1))
    (pair_ext (row_of t (y 0) hi.1).symm (whole_of 2048 (y 1).val hi.2).symm)

end Cert.Post

end
-- ==== Proof.PostRef.lean ====
module

public import proofs.«01_k».proof.Proof.PostSpec
public import proofs.«01_k».proof.Proof.ProjRefHeads
public import proofs.«01_k».proof.Proof.Gen.Reference3Ideal.Run
public import Idealize.ShloMosaic.Lib.Pointwise
public import Idealize.ShloMosaic.Lib.IdealHost
public import Idealize.ShloMosaic.Lib.KernelVsHost

@[expose] public section

set_option maxRecDepth 16384

noncomputable section

/-! The reference's merge of the two branches, read at an index over the extended reals. -/

namespace Cert.PostRef

open Idealize.ShloMosaic Cert.Reference3Ideal Cert.Reference3Ideal.Facts₀ Cert.Post

/-! ## The group norm -/

/-- The two recurrences added, by head. -/
def heads (f b : FVec Ideal S16x2048x1024 .bf16) : FVec Ideal S16x2048x16x64 .f32 :=
  shapeCast _ (addf (extf .f32 f bitsLt_bf16_f32) (extf .f32 b bitsLt_bf16_f32)) shapeCasts_S16x2048x1024_S16x2048x16x64

/-- The mean of each head. -/
def means (y : FVec Ideal S16x2048x16x64 .f32) : FVec Ideal S16x2048x16x1 .f32 :=
  Host.divf (broadcastInDim S16x2048x16x1 ![0, 1, 2] bcast_S16x2048x16_S16x2048x16x1_0_1_2
      (Host.reduceAdd y (constant S_ .f32 0x00000000#32) reducesTo_S16x2048x16x64_S16x2048x16_d3 h_S_))
    (broadcastInDim S16x2048x16x1 ![] bcast_S_S16x2048x16x1 (constant S_ .f32 0x42800000#32))

def spread (s : FVec Ideal S16x2048x16x1 .f32) : FVec Ideal S16x2048x16x64 .f32 :=
  broadcastInDim S16x2048x16x64 ![0, 1, 2, 3] bcast_S16x2048x16x1_S16x2048x16x64_0_1_2_3 s

def centres (y : FVec Ideal S16x2048x16x64 .f32) : FVec Ideal S16x2048x16x64 .f32 := subf y (spread (means y))

def groupNorms (y : FVec Ideal S16x2048x16x64 .f32) : FVec Ideal S16x2048x16x64 .f32 :=
  mulf (centres y) (spread (Host.rsqrt (addf (means (mulf (centres y) (centres y)))
    (broadcastInDim S16x2048x16x1 ![] bcast_S_S16x2048x16x1 (constant S_ .f32 0x3A27C5AC#32)))))

/-- A weight of each lane, for all rows. -/
def lanes (g : FVec Ideal S1024 .f32) : FVec Ideal S16x2048x16x64 .f32 :=
  broadcastInDim S16x2048x16x64 ![0, 1, 2, 3] bcast_S1x1x16x64_S16x2048x16x64_0_1_2_3
    (broadcastInDim S1x1x16x64 ![2, 3] bcast_S16x64_S1x1x16x64_2_3 (shapeCast _ g shapeCasts_S1024_S16x64))

/-! ## The two branches -/

def sigmoid1024 (z : FVec Ideal S16x2048x1024 .f32) : FVec Ideal S16x2048x1024 .f32 :=
  Host.divf (broadcastInDim S16x2048x1024 ![] bcast_S_S16x2048x1024 (constant S_ .f32 0x3F800000#32))
    (addf (broadcastInDim S16x2048x1024 ![] bcast_S_S16x2048x1024 (constant S_ .f32 0x3F800000#32)) (Host.exp (Host.negf z)))

def sigmoid2048 (z : FVec Ideal S16x2048x2048 .f32) : FVec Ideal S16x2048x2048 .f32 :=
  Host.divf (broadcastInDim S16x2048x2048 ![] bcast_S_S16x2048x2048 (constant S_ .f32 0x3F800000#32))
    (addf (broadcastInDim S16x2048x2048 ![] bcast_S_S16x2048x2048 (constant S_ .f32 0x3F800000#32)) (Host.exp (Host.negf z)))

def gates (z : FVec Ideal S16x2048x1024 .f32) : FVec Ideal S16x2048x1024 .f32 := mulf z (sigmoid1024 z)

variable (p : FVec Ideal S16x2048x11264 .bf16)

def recGate : FVec Ideal S16x2048x1024 .f32 :=
  extf .f32 (extractStridedSlice S16x2048x1024 ![0, 0, 3072] p slices_S16x2048x11264_S16x2048x1024_0_0_3072) bitsLt_bf16_f32

def attGate : FVec Ideal S16x2048x1024 .f32 :=
  extf .f32 (extractStridedSlice S16x2048x1024 ![0, 0, 5120] p slices_S16x2048x11264_S16x2048x1024_0_0_5120) bitsLt_bf16_f32

def recMerge : FVec Ideal S16x2048x2048 .f32 :=
  extf .f32 (extractStridedSlice S16x2048x2048 ![0, 0, 6144] p slices_S16x2048x11264_S16x2048x2048_0_0_6144) bitsLt_bf16_f32

def attMerge : FVec Ideal S16x2048x2048 .f32 :=
  extf .f32 (extractStridedSlice S16x2048x2048 ![0, 0, 8192] p slices_S16x2048x11264_S16x2048x2048_0_0_8192) bitsLt_bf16_f32

def recurrences (f b cv : FVec Ideal S16x2048x1024 .bf16) (gw gb : FVec Ideal S1024 .f32) : FVec Ideal S16x2048x1024 .f32 :=
  mulf (addf (shapeCast _ (addf (mulf (groupNorms (heads f b)) (lanes gw)) (lanes gb)) shapeCasts_S16x2048x16x64_S16x2048x1024)
    (extf .f32 cv bitsLt_bf16_f32)) (gates (recGate p))

def attentions (a : FVec Ideal S16x2048x1024 .bf16) : FVec Ideal S16x2048x1024 .f32 :=
  mulf (extf .f32 a bitsLt_bf16_f32) (gates (attGate p))

def branch (y : FVec Ideal S16x2048x1024 .f32) (w : FVec Ideal S1024x2048 .f32) : FVec Ideal S16x2048x2048 .f32 :=
  Host.dotGeneral dot_S16x2048x1024_S1024x2048_S16x2048x2048_2_0_01_1_n_n none y w

def mergedRows (r a : FVec Ideal S16x2048x2048 .f32) : FVec Ideal S16x2048x2048 .f32 :=
  addf (mulf (sigmoid2048 (recMerge p)) r) (mulf (sigmoid2048 (attMerge p)) a)

/-! ## The output -/

def summedRows (x y : FVec Ideal S16x2048x2048 .f32) (w : FVec Ideal S2048x2048 .f32) : FVec Ideal S16x2048x2048 .f32 :=
  addf x (Host.dotGeneral dot_S16x2048x2048_S2048x2048_S16x2048x2048_2_0_01_1_n_n none y w)

def lastScales (y : FVec Ideal S16x2048x2048 .f32) : FVec Ideal S16x2048x1 .f32 :=
  Host.rsqrt (addf (Host.divf (broadcastInDim S16x2048x1 ![0, 1] bcast_S16x2048_S16x2048x1_0_1
      (Host.reduceAdd (mulf y y) (constant S_ .f32 0x00000000#32) reducesTo_S16x2048x2048_S16x2048_d2 h_S_))
      (broadcastInDim S16x2048x1 ![] bcast_S_S16x2048x1 (constant S_ .f32 0x45000000#32)))
    (broadcastInDim S16x2048x1 ![] bcast_S_S16x2048x1 (constant S_ .f32 0x358637BD#32)))

def lastRows (y : FVec Ideal S16x2048x2048 .f32) (g : FVec Ideal S2048 .f32) : FVec Ideal S16x2048x2048 .f32 :=
  mulf (mulf y (broadcastInDim S16x2048x2048 ![0, 1, 2] bcast_S16x2048x1_S16x2048x2048_0_1_2 (lastScales y)))
    (broadcastInDim S16x2048x2048 ![0, 1, 2] bcast_S1x1x2048_S16x2048x2048_0_1_2
      (broadcastInDim S1x1x2048 ![2] bcast_S2048_S1x1x2048_2 g))

/-- The whole merge, rows of a batch after one another. -/
def result (x : FVec Ideal S16x2048x2048 .f32) (f b cv a : FVec Ideal S16x2048x1024 .bf16) (gw gb : FVec Ideal S1024 .f32)
    (wr wa : FVec Ideal S1024x2048 .f32) (wo : FVec Ideal S2048x2048 .f32) (fg : FVec Ideal S2048 .f32) : FVec Ideal S32768x2048 .f32 :=
  shapeCast _ (lastRows (summedRows x (mergedRows p (branch (recurrences p f b cv gw gb) wr) (branch (attentions p a) wa)) wo) fg)
    shapeCasts_S16x2048x2048_S32768x2048

theorem result_eq (m : (ℓ : Loc nD τ sig) → Buf (Elt Ideal) ℓ) (c : Dev nD) :
    Cert.Reference3Ideal.Value.res_main_v78 m c
      = result (m ((c.tc : Thread nD τ).loc main_arg4)) (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
        (m ((c.tc : Thread nD τ).loc main_arg6)) (m ((c.tc : Thread nD τ).loc main_arg7)) (m ((c.tc : Thread nD τ).loc main_arg8))
        (m ((c.tc : Thread nD τ).loc main_arg9)) (m ((c.tc : Thread nD τ).loc main_arg10)) (m ((c.tc : Thread nD τ).loc main_arg11)) :=
  rfl

/-! ## Reading -/

theorem heads_apply (f b : FVec Ideal S16x2048x1024 .bf16) (n : Fin 16) (i : Fin 2048) (h : Fin 16) (d : Fin 64) :
    heads f b (ix4 n i h d) = f (ix3 n i ⟨64 * h.val + d.val, by omega⟩) + b (ix3 n i ⟨64 * h.val + d.val, by omega⟩) := by
  pointwise [heads]
  rw [show (⟨h.val * 64 + d.val, by omega⟩ : Fin 1024) = ⟨64 * h.val + d.val, by omega⟩ from Fin.ext (by dsimp only; omega)]

theorem means_apply (y : FVec Ideal S16x2048x16x64 .f32) (n : Fin 16) (i : Fin 2048) (h : Fin 16) :
    means y (ix4 n i h 0) = (∑ d : Fin 64, y (ix4 n i h d)) * (((1 : ℝ) / 64 : ℝ) : EReal) := by
  rw [← Cert.ProjRef.over_64]
  pointwise [means]

theorem centres_apply (y : FVec Ideal S16x2048x16x64 .f32) (n : Fin 16) (i : Fin 2048) (h : Fin 16) (d : Fin 64) :
    centres y (ix4 n i h d) = centred (fun c => y (ix4 n i h c)) d := by
  have e1 : centres y (ix4 n i h d) = y (ix4 n i h d) - means y (ix4 n i h 0) := by pointwise [centres, spread]
  rw [e1, means_apply]
  rfl

theorem groupNorms_apply (y : FVec Ideal S16x2048x16x64 .f32) (n : Fin 16) (i : Fin 2048) (h : Fin 16) (d : Fin 64) :
    groupNorms y (ix4 n i h d) = groupNormed (fun c => y (ix4 n i h c)) d := by
  have e1 : groupNorms y (ix4 n i h d) = centres y (ix4 n i h d)
      * Ideal.rsqrt (means (mulf (centres y) (centres y)) (ix4 n i h 0) + Ideal.ofBits .f32 0x3A27C5AC#32) := by
    pointwise [groupNorms, spread]
  have e2 : ∀ c : Fin 64, mulf (centres y) (centres y) (ix4 n i h c) = centres y (ix4 n i h c) * centres y (ix4 n i h c) :=
    fun c => by pointwise []
  rw [e1, means_apply]
  simp only [e2, centres_apply]
  rfl

theorem lanes_apply (g : FVec Ideal S1024 .f32) (n : Fin 16) (i : Fin 2048) (h : Fin 16) (d : Fin 64) :
    lanes g (ix4 n i h d) = g (ix1 ⟨64 * h.val + d.val, by omega⟩) := by
  pointwise [lanes]
  rw [show (⟨h.val * 64 + d.val, by omega⟩ : Fin 1024) = ⟨64 * h.val + d.val, by omega⟩ from Fin.ext (by dsimp only; omega)]

theorem sigmoid1024_apply (z : FVec Ideal S16x2048x1024 .f32) (n : Fin 16) (i : Fin 2048) (e : Fin 1024) :
    sigmoid1024 z (ix3 n i e) = Ideal.logistic (z (ix3 n i e)) := by
  pointwise [sigmoid1024]
  rfl

theorem sigmoid2048_apply (z : FVec Ideal S16x2048x2048 .f32) (n : Fin 16) (i : Fin 2048) (k : Fin 2048) :
    sigmoid2048 z (ix3 n i k) = Ideal.logistic (z (ix3 n i k)) := by
  pointwise [sigmoid2048]
  rfl

theorem gates_apply (z : FVec Ideal S16x2048x1024 .f32) (n : Fin 16) (i : Fin 2048) (e : Fin 1024) :
    gates z (ix3 n i e) = gated (z (ix3 n i e)) := by
  rw [show gates z (ix3 n i e) = z (ix3 n i e) * sigmoid1024 z (ix3 n i e) by pointwise [gates], sigmoid1024_apply]
  rfl

theorem recGate_apply (n : Fin 16) (i : Fin 2048) (e : Fin 1024) :
    recGate p (ix3 n i e) = p (ix3 n i ⟨3072 + e.val, by omega⟩) := by
  pointwise [recGate]

theorem attGate_apply (n : Fin 16) (i : Fin 2048) (e : Fin 1024) :
    attGate p (ix3 n i e) = p (ix3 n i ⟨5120 + e.val, by omega⟩) := by
  pointwise [attGate]

theorem recMerge_apply (n : Fin 16) (i k : Fin 2048) : recMerge p (ix3 n i k) = p (ix3 n i ⟨6144 + k.val, by omega⟩) := by
  pointwise [recMerge]

theorem attMerge_apply (n : Fin 16) (i k : Fin 2048) : attMerge p (ix3 n i k) = p (ix3 n i ⟨8192 + k.val, by omega⟩) := by
  pointwise [attMerge]

theorem recurrences_apply (f b cv : FVec Ideal S16x2048x1024 .bf16) (gw gb : FVec Ideal S1024 .f32) (n : Fin 16) (i : Fin 2048)
    (e : Fin 1024) :
    recurrences p f b cv gw gb (ix3 n i e)
      = recurrence (fun e => f (ix3 n i e)) (fun e => b (ix3 n i e)) (fun e => cv (ix3 n i e))
        (fun e => p (ix3 n i ⟨3072 + e.val, by omega⟩)) (fun e => gw (ix1 e)) (fun e => gb (ix1 e)) e := by
  have e1 : recurrences p f b cv gw gb (ix3 n i e)
      = (groupNorms (heads f b) (ix4 n i ⟨e.val / 64, by omega⟩ ⟨e.val % 64, Nat.mod_lt _ (by decide)⟩)
          * lanes gw (ix4 n i ⟨e.val / 64, by omega⟩ ⟨e.val % 64, Nat.mod_lt _ (by decide)⟩)
          + lanes gb (ix4 n i ⟨e.val / 64, by omega⟩ ⟨e.val % 64, Nat.mod_lt _ (by decide)⟩) + cv (ix3 n i e))
        * gates (recGate p) (ix3 n i e) := by
    pointwise [recurrences]
  have hb : (⟨64 * (⟨e.val / 64, by omega⟩ : Fin 16).val + (⟨e.val % 64, Nat.mod_lt _ (by decide)⟩ : Fin 64).val,
      by dsimp only; omega⟩ : Fin 1024) = e := Fin.ext (by dsimp only; omega)
  rw [e1, gates_apply, recGate_apply, groupNorms_apply, lanes_apply, lanes_apply, hb]
  simp only [heads_apply]
  rfl

theorem attentions_apply (a : FVec Ideal S16x2048x1024 .bf16) (n : Fin 16) (i : Fin 2048) (e : Fin 1024) :
    attentions p a (ix3 n i e)
      = attended (fun e => a (ix3 n i e)) (fun e => p (ix3 n i ⟨5120 + e.val, by omega⟩)) e := by
  rw [show attentions p a (ix3 n i e) = a (ix3 n i e) * gates (attGate p) (ix3 n i e) by pointwise [attentions],
    gates_apply, attGate_apply]
  rfl

theorem branch_apply (y : FVec Ideal S16x2048x1024 .f32) (w : FVec Ideal S1024x2048 .f32) (n : Fin 16) (i k : Fin 2048) :
    branch y w (ix3 n i k) = ∑ e : Fin 1024, y (ix3 n i e) * w (ix2 e k) := by
  pointwise [branch]

theorem mergedRows_apply (r a : FVec Ideal S16x2048x2048 .f32) (n : Fin 16) (i k : Fin 2048) :
    mergedRows p r a (ix3 n i k) = Ideal.logistic (p (ix3 n i ⟨6144 + k.val, by omega⟩)) * r (ix3 n i k)
      + Ideal.logistic (p (ix3 n i ⟨8192 + k.val, by omega⟩)) * a (ix3 n i k) := by
  rw [show mergedRows p r a (ix3 n i k) = sigmoid2048 (recMerge p) (ix3 n i k) * r (ix3 n i k)
    + sigmoid2048 (attMerge p) (ix3 n i k) * a (ix3 n i k) by pointwise [mergedRows], sigmoid2048_apply, sigmoid2048_apply,
    recMerge_apply, attMerge_apply]

theorem summedRows_apply (x y : FVec Ideal S16x2048x2048 .f32) (w : FVec Ideal S2048x2048 .f32) (n : Fin 16) (i j : Fin 2048) :
    summedRows x y w (ix3 n i j) = x (ix3 n i j) + ∑ k : Fin 2048, y (ix3 n i k) * w (ix2 k j) := by
  pointwise [summedRows]

theorem lastScales_apply (y : FVec Ideal S16x2048x2048 .f32) (n : Fin 16) (i : Fin 2048) :
    lastScales y (ix3 n i 0)
      = Ideal.rsqrt (Ideal.div (∑ k : Fin 2048, y (ix3 n i k) * y (ix3 n i k)) (Ideal.ofBits .f32 0x45000000#32)
        + Ideal.ofBits .f32 0x358637BD#32) := by
  pointwise [lastScales]

theorem lastRows_apply (y : FVec Ideal S16x2048x2048 .f32) (g : FVec Ideal S2048 .f32) (n : Fin 16) (i j : Fin 2048) :
    lastRows y g (ix3 n i j) = lastNormed (fun j => g (ix1 j)) (fun j => y (ix3 n i j)) j := by
  have e1 : lastRows y g (ix3 n i j) = y (ix3 n i j) * lastScales y (ix3 n i 0) * g (ix1 j) := by pointwise [lastRows]
  rw [e1, lastScales_apply]
  rfl

theorem result_apply (x : FVec Ideal S16x2048x2048 .f32) (f b cv a : FVec Ideal S16x2048x1024 .bf16) (gw gb : FVec Ideal S1024 .f32)
    (wr wa : FVec Ideal S1024x2048 .f32) (wo : FVec Ideal S2048x2048 .f32) (fg : FVec Ideal S2048 .f32) (r : Fin 32768)
    (j : Fin 2048) (n : Fin 16) (i : Fin 2048) (hn : n.val = r.val / 2048) (hi : i.val = r.val % 2048) :
    result p x f b cv a gw gb wr wa wo fg (ix2 r j)
      = entry (fun k => x (ix3 n i k)) (fun e => f (ix3 n i e)) (fun e => b (ix3 n i e)) (fun e => cv (ix3 n i e))
        (fun e => p (ix3 n i ⟨3072 + e.val, by omega⟩)) (fun e => a (ix3 n i e)) (fun e => p (ix3 n i ⟨5120 + e.val, by omega⟩))
        (fun k => p (ix3 n i ⟨6144 + k.val, by omega⟩)) (fun k => p (ix3 n i ⟨8192 + k.val, by omega⟩))
        (fun e => gw (ix1 e)) (fun e => gb (ix1 e)) (fun e k => wr (ix2 e k)) (fun e k => wa (ix2 e k))
        (fun k j => wo (ix2 k j)) (fun j => fg (ix1 j)) j := by
  have e1 : result p x f b cv a gw gb wr wa wo fg (ix2 r j)
      = lastRows (summedRows x (mergedRows p (branch (recurrences p f b cv gw gb) wr) (branch (attentions p a) wa)) wo) fg
        (ix3 ⟨r.val / 2048, by omega⟩ ⟨r.val % 2048, Nat.mod_lt _ (by decide)⟩ j) := by
    pointwise [result]
  rw [e1, show (⟨r.val / 2048, by omega⟩ : Fin 16) = n from Fin.ext hn.symm,
    show (⟨r.val % 2048, Nat.mod_lt _ (by decide)⟩ : Fin 2048) = i from Fin.ext hi.symm, lastRows_apply]
  refine congrArg (lastNormed _ · j) (funext fun j => ?_)
  rw [summedRows_apply]
  refine congrArg (x (ix3 n i j) + ·) (Finset.sum_congr rfl fun k _ => congrArg (· * wo (ix2 k j)) ?_)
  rw [mergedRows_apply, branch_apply, branch_apply]
  simp only [recurrences_apply, attentions_apply]
  rfl

end Cert.PostRef

end
-- ==== Proof.PostFinite.lean ====
module

public import proofs.«01_k».proof.Pre_recurrences_finite
public import proofs.«01_k».proof.Proof.ProjFinite

@[expose] public section

set_option maxRecDepth 16384

noncomputable section

/-! The condition on the merge's arguments, read over the extended reals. -/

namespace Cert.Post

open Idealize.ShloMosaic Cert.Pre_recurrences_finite

theorem pre_facts : Cert.Pre_recurrences_finite.Facts where
  bitsLt_bf16_f32 := by decide
  bcast_S_S16x2048x1024 := by decide

variable [Cert.Pre_recurrences_finite.Facts] (a0 : FVec Ideal S16x2048x2048 .f32) (a1 a2 a3 : FVec Ideal S16x2048x1024 .bf16)
  (a4 : FVec Ideal S16x2048x11264 .bf16) (a5 : FVec Ideal S16x2048x1024 .bf16) (a6 a7 : FVec Ideal S1024 .f32)
  (a8 a9 : FVec Ideal S1024x2048 .f32) (a10 : FVec Ideal S2048x2048 .f32) (a11 : FVec Ideal S2048 .f32)

theorem real_forward (h : (fn (F := Ideal) a0 a1 a2 a3 a4 a5 a6 a7 a8 a9 a10 a11).1 = fun _ => 1#1) (n : Fin 16) (i : Fin 2048)
    (e : Fin 1024) : ∃ r : ℝ, a1 (ix3 n i e) = (r : EReal) := by
  have hb := congrFun h (ix3 n i e)
  revert hb
  unfold fn
  pointwise []
  intro hb
  exact Cert.Attn.real_of_abs_lt _ (Cert.Proj.of_bool _ hb)

theorem real_backward (h : (fn (F := Ideal) a0 a1 a2 a3 a4 a5 a6 a7 a8 a9 a10 a11).2 = fun _ => 1#1) (n : Fin 16) (i : Fin 2048)
    (e : Fin 1024) : ∃ r : ℝ, a2 (ix3 n i e) = (r : EReal) := by
  have hb := congrFun h (ix3 n i e)
  revert hb
  unfold fn
  pointwise []
  intro hb
  exact Cert.Attn.real_of_abs_lt _ (Cert.Proj.of_bool _ hb)

theorem real_sums (h : (fn (F := Ideal) a0 a1 a2 a3 a4 a5 a6 a7 a8 a9 a10 a11).1 = (fun _ => 1#1)
      ∧ (fn (F := Ideal) a0 a1 a2 a3 a4 a5 a6 a7 a8 a9 a10 a11).2 = fun _ => 1#1) (n : Fin 16) (i : Fin 2048) (e : Fin 1024) :
    ∃ r : ℝ, a1 (ix3 n i e) + a2 (ix3 n i e) = (r : EReal) := by
  obtain ⟨u, hu⟩ := real_forward a0 a1 a2 a3 a4 a5 a6 a7 a8 a9 a10 a11 h.1 n i e
  obtain ⟨v, hv⟩ := real_backward a0 a1 a2 a3 a4 a5 a6 a7 a8 a9 a10 a11 h.2 n i e
  exact ⟨u + v, by rw [hu, hv, EReal.coe_add]⟩

end Cert.Post

end
-- ==== Proof.Post.lean ====
module

public import proofs.«01_k».proof.Defs
public import proofs.«01_k».proof.Proof.PostArrays
public import proofs.«01_k».proof.Proof.PostRef
public import proofs.«01_k».proof.Proof.PostFinite
public import Idealize.ShloMosaic.Lib.Quiescent

@[expose] public section

set_option maxRecDepth 16384

noncomputable section

/-! Kernel and reference give one merge. -/

namespace Cert.Post

open Idealize.ShloMosaic Idealize.SL.Sem Cert.Kernel3Ideal

theorem reference_run (m : (ℓ : Loc Cert.Reference3Ideal.nD Cert.Reference3Ideal.τ Cert.Reference3Ideal.sig) → Buf (Elt Ideal) ℓ)
    (ρ : Dev Cert.Reference3Ideal.nD → PrngReg) :
    θ_run (Cert.Reference3Ideal.defs (F := Ideal)) (onTc (τ := Cert.Reference3Ideal.τ) (Cert.Reference3Ideal.main (F := Ideal)))
      ⟨m, fun _ => 0, ρ⟩ (fun r => (∀ c : Dev Cert.Reference3Ideal.nD,
        r.2.mem ((c.tc : Thread Cert.Reference3Ideal.nD Cert.Reference3Ideal.τ).loc Cert.Reference3Ideal.main_arg0)
          = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1)
          = m ((c.tc : Thread Cert.Reference3Ideal.nD Cert.Reference3Ideal.τ).loc Cert.Reference3Ideal.main_arg1)
        ∧ r.2.mem ((c.tc : Thread Cert.Reference3Ideal.nD Cert.Reference3Ideal.τ).loc Cert.Reference3Ideal.main_arg2)
          = m ((c.tc : Thread Cert.Reference3Ideal.nD Cert.Reference3Ideal.τ).loc Cert.Reference3Ideal.main_arg2)
        ∧ r.2.mem ((c.tc : Thread Cert.Reference3Ideal.nD Cert.Reference3Ideal.τ).loc Cert.Reference3Ideal.main_arg3)
          = m ((c.tc : Thread Cert.Reference3Ideal.nD Cert.Reference3Ideal.τ).loc Cert.Reference3Ideal.main_arg3)
        ∧ r.2.mem ((c.tc : Thread Cert.Reference3Ideal.nD Cert.Reference3Ideal.τ).loc Cert.Reference3Ideal.main_arg4)
          = m ((c.tc : Thread Cert.Reference3Ideal.nD Cert.Reference3Ideal.τ).loc Cert.Reference3Ideal.main_arg4)
        ∧ r.2.mem ((c.tc : Thread Cert.Reference3Ideal.nD Cert.Reference3Ideal.τ).loc Cert.Reference3Ideal.main_arg5)
          = m ((c.tc : Thread Cert.Reference3Ideal.nD Cert.Reference3Ideal.τ).loc Cert.Reference3Ideal.main_arg5)
        ∧ r.2.mem ((c.tc : Thread Cert.Reference3Ideal.nD Cert.Reference3Ideal.τ).loc Cert.Reference3Ideal.main_arg6)
          = m ((c.tc : Thread Cert.Reference3Ideal.nD Cert.Reference3Ideal.τ).loc Cert.Reference3Ideal.main_arg6)
        ∧ r.2.mem ((c.tc : Thread Cert.Reference3Ideal.nD Cert.Reference3Ideal.τ).loc Cert.Reference3Ideal.main_arg7)
          = m ((c.tc : Thread Cert.Reference3Ideal.nD Cert.Reference3Ideal.τ).loc Cert.Reference3Ideal.main_arg7)
        ∧ r.2.mem ((c.tc : Thread Cert.Reference3Ideal.nD Cert.Reference3Ideal.τ).loc Cert.Reference3Ideal.main_arg8)
          = m ((c.tc : Thread Cert.Reference3Ideal.nD Cert.Reference3Ideal.τ).loc Cert.Reference3Ideal.main_arg8)
        ∧ r.2.mem ((c.tc : Thread Cert.Reference3Ideal.nD Cert.Reference3Ideal.τ).loc Cert.Reference3Ideal.main_arg9)
          = m ((c.tc : Thread Cert.Reference3Ideal.nD Cert.Reference3Ideal.τ).loc Cert.Reference3Ideal.main_arg9)
        ∧ r.2.mem ((c.tc : Thread Cert.Reference3Ideal.nD Cert.Reference3Ideal.τ).loc Cert.Reference3Ideal.main_arg10)
          = m ((c.tc : Thread Cert.Reference3Ideal.nD Cert.Reference3Ideal.τ).loc Cert.Reference3Ideal.main_arg10)
        ∧ r.2.mem ((c.tc : Thread Cert.Reference3Ideal.nD Cert.Reference3Ideal.τ).loc Cert.Reference3Ideal.main_arg11)
          = m ((c.tc : Thread Cert.Reference3Ideal.nD Cert.Reference3Ideal.τ).loc Cert.Reference3Ideal.main_arg11))
        ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m ρ)

instance pre : Cert.Pre_recurrences_finite.Facts := pre_facts

variable (m : (ℓ : Loc nD τ sig) → Buf (Elt Ideal) ℓ) (c : Dev nD)

theorem reference_all : PostRef.result (projArr m c) (xArr m c) (fArr m c) (bArr m c) (cvArr m c) (attArr m c) (gwArr m c)
      (gbArr m c) (wrArr m c) (waArr m c) (woArr m c) (fgArr m c) = resultArr m c := by
  refine funext fun (y : S32768x2048.Idx) => ?_
  exact (congrArg _ (pair_ext (v := ix2 (y 0) (y 1)) rfl rfl)).trans
    (PostRef.result_apply (projArr m c) (xArr m c) (fArr m c) (bArr m c) (cvArr m c) (attArr m c) (gwArr m c) (gbArr m c)
      (wrArr m c) (waArr m c) (woArr m c) (fgArr m c) (y 0) (y 1) (batch (y 0)) (place (y 0)) rfl rfl)

theorem merge : algebraic_Kernel3Ideal_Reference3Ideal_pre_recurrences_finite := by
  intro m ρ m' ρ' hpre hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  have hr : RealSums m c := real_sums _ _ _ _ _ _ _ _ _ _ _ _ (hpre c)
  obtain ⟨a0, a1, a2, a3, a4, a5, a6, a7, a8, a9, a10, a11⟩ := hagree c
  refine (h c).1.trans ((PostRef.result_eq m' c).trans ?_)
  rw [a0, a1, a2, a3, a4, a5, a6, a7, a8, a9, a10, a11]
  exact (reference_all m c).trans (result_array m c hr).symm

end Cert.Post

end
-- ==== Proof.lean ====
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Attend
public import proofs.«01_k».proof.Proof.Project
public import proofs.«01_k».proof.Proof.Post
public import proofs.«01_k».proof.Proof.Finite
public import Idealize.ShloMosaic.Lib.Quiescent

@[expose] public section

set_option maxRecDepth 16384

noncomputable section

/-! The claims: the runs of the programs, the equality of the two attentions, of the two projections and of the two
merges. -/

namespace Cert.Proof

open Idealize.ShloMosaic Idealize.SL.Sem Cert.Attn

theorem columns_split (y : (⟨3, ![16, 2048, 1024]⟩ : Shape).Idx) : ∃ (b : Fin 16) (i : Fin 2048) (h : Fin 16) (d : Fin 64),
    y = ix3 b i ⟨64 * h.val + d.val, by omega⟩ := by
  have h2 : (y 2).val < 1024 := (y 2).isLt
  refine ⟨y 0, y 1, ⟨(y 2).val / 64, by omega⟩, ⟨(y 2).val % 64, by omega⟩, funext fun x => Fin.ext ?_⟩
  match x with
  | 0 => rfl
  | 1 => rfl
  | 2 => show (y 2).val = 64 * ((y 2).val / 64) + (y 2).val % 64; omega

theorem reference_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

instance pre : Cert.Pre_queries_and_keys_finite.Facts := pre_facts

theorem attention : algebraic_KernelIdeal_ReferenceIdeal_pre_queries_and_keys_finite := by
  intro m ρ m' ρ' hpre hagree
  refine ⟨_, Cert.KernelIdeal.Value.run (F := Ideal) m ρ, ?_⟩
  refine (θ_run Cert.ReferenceIdeal.defs _ _).mono (fun _ h c => ⟨?_, (h c).2⟩)
    (Cert.ReferenceIdeal.Value.run (F := Ideal) m' ρ')
  have ha : RealColumns (proj m c) := fun b i e he => real_of_fn (proj m c) (hpre c) b i e he
  refine (h c).1.trans ((AttnRef.result_eq m' c).trans ?_)
  rw [hagree c]
  funext y
  obtain ⟨b, i, h, d, rfl⟩ := columns_split y
  exact (reference_attended (proj m c) ha b i h d).trans (kernel_attended m c ha b i h d).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  pre_facts, Cert.Proj.pre_facts, Cert.Post.pre_facts,
  fun m ρ _ => Cert.Kernel.Gen.frame m ρ, fun m ρ _ => Cert.KernelIdeal.Gen.frame m ρ,
  fun m ρ _ => Cert.KernelIdeal.Gen.frame m ρ, fun m ρ _ => reference_run m ρ, fun m ρ _ => reference_run m ρ,
  fun m ρ _ => Cert.Kernel2.Gen.frame m ρ, fun m ρ _ => Cert.Kernel2Ideal.Gen.frame m ρ,
  fun m ρ _ => Cert.Kernel2Ideal.Gen.frame m ρ, fun m ρ _ => Cert.Proj.reference_run m ρ,
  fun m ρ _ => Cert.Proj.reference_run m ρ,
  fun m ρ _ => Cert.Kernel3.Gen.frame m ρ, fun m ρ _ => Cert.Kernel3Ideal.Gen.frame m ρ,
  fun m ρ _ => Cert.Kernel3Ideal.Gen.frame m ρ, fun m ρ _ => Cert.Post.reference_run m ρ,
  fun m ρ _ => Cert.Post.reference_run m ρ,
  IdealRules.named_const.statement Cert.KernelIdeal.κ _ _ _ _ rfl, attention, trivial, Cert.Proj.projection,
  trivial, Cert.Post.merge⟩

end Cert.Proof

end
